-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_tied_draw [hPre_no_tied_draw : Cert.Pre_no_tied_draw.Facts] (m : (ℓ : Loc Cert.KernelIdeal.nD Cert.KernelIdeal.τ Cert.KernelIdeal.sig) → Buf (Elt Ideal) ℓ) : Prop :=
  ∀ c : Dev Cert.KernelIdeal.nD,
    (Cert.Pre_no_tied_draw.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tied_draw [hPre_no_tied_draw : Cert.Pre_no_tied_draw.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tied_draw.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_no_tied_draw [hKernelIdeal : Cert.KernelIdeal.Facts] [hPre_no_tied_draw : Cert.Pre_no_tied_draw.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_tied_draw m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_no_tied_draw [hReferenceIdeal : Cert.ReferenceIdeal.Facts] [hPre_no_tied_draw : Cert.Pre_no_tied_draw.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tied_draw m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_no_tied_draw [hKernelIdeal : Cert.KernelIdeal.Facts] [hReferenceIdeal : Cert.ReferenceIdeal.Facts] [hPre_no_tied_draw : Cert.Pre_no_tied_draw.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_tied_draw m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v508) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_no_tied_draw : Cert.Pre_no_tied_draw.Facts),
    quiescent_Kernel (hKernel := hKernel)
    ∧ quiescent_KernelIdeal (hKernelIdeal := hKernelIdeal)
    ∧ quiescent_KernelIdeal_pre_no_tied_draw (hKernelIdeal := hKernelIdeal) (hPre_no_tied_draw := hPre_no_tied_draw)
    ∧ quiescent_ReferenceIdeal (hReferenceIdeal := hReferenceIdeal)
    ∧ quiescent_ReferenceIdeal_pre_no_tied_draw (hReferenceIdeal := hReferenceIdeal) (hPre_no_tied_draw := hPre_no_tied_draw)
    ∧ preserves_Kernel_KernelIdeal
    ∧ algebraic_KernelIdeal_ReferenceIdeal_pre_no_tied_draw (hKernelIdeal := hKernelIdeal) (hReferenceIdeal := hReferenceIdeal) (hPre_no_tied_draw := hPre_no_tied_draw)
-- ==== Pre_no_tied_draw.lean ====
abbrev S4x96x224x224 : Shape := ⟨4, ![4, 96, 224, 224]⟩
abbrev S196x96 : Shape := ⟨2, ![196, 96]⟩
abbrev S96x96 : Shape := ⟨2, ![96, 96]⟩
abbrev S4x96x50176 : Shape := ⟨3, ![4, 96, 50176]⟩
abbrev S4x50176x96 : Shape := ⟨3, ![4, 50176, 96]⟩
abbrev S96x196 : Shape := ⟨2, ![96, 196]⟩
abbrev S4x50176x196 : Shape := ⟨3, ![4, 50176, 196]⟩
abbrev S_ : Shape := ⟨0, ![]⟩
abbrev S4x50176 : Shape := ⟨2, ![4, 50176]⟩
abbrev S4x50176x1 : Shape := ⟨3, ![4, 50176, 1]⟩
abbrev S200704x196 : Shape := ⟨2, ![200704, 196]⟩
abbrev S4 : Shape := ⟨1, ![4]⟩
abbrev S4x200704x196 : Shape := ⟨3, ![4, 200704, 196]⟩
abbrev S1x200704x196 : Shape := ⟨3, ![1, 200704, 196]⟩
abbrev S4x200704 : Shape := ⟨2, ![4, 200704]⟩
abbrev S4x200704x1 : Shape := ⟨3, ![4, 200704, 1]⟩

class Facts : Prop where
  shapeCasts_S4x96x224x224_S4x96x50176 : S4x96x224x224.ShapeCasts S4x96x50176
  transposes_S4x96x50176_S4x50176x96_0_2_1 : S4x96x50176.Transposes [0, 2, 1] S4x50176x96
  transposes_S196x96_S96x196_1_0 : S196x96.Transposes [1, 0] S96x196
  bcast_S_S4x50176x196 : S_.BroadcastsInDim S4x50176x196 (![] : Fin 0 → Fin S4x50176x196.rank)
  reducesTo_S4x50176x196_S4x50176_d2 : S4x50176x196.ReducesTo [2] S4x50176
  h_S_ : 0 < S_.numel
  bcast_S_S4x50176 : S_.BroadcastsInDim S4x50176 (![] : Fin 0 → Fin S4x50176.rank)
  bcast_S4x50176_S4x50176x1_0_1 : S4x50176.BroadcastsInDim S4x50176x1 (![0, 1] : Fin 2 → Fin S4x50176x1.rank)
  bcast_S4x50176x1_S4x50176x196_0_1_2 : S4x50176x1.BroadcastsInDim S4x50176x196 (![0, 1, 2] : Fin 3 → Fin S4x50176x196.rank)
  shapeCasts_S4x50176x196_S200704x196 : S4x50176x196.ShapeCasts S200704x196
  bcast_S_S200704x196 : S_.BroadcastsInDim S200704x196 (![] : Fin 0 → Fin S200704x196.rank)
  bcast_S_S4 : S_.BroadcastsInDim S4 (![] : Fin 0 → Fin S4.rank)
  bcast_S_S4x200704x196 : S_.BroadcastsInDim S4x200704x196 (![] : Fin 0 → Fin S4x200704x196.rank)
  bcast_S4_S4x200704x196_0 : S4.BroadcastsInDim S4x200704x196 (![0] : Fin 1 → Fin S4x200704x196.rank)
  bcast_S200704x196_S1x200704x196_1_2 : S200704x196.BroadcastsInDim S1x200704x196 (![1, 2] : Fin 2 → Fin S1x200704x196.rank)
  bcast_S1x200704x196_S4x200704x196_0_1_2 : S1x200704x196.BroadcastsInDim S4x200704x196 (![0, 1, 2] : Fin 3 → Fin S4x200704x196.rank)
  reducesTo_S4x200704x196_S4x200704_d2 : S4x200704x196.ReducesTo [2] S4x200704
  bcast_S4x200704_S4x200704x1_0_1 : S4x200704.BroadcastsInDim S4x200704x1 (![0, 1] : Fin 2 → Fin S4x200704x1.rank)
  bcast_S4x200704x1_S4x200704x196_0_1_2 : S4x200704x1.BroadcastsInDim S4x200704x196 (![0, 1, 2] : Fin 3 → Fin S4x200704x196.rank)
  natLt_1_32 : 1 < 32
  bcast_S_S4x200704 : S_.BroadcastsInDim S4x200704 (![] : Fin 0 → Fin S4x200704.rank)
  reducesTo_S4x200704_S_d0_1 : S4x200704.ReducesTo [0, 1] S_
  dot_S4x50176x96_S96x196_S4x50176x196_2_0_01_1_n_n_wf : DotDims.WF S4x50176x96 S96x196 S4x50176x196 [2] [0] [0, 1] [1] [] []

variable [Facts]

def dot_S4x50176x96_S96x196_S4x50176x196_2_0_01_1_n_n : DotDims S4x50176x96 S96x196 S4x50176x196 where
  lhsContracting := [2]
  rhsContracting := [0]
  lhsNonContracting := [0, 1]
  rhsNonContracting := [1]
  lhsBatch := []
  rhsBatch := []
  wf := dot_S4x50176x96_S96x196_S4x50176x196_2_0_01_1_n_n_wf
def fn_part21 {F : FTy → Type} [FloatOps F] (main_v387 : FVec F S4x200704x196 .f32) (main_v389 : FVec F S4x200704x196 .f32) : IVec S_ 1 :=
  let main_v390 : FVec F S4x200704x196 .f32 := addf main_v387 main_v389
  let main_cst_112 : FVec F S_ .f32 := constant S_ .f32 0xFF800000#32
  let main_v391 : FVec F S4x200704 .f32 := (fun x v => Host.reduce FloatOps.maximumf x v reducesTo_S4x200704x196_S4x200704_d2 h_S_) main_v390 main_cst_112
  let main_v392 : FVec F S4x200704x1 .f32 := broadcastInDim S4x200704x1 ![0, 1] bcast_S4x200704_S4x200704x1_0_1 main_v391
  let main_v393 : FVec F S4x200704x196 .f32 := broadcastInDim S4x200704x196 ![0, 1, 2] bcast_S4x200704x1_S4x200704x196_0_1_2 main_v392
  let main_v394 : IVec S4x200704x196 1 := cmpf .oeq main_v390 main_v393
  let main_v395 : IVec S4x200704x196 32 := (extui 32 · natLt_1_32) main_v394
  let main_c_113 : IVec S_ 32 := constantI S_ 32 0#32
  let main_v396 : IVec S4x200704 32 := (fun x v => Host.reduce IntOp.addi x v reducesTo_S4x200704x196_S4x200704_d2 h_S_) main_v395 main_c_113
  let main_c_114 : IVec S_ 32 := constantI S_ 32 1#32
  let main_v397 : IVec S4x200704 32 := broadcastInDim S4x200704 ![] bcast_S_S4x200704 main_c_114
  let main_v398 : IVec S4x200704 1 := cmpi .eq main_v396 main_v397
  let main_c_115 : IVec S_ 1 := constantI S_ 1 1#1
  let main_v399 : IVec S_ 1 := (fun x v => Host.reduce IntOp.andi x v reducesTo_S4x200704_S_d0_1 h_S_) main_v398 main_c_115
  main_v399

def fn_part20 {F : FTy → Type} [FloatOps F] (main_v21 : FVec F S200704x196 .f32) (main_v206 : IVec S4x200704x196 32) (main_v369 : IVec S4x200704x196 32) (main_v370 : IVec S4x200704x196 32) : IVec S_ 1 :=
  let main_v371 : IVec S4x200704x196 32 := addi main_v369 main_v206
  let main_c_107 : IVec S_ 32 := constantI S_ 32 5#32
  let main_v372 : IVec S4x200704x196 32 := broadcastInDim S4x200704x196 ![] bcast_S_S4x200704x196 main_c_107
  let main_v373 : IVec S4x200704x196 32 := addi main_v371 main_v372
  let main_v374 : IVec S4x200704x196 32 := xori main_v370 main_v373
  let main_c_108 : IVec S_ 32 := constantI S_ 32 9#32
  let main_v375 : IVec S4x200704x196 32 := broadcastInDim S4x200704x196 ![] bcast_S_S4x200704x196 main_c_108
  let main_v376 : IVec S4x200704x196 32 := Host.shrui main_v374 main_v375
  let main_c_109 : IVec S_ 32 := constantI S_ 32 1065353216#32
  let main_v377 : IVec S4x200704x196 32 := broadcastInDim S4x200704x196 ![] bcast_S_S4x200704x196 main_c_109
  let main_v378 : IVec S4x200704x196 32 := ori main_v376 main_v377
  let main_v379 : FVec F S4x200704x196 .f32 := bitcastToFloat .f32 main_v378
  let main_cst_110 : FVec F S_ .f32 := constant S_ .f32 0x3F800000#32
  let main_v380 : FVec F S4x200704x196 .f32 := broadcastInDim S4x200704x196 ![] bcast_S_S4x200704x196 main_cst_110
  let main_v381 : FVec F S4x200704x196 .f32 := subf main_v379 main_v380
  let main_cst_111 : FVec F S_ .f32 := constant S_ .f32 0x00800000#32
  let main_v382 : FVec F S4x200704x196 .f32 := broadcastInDim S4x200704x196 ![] bcast_S_S4x200704x196 main_cst_111
  let main_v383 : FVec F S4x200704x196 .f32 := maximumf main_v381 main_v382
  let main_v384 : FVec F S4x200704x196 .f32 := Host.log main_v383
  let main_v385 : FVec F S4x200704x196 .f32 := Host.negf main_v384
  let main_v386 : FVec F S4x200704x196 .f32 := Host.log main_v385
  let main_v387 : FVec F S4x200704x196 .f32 := Host.negf main_v386
  let main_v388 : FVec F S1x200704x196 .f32 := broadcastInDim S1x200704x196 ![1, 2] bcast_S200704x196_S1x200704x196_1_2 main_v21
  let main_v389 : FVec F S4x200704x196 .f32 := broadcastInDim S4x200704x196 ![0, 1, 2] bcast_S1x200704x196_S4x200704x196_0_1_2 main_v388
  fn_part21 (F := F) main_v387 main_v389

def fn_part19 {F : FTy → Type} [FloatOps F] (main_v21 : FVec F S200704x196 .f32) (main_v206 : IVec S4x200704x196 32) (main_v211 : IVec S4x200704x196 32) (main_v348 : IVec S4x200704x196 32) (main_v349 : IVec S4x200704x196 32) (main_v351 : IVec S4x200704x196 32) : IVec S_ 1 :=
  let main_c_102 : IVec S_ 32 := constantI S_ 32 17#32
  let main_v352 : IVec S4x200704x196 32 := broadcastInDim S4x200704x196 ![] bcast_S_S4x200704x196 main_c_102
  let main_v353 : IVec S4x200704x196 32 := Host.shrui main_v348 main_v352
  let main_v354 : IVec S4x200704x196 32 := ori main_v351 main_v353
  let main_v355 : IVec S4x200704x196 32 := xori main_v349 main_v354
  let main_v356 : IVec S4x200704x196 32 := addi main_v349 main_v355
  let main_c_103 : IVec S_ 32 := constantI S_ 32 26#32
  let main_v357 : IVec S4x200704x196 32 := broadcastInDim S4x200704x196 ![] bcast_S_S4x200704x196 main_c_103
  let main_v358 : IVec S4x200704x196 32 := Host.shli main_v355 main_v357
  let main_c_104 : IVec S_ 32 := constantI S_ 32 6#32
  let main_v359 : IVec S4x200704x196 32 := broadcastInDim S4x200704x196 ![] bcast_S_S4x200704x196 main_c_104
  let main_v360 : IVec S4x200704x196 32 := Host.shrui main_v355 main_v359
  let main_v361 : IVec S4x200704x196 32 := ori main_v358 main_v360
  let main_v362 : IVec S4x200704x196 32 := xori main_v356 main_v361
  let main_v363 : IVec S4x200704x196 32 := addi main_v356 main_v362
  let main_c_105 : IVec S_ 32 := constantI S_ 32 6#32
  let main_v364 : IVec S4x200704x196 32 := broadcastInDim S4x200704x196 ![] bcast_S_S4x200704x196 main_c_105
  let main_v365 : IVec S4x200704x196 32 := Host.shli main_v362 main_v364
  let main_c_106 : IVec S_ 32 := constantI S_ 32 26#32
  let main_v366 : IVec S4x200704x196 32 := broadcastInDim S4x200704x196 ![] bcast_S_S4x200704x196 main_c_106
  let main_v367 : IVec S4x200704x196 32 := Host.shrui main_v362 main_v366
  let main_v368 : IVec S4x200704x196 32 := ori main_v365 main_v367
  let main_v369 : IVec S4x200704x196 32 := xori main_v363 main_v368
  let main_v370 : IVec S4x200704x196 32 := addi main_v363 main_v211
  fn_part20 (F := F) main_v21 main_v206 main_v369 main_v370

def fn_part18 {F : FTy → Type} [FloatOps F] (main_v21 : FVec F S200704x196 .f32) (main_v206 : IVec S4x200704x196 32) (main_v207 : IVec S4x200704x196 32) (main_v211 : IVec S4x200704x196 32) (main_v330 : IVec S4x200704x196 32) (main_v331 : IVec S4x200704x196 32) (main_v332 : IVec S4x200704x196 32) : IVec S_ 1 :=
  let main_v333 : IVec S4x200704x196 32 := Host.shli main_v330 main_v332
  let main_c_97 : IVec S_ 32 := constantI S_ 32 8#32
  let main_v334 : IVec S4x200704x196 32 := broadcastInDim S4x200704x196 ![] bcast_S_S4x200704x196 main_c_97
  let main_v335 : IVec S4x200704x196 32 := Host.shrui main_v330 main_v334
  let main_v336 : IVec S4x200704x196 32 := ori main_v333 main_v335
  let main_v337 : IVec S4x200704x196 32 := xori main_v331 main_v336
  let main_v338 : IVec S4x200704x196 32 := addi main_v331 main_v207
  let main_v339 : IVec S4x200704x196 32 := addi main_v337 main_v211
  let main_c_98 : IVec S_ 32 := constantI S_ 32 4#32
  let main_v340 : IVec S4x200704x196 32 := broadcastInDim S4x200704x196 ![] bcast_S_S4x200704x196 main_c_98
  let main_v341 : IVec S4x200704x196 32 := addi main_v339 main_v340
  let main_v342 : IVec S4x200704x196 32 := addi main_v338 main_v341
  let main_c_99 : IVec S_ 32 := constantI S_ 32 13#32
  let main_v343 : IVec S4x200704x196 32 := broadcastInDim S4x200704x196 ![] bcast_S_S4x200704x196 main_c_99
  let main_v344 : IVec S4x200704x196 32 := Host.shli main_v341 main_v343
  let main_c_100 : IVec S_ 32 := constantI S_ 32 19#32
  let main_v345 : IVec S4x200704x196 32 := broadcastInDim S4x200704x196 ![] bcast_S_S4x200704x196 main_c_100
  let main_v346 : IVec S4x200704x196 32 := Host.shrui main_v341 main_v345
  let main_v347 : IVec S4x200704x196 32 := ori main_v344 main_v346
  let main_v348 : IVec S4x200704x196 32 := xori main_v342 main_v347
  let main_v349 : IVec S4x200704x196 32 := addi main_v342 main_v348
  let main_c_101 : IVec S_ 32 := constantI S_ 32 15#32
  let main_v350 : IVec S4x200704x196 32 := broadcastInDim S4x200704x196 ![] bcast_S_S4x200704x196 main_c_101
  let main_v351 : IVec S4x200704x196 32 := Host.shli main_v348 main_v350
  fn_part19 (F := F) main_v21 main_v206 main_v211 main_v348 main_v349 main_v351

def fn_part17 {F : FTy → Type} [FloatOps F] (main_v21 : FVec F S200704x196 .f32) (main_v206 : IVec S4x200704x196 32) (main_v207 : IVec S4x200704x196 32) (main_v211 : IVec S4x200704x196 32) (main_v309 : IVec S4x200704x196 32) (main_v310 : IVec S4x200704x196 32) (main_v312 : IVec S4x200704x196 32) (main_v313 : IVec S4x200704x196 32) : IVec S_ 1 :=
  let main_v314 : IVec S4x200704x196 32 := Host.shrui main_v309 main_v313
  let main_v315 : IVec S4x200704x196 32 := ori main_v312 main_v314
  let main_v316 : IVec S4x200704x196 32 := xori main_v310 main_v315
  let main_v317 : IVec S4x200704x196 32 := addi main_v310 main_v316
  let main_c_92 : IVec S_ 32 := constantI S_ 32 29#32
  let main_v318 : IVec S4x200704x196 32 := broadcastInDim S4x200704x196 ![] bcast_S_S4x200704x196 main_c_92
  let main_v319 : IVec S4x200704x196 32 := Host.shli main_v316 main_v318
  let main_c_93 : IVec S_ 32 := constantI S_ 32 3#32
  let main_v320 : IVec S4x200704x196 32 := broadcastInDim S4x200704x196 ![] bcast_S_S4x200704x196 main_c_93
  let main_v321 : IVec S4x200704x196 32 := Host.shrui main_v316 main_v320
  let main_v322 : IVec S4x200704x196 32 := ori main_v319 main_v321
  let main_v323 : IVec S4x200704x196 32 := xori main_v317 main_v322
  let main_v324 : IVec S4x200704x196 32 := addi main_v317 main_v323
  let main_c_94 : IVec S_ 32 := constantI S_ 32 16#32
  let main_v325 : IVec S4x200704x196 32 := broadcastInDim S4x200704x196 ![] bcast_S_S4x200704x196 main_c_94
  let main_v326 : IVec S4x200704x196 32 := Host.shli main_v323 main_v325
  let main_c_95 : IVec S_ 32 := constantI S_ 32 16#32
  let main_v327 : IVec S4x200704x196 32 := broadcastInDim S4x200704x196 ![] bcast_S_S4x200704x196 main_c_95
  let main_v328 : IVec S4x200704x196 32 := Host.shrui main_v323 main_v327
  let main_v329 : IVec S4x200704x196 32 := ori main_v326 main_v328
  let main_v330 : IVec S4x200704x196 32 := xori main_v324 main_v329
  let main_v331 : IVec S4x200704x196 32 := addi main_v324 main_v330
  let main_c_96 : IVec S_ 32 := constantI S_ 32 24#32
  let main_v332 : IVec S4x200704x196 32 := broadcastInDim S4x200704x196 ![] bcast_S_S4x200704x196 main_c_96
  fn_part18 (F := F) main_v21 main_v206 main_v207 main_v211 main_v330 main_v331 main_v332

def fn_part16 {F : FTy → Type} [FloatOps F] (main_v21 : FVec F S200704x196 .f32) (main_v206 : IVec S4x200704x196 32) (main_v207 : IVec S4x200704x196 32) (main_v211 : IVec S4x200704x196 32) (main_v291 : IVec S4x200704x196 32) (main_v292 : IVec S4x200704x196 32) (main_v294 : IVec S4x200704x196 32) (main_c_86 : IVec S_ 32) : IVec S_ 1 :=
  let main_v295 : IVec S4x200704x196 32 := broadcastInDim S4x200704x196 ![] bcast_S_S4x200704x196 main_c_86
  let main_v296 : IVec S4x200704x196 32 := Host.shrui main_v291 main_v295
  let main_v297 : IVec S4x200704x196 32 := ori main_v294 main_v296
  let main_v298 : IVec S4x200704x196 32 := xori main_v292 main_v297
  let main_v299 : IVec S4x200704x196 32 := addi main_v292 main_v298
  let main_c_87 : IVec S_ 32 := constantI S_ 32 6#32
  let main_v300 : IVec S4x200704x196 32 := broadcastInDim S4x200704x196 ![] bcast_S_S4x200704x196 main_c_87
  let main_v301 : IVec S4x200704x196 32 := Host.shli main_v298 main_v300
  let main_c_88 : IVec S_ 32 := constantI S_ 32 26#32
  let main_v302 : IVec S4x200704x196 32 := broadcastInDim S4x200704x196 ![] bcast_S_S4x200704x196 main_c_88
  let main_v303 : IVec S4x200704x196 32 := Host.shrui main_v298 main_v302
  let main_v304 : IVec S4x200704x196 32 := ori main_v301 main_v303
  let main_v305 : IVec S4x200704x196 32 := xori main_v299 main_v304
  let main_v306 : IVec S4x200704x196 32 := addi main_v299 main_v206
  let main_v307 : IVec S4x200704x196 32 := addi main_v305 main_v207
  let main_c_89 : IVec S_ 32 := constantI S_ 32 3#32
  let main_v308 : IVec S4x200704x196 32 := broadcastInDim S4x200704x196 ![] bcast_S_S4x200704x196 main_c_89
  let main_v309 : IVec S4x200704x196 32 := addi main_v307 main_v308
  let main_v310 : IVec S4x200704x196 32 := addi main_v306 main_v309
  let main_c_90 : IVec S_ 32 := constantI S_ 32 17#32
  let main_v311 : IVec S4x200704x196 32 := broadcastInDim S4x200704x196 ![] bcast_S_S4x200704x196 main_c_90
  let main_v312 : IVec S4x200704x196 32 := Host.shli main_v309 main_v311
  let main_c_91 : IVec S_ 32 := constantI S_ 32 15#32
  let main_v313 : IVec S4x200704x196 32 := broadcastInDim S4x200704x196 ![] bcast_S_S4x200704x196 main_c_91
  fn_part17 (F := F) main_v21 main_v206 main_v207 main_v211 main_v309 main_v310 main_v312 main_v313

def fn_part15 {F : FTy → Type} [FloatOps F] (main_v21 : FVec F S200704x196 .f32) (main_v206 : IVec S4x200704x196 32) (main_v207 : IVec S4x200704x196 32) (main_v211 : IVec S4x200704x196 32) (main_v274 : IVec S4x200704x196 32) (main_v275 : IVec S4x200704x196 32) (main_v276 : IVec S4x200704x196 32) : IVec S_ 1 :=
  let main_v277 : IVec S4x200704x196 32 := addi main_v275 main_v276
  let main_v278 : IVec S4x200704x196 32 := addi main_v274 main_v277
  let main_c_81 : IVec S_ 32 := constantI S_ 32 13#32
  let main_v279 : IVec S4x200704x196 32 := broadcastInDim S4x200704x196 ![] bcast_S_S4x200704x196 main_c_81
  let main_v280 : IVec S4x200704x196 32 := Host.shli main_v277 main_v279
  let main_c_82 : IVec S_ 32 := constantI S_ 32 19#32
  let main_v281 : IVec S4x200704x196 32 := broadcastInDim S4x200704x196 ![] bcast_S_S4x200704x196 main_c_82
  let main_v282 : IVec S4x200704x196 32 := Host.shrui main_v277 main_v281
  let main_v283 : IVec S4x200704x196 32 := ori main_v280 main_v282
  let main_v284 : IVec S4x200704x196 32 := xori main_v278 main_v283
  let main_v285 : IVec S4x200704x196 32 := addi main_v278 main_v284
  let main_c_83 : IVec S_ 32 := constantI S_ 32 15#32
  let main_v286 : IVec S4x200704x196 32 := broadcastInDim S4x200704x196 ![] bcast_S_S4x200704x196 main_c_83
  let main_v287 : IVec S4x200704x196 32 := Host.shli main_v284 main_v286
  let main_c_84 : IVec S_ 32 := constantI S_ 32 17#32
  let main_v288 : IVec S4x200704x196 32 := broadcastInDim S4x200704x196 ![] bcast_S_S4x200704x196 main_c_84
  let main_v289 : IVec S4x200704x196 32 := Host.shrui main_v284 main_v288
  let main_v290 : IVec S4x200704x196 32 := ori main_v287 main_v289
  let main_v291 : IVec S4x200704x196 32 := xori main_v285 main_v290
  let main_v292 : IVec S4x200704x196 32 := addi main_v285 main_v291
  let main_c_85 : IVec S_ 32 := constantI S_ 32 26#32
  let main_v293 : IVec S4x200704x196 32 := broadcastInDim S4x200704x196 ![] bcast_S_S4x200704x196 main_c_85
  let main_v294 : IVec S4x200704x196 32 := Host.shli main_v291 main_v293
  let main_c_86 : IVec S_ 32 := constantI S_ 32 6#32
  fn_part16 (F := F) main_v21 main_v206 main_v207 main_v211 main_v291 main_v292 main_v294 main_c_86

def fn_part14 {F : FTy → Type} [FloatOps F] (main_v21 : FVec F S200704x196 .f32) (main_v206 : IVec S4x200704x196 32) (main_v207 : IVec S4x200704x196 32) (main_v211 : IVec S4x200704x196 32) (main_v253 : IVec S4x200704x196 32) (main_v255 : IVec S4x200704x196 32) (main_v257 : IVec S4x200704x196 32) : IVec S_ 1 :=
  let main_v258 : IVec S4x200704x196 32 := ori main_v255 main_v257
  let main_v259 : IVec S4x200704x196 32 := xori main_v253 main_v258
  let main_v260 : IVec S4x200704x196 32 := addi main_v253 main_v259
  let main_c_76 : IVec S_ 32 := constantI S_ 32 16#32
  let main_v261 : IVec S4x200704x196 32 := broadcastInDim S4x200704x196 ![] bcast_S_S4x200704x196 main_c_76
  let main_v262 : IVec S4x200704x196 32 := Host.shli main_v259 main_v261
  let main_c_77 : IVec S_ 32 := constantI S_ 32 16#32
  let main_v263 : IVec S4x200704x196 32 := broadcastInDim S4x200704x196 ![] bcast_S_S4x200704x196 main_c_77
  let main_v264 : IVec S4x200704x196 32 := Host.shrui main_v259 main_v263
  let main_v265 : IVec S4x200704x196 32 := ori main_v262 main_v264
  let main_v266 : IVec S4x200704x196 32 := xori main_v260 main_v265
  let main_v267 : IVec S4x200704x196 32 := addi main_v260 main_v266
  let main_c_78 : IVec S_ 32 := constantI S_ 32 24#32
  let main_v268 : IVec S4x200704x196 32 := broadcastInDim S4x200704x196 ![] bcast_S_S4x200704x196 main_c_78
  let main_v269 : IVec S4x200704x196 32 := Host.shli main_v266 main_v268
  let main_c_79 : IVec S_ 32 := constantI S_ 32 8#32
  let main_v270 : IVec S4x200704x196 32 := broadcastInDim S4x200704x196 ![] bcast_S_S4x200704x196 main_c_79
  let main_v271 : IVec S4x200704x196 32 := Host.shrui main_v266 main_v270
  let main_v272 : IVec S4x200704x196 32 := ori main_v269 main_v271
  let main_v273 : IVec S4x200704x196 32 := xori main_v267 main_v272
  let main_v274 : IVec S4x200704x196 32 := addi main_v267 main_v211
  let main_v275 : IVec S4x200704x196 32 := addi main_v273 main_v206
  let main_c_80 : IVec S_ 32 := constantI S_ 32 2#32
  let main_v276 : IVec S4x200704x196 32 := broadcastInDim S4x200704x196 ![] bcast_S_S4x200704x196 main_c_80
  fn_part15 (F := F) main_v21 main_v206 main_v207 main_v211 main_v274 main_v275 main_v276

def fn_part13 {F : FTy → Type} [FloatOps F] (main_v21 : FVec F S200704x196 .f32) (main_v206 : IVec S4x200704x196 32) (main_v207 : IVec S4x200704x196 32) (main_v211 : IVec S4x200704x196 32) (main_v234 : IVec S4x200704x196 32) (main_v235 : IVec S4x200704x196 32) (main_v237 : IVec S4x200704x196 32) (main_v238 : IVec S4x200704x196 32) : IVec S_ 1 :=
  let main_v239 : IVec S4x200704x196 32 := Host.shrui main_v234 main_v238
  let main_v240 : IVec S4x200704x196 32 := ori main_v237 main_v239
  let main_v241 : IVec S4x200704x196 32 := xori main_v235 main_v240
  let main_v242 : IVec S4x200704x196 32 := addi main_v235 main_v207
  let main_v243 : IVec S4x200704x196 32 := addi main_v241 main_v211
  let main_c_71 : IVec S_ 32 := constantI S_ 32 1#32
  let main_v244 : IVec S4x200704x196 32 := broadcastInDim S4x200704x196 ![] bcast_S_S4x200704x196 main_c_71
  let main_v245 : IVec S4x200704x196 32 := addi main_v243 main_v244
  let main_v246 : IVec S4x200704x196 32 := addi main_v242 main_v245
  let main_c_72 : IVec S_ 32 := constantI S_ 32 17#32
  let main_v247 : IVec S4x200704x196 32 := broadcastInDim S4x200704x196 ![] bcast_S_S4x200704x196 main_c_72
  let main_v248 : IVec S4x200704x196 32 := Host.shli main_v245 main_v247
  let main_c_73 : IVec S_ 32 := constantI S_ 32 15#32
  let main_v249 : IVec S4x200704x196 32 := broadcastInDim S4x200704x196 ![] bcast_S_S4x200704x196 main_c_73
  let main_v250 : IVec S4x200704x196 32 := Host.shrui main_v245 main_v249
  let main_v251 : IVec S4x200704x196 32 := ori main_v248 main_v250
  let main_v252 : IVec S4x200704x196 32 := xori main_v246 main_v251
  let main_v253 : IVec S4x200704x196 32 := addi main_v246 main_v252
  let main_c_74 : IVec S_ 32 := constantI S_ 32 29#32
  let main_v254 : IVec S4x200704x196 32 := broadcastInDim S4x200704x196 ![] bcast_S_S4x200704x196 main_c_74
  let main_v255 : IVec S4x200704x196 32 := Host.shli main_v252 main_v254
  let main_c_75 : IVec S_ 32 := constantI S_ 32 3#32
  let main_v256 : IVec S4x200704x196 32 := broadcastInDim S4x200704x196 ![] bcast_S_S4x200704x196 main_c_75
  let main_v257 : IVec S4x200704x196 32 := Host.shrui main_v252 main_v256
  fn_part14 (F := F) main_v21 main_v206 main_v207 main_v211 main_v253 main_v255 main_v257

def fn_part12 {F : FTy → Type} [FloatOps F] (main_v21 : FVec F S200704x196 .f32) (main_v206 : IVec S4x200704x196 32) (main_v207 : IVec S4x200704x196 32) (main_v211 : IVec S4x200704x196 32) (main_v214 : IVec S4x200704x196 32) (main_v220 : IVec S4x200704x196 32) : IVec S_ 1 :=
  let main_v221 : IVec S4x200704x196 32 := addi main_v214 main_v220
  let main_c_65 : IVec S_ 32 := constantI S_ 32 15#32
  let main_v222 : IVec S4x200704x196 32 := broadcastInDim S4x200704x196 ![] bcast_S_S4x200704x196 main_c_65
  let main_v223 : IVec S4x200704x196 32 := Host.shli main_v220 main_v222
  let main_c_66 : IVec S_ 32 := constantI S_ 32 17#32
  let main_v224 : IVec S4x200704x196 32 := broadcastInDim S4x200704x196 ![] bcast_S_S4x200704x196 main_c_66
  let main_v225 : IVec S4x200704x196 32 := Host.shrui main_v220 main_v224
  let main_v226 : IVec S4x200704x196 32 := ori main_v223 main_v225
  let main_v227 : IVec S4x200704x196 32 := xori main_v221 main_v226
  let main_v228 : IVec S4x200704x196 32 := addi main_v221 main_v227
  let main_c_67 : IVec S_ 32 := constantI S_ 32 26#32
  let main_v229 : IVec S4x200704x196 32 := broadcastInDim S4x200704x196 ![] bcast_S_S4x200704x196 main_c_67
  let main_v230 : IVec S4x200704x196 32 := Host.shli main_v227 main_v229
  let main_c_68 : IVec S_ 32 := constantI S_ 32 6#32
  let main_v231 : IVec S4x200704x196 32 := broadcastInDim S4x200704x196 ![] bcast_S_S4x200704x196 main_c_68
  let main_v232 : IVec S4x200704x196 32 := Host.shrui main_v227 main_v231
  let main_v233 : IVec S4x200704x196 32 := ori main_v230 main_v232
  let main_v234 : IVec S4x200704x196 32 := xori main_v228 main_v233
  let main_v235 : IVec S4x200704x196 32 := addi main_v228 main_v234
  let main_c_69 : IVec S_ 32 := constantI S_ 32 6#32
  let main_v236 : IVec S4x200704x196 32 := broadcastInDim S4x200704x196 ![] bcast_S_S4x200704x196 main_c_69
  let main_v237 : IVec S4x200704x196 32 := Host.shli main_v234 main_v236
  let main_c_70 : IVec S_ 32 := constantI S_ 32 26#32
  let main_v238 : IVec S4x200704x196 32 := broadcastInDim S4x200704x196 ![] bcast_S_S4x200704x196 main_c_70
  fn_part13 (F := F) main_v21 main_v206 main_v207 main_v211 main_v234 main_v235 main_v237 main_v238

def fn_part11 {F : FTy → Type} [FloatOps F] (main_v21 : FVec F S200704x196 .f32) (main_v195 : IVec S4 32) (main_v199 : IVec S4 32) (main_v200 : IVec S4x200704x196 32) (main_c_60 : IVec S_ 32) : IVec S_ 1 :=
  let main_v201 : IVec S4x200704x196 32 := broadcastInDim S4x200704x196 ![] bcast_S_S4x200704x196 main_c_60
  let main_v202 : IVec S4x200704x196 32 := muli main_v200 main_v201
  let main_v203 : IVec S4x200704x196 32 := iotaInDim S4x200704x196 32 2
  let main_v204 : IVec S4x200704x196 32 := addi main_v202 main_v203
  let main_v205 : IVec S4x200704x196 32 := id main_v204
  let main_v206 : IVec S4x200704x196 32 := broadcastInDim S4x200704x196 ![0] bcast_S4_S4x200704x196_0 main_v195
  let main_v207 : IVec S4x200704x196 32 := broadcastInDim S4x200704x196 ![0] bcast_S4_S4x200704x196_0 main_v199
  let main_c_61 : IVec S_ 32 := constantI S_ 32 0#32
  let main_v208 : IVec S4x200704x196 32 := broadcastInDim S4x200704x196 ![] bcast_S_S4x200704x196 main_c_61
  let main_v209 : IVec S4x200704x196 32 := xori main_v206 main_v207
  let main_c_62 : IVec S_ 32 := constantI S_ 32 466688986#32
  let main_v210 : IVec S4x200704x196 32 := broadcastInDim S4x200704x196 ![] bcast_S_S4x200704x196 main_c_62
  let main_v211 : IVec S4x200704x196 32 := xori main_v209 main_v210
  let main_v212 : IVec S4x200704x196 32 := addi main_v208 main_v206
  let main_v213 : IVec S4x200704x196 32 := addi main_v205 main_v207
  let main_v214 : IVec S4x200704x196 32 := addi main_v212 main_v213
  let main_c_63 : IVec S_ 32 := constantI S_ 32 13#32
  let main_v215 : IVec S4x200704x196 32 := broadcastInDim S4x200704x196 ![] bcast_S_S4x200704x196 main_c_63
  let main_v216 : IVec S4x200704x196 32 := Host.shli main_v213 main_v215
  let main_c_64 : IVec S_ 32 := constantI S_ 32 19#32
  let main_v217 : IVec S4x200704x196 32 := broadcastInDim S4x200704x196 ![] bcast_S_S4x200704x196 main_c_64
  let main_v218 : IVec S4x200704x196 32 := Host.shrui main_v213 main_v217
  let main_v219 : IVec S4x200704x196 32 := ori main_v216 main_v218
  let main_v220 : IVec S4x200704x196 32 := xori main_v214 main_v219
  fn_part12 (F := F) main_v21 main_v206 main_v207 main_v211 main_v214 main_v220

def fn_part10 {F : FTy → Type} [FloatOps F] (main_v21 : FVec F S200704x196 .f32) (main_v25 : IVec S_ 32) (main_v179 : IVec S4 32) (main_v180 : IVec S4 32) (main_v182 : IVec S4 32) : IVec S_ 1 :=
  let main_c_55 : IVec S_ 32 := constantI S_ 32 6#32
  let main_v183 : IVec S4 32 := broadcastInDim S4 ![] bcast_S_S4 main_c_55
  let main_v184 : IVec S4 32 := Host.shrui main_v179 main_v183
  let main_v185 : IVec S4 32 := ori main_v182 main_v184
  let main_v186 : IVec S4 32 := xori main_v180 main_v185
  let main_v187 : IVec S4 32 := addi main_v180 main_v186
  let main_c_56 : IVec S_ 32 := constantI S_ 32 6#32
  let main_v188 : IVec S4 32 := broadcastInDim S4 ![] bcast_S_S4 main_c_56
  let main_v189 : IVec S4 32 := Host.shli main_v186 main_v188
  let main_c_57 : IVec S_ 32 := constantI S_ 32 26#32
  let main_v190 : IVec S4 32 := broadcastInDim S4 ![] bcast_S_S4 main_c_57
  let main_v191 : IVec S4 32 := Host.shrui main_v186 main_v190
  let main_v192 : IVec S4 32 := ori main_v189 main_v191
  let main_v193 : IVec S4 32 := xori main_v187 main_v192
  let main_v194 : IVec S4 32 := broadcastInDim S4 ![] bcast_S_S4 main_v25
  let main_v195 : IVec S4 32 := addi main_v187 main_v194
  let main_c_58 : IVec S_ 32 := constantI S_ 32 0#32
  let main_v196 : IVec S4 32 := broadcastInDim S4 ![] bcast_S_S4 main_c_58
  let main_v197 : IVec S4 32 := addi main_v193 main_v196
  let main_c_59 : IVec S_ 32 := constantI S_ 32 5#32
  let main_v198 : IVec S4 32 := broadcastInDim S4 ![] bcast_S_S4 main_c_59
  let main_v199 : IVec S4 32 := addi main_v197 main_v198
  let main_v200 : IVec S4x200704x196 32 := iotaInDim S4x200704x196 32 1
  let main_c_60 : IVec S_ 32 := constantI S_ 32 196#32
  fn_part11 (F := F) main_v21 main_v195 main_v199 main_v200 main_c_60

def fn_part9 {F : FTy → Type} [FloatOps F] (main_v21 : FVec F S200704x196 .f32) (main_v25 : IVec S_ 32) (main_v161 : IVec S4 32) (main_v163 : IVec S4 32) (main_c_49 : IVec S_ 32) : IVec S_ 1 :=
  let main_v164 : IVec S4 32 := broadcastInDim S4 ![] bcast_S_S4 main_c_49
  let main_v165 : IVec S4 32 := addi main_v163 main_v164
  let main_v166 : IVec S4 32 := addi main_v161 main_v165
  let main_c_50 : IVec S_ 32 := constantI S_ 32 13#32
  let main_v167 : IVec S4 32 := broadcastInDim S4 ![] bcast_S_S4 main_c_50
  let main_v168 : IVec S4 32 := Host.shli main_v165 main_v167
  let main_c_51 : IVec S_ 32 := constantI S_ 32 19#32
  let main_v169 : IVec S4 32 := broadcastInDim S4 ![] bcast_S_S4 main_c_51
  let main_v170 : IVec S4 32 := Host.shrui main_v165 main_v169
  let main_v171 : IVec S4 32 := ori main_v168 main_v170
  let main_v172 : IVec S4 32 := xori main_v166 main_v171
  let main_v173 : IVec S4 32 := addi main_v166 main_v172
  let main_c_52 : IVec S_ 32 := constantI S_ 32 15#32
  let main_v174 : IVec S4 32 := broadcastInDim S4 ![] bcast_S_S4 main_c_52
  let main_v175 : IVec S4 32 := Host.shli main_v172 main_v174
  let main_c_53 : IVec S_ 32 := constantI S_ 32 17#32
  let main_v176 : IVec S4 32 := broadcastInDim S4 ![] bcast_S_S4 main_c_53
  let main_v177 : IVec S4 32 := Host.shrui main_v172 main_v176
  let main_v178 : IVec S4 32 := ori main_v175 main_v177
  let main_v179 : IVec S4 32 := xori main_v173 main_v178
  let main_v180 : IVec S4 32 := addi main_v173 main_v179
  let main_c_54 : IVec S_ 32 := constantI S_ 32 26#32
  let main_v181 : IVec S4 32 := broadcastInDim S4 ![] bcast_S_S4 main_c_54
  let main_v182 : IVec S4 32 := Host.shli main_v179 main_v181
  fn_part10 (F := F) main_v21 main_v25 main_v179 main_v180 main_v182

def fn_part8 {F : FTy → Type} [FloatOps F] (main_v21 : FVec F S200704x196 .f32) (main_v25 : IVec S_ 32) (main_v139 : IVec S4 32) (main_v145 : IVec S4 32) : IVec S_ 1 :=
  let main_v146 : IVec S4 32 := addi main_v139 main_v145
  let main_c_44 : IVec S_ 32 := constantI S_ 32 16#32
  let main_v147 : IVec S4 32 := broadcastInDim S4 ![] bcast_S_S4 main_c_44
  let main_v148 : IVec S4 32 := Host.shli main_v145 main_v147
  let main_c_45 : IVec S_ 32 := constantI S_ 32 16#32
  let main_v149 : IVec S4 32 := broadcastInDim S4 ![] bcast_S_S4 main_c_45
  let main_v150 : IVec S4 32 := Host.shrui main_v145 main_v149
  let main_v151 : IVec S4 32 := ori main_v148 main_v150
  let main_v152 : IVec S4 32 := xori main_v146 main_v151
  let main_v153 : IVec S4 32 := addi main_v146 main_v152
  let main_c_46 : IVec S_ 32 := constantI S_ 32 24#32
  let main_v154 : IVec S4 32 := broadcastInDim S4 ![] bcast_S_S4 main_c_46
  let main_v155 : IVec S4 32 := Host.shli main_v152 main_v154
  let main_c_47 : IVec S_ 32 := constantI S_ 32 8#32
  let main_v156 : IVec S4 32 := broadcastInDim S4 ![] bcast_S_S4 main_c_47
  let main_v157 : IVec S4 32 := Host.shrui main_v152 main_v156
  let main_v158 : IVec S4 32 := ori main_v155 main_v157
  let main_v159 : IVec S4 32 := xori main_v153 main_v158
  let main_c_48 : IVec S_ 32 := constantI S_ 32 42#32
  let main_v160 : IVec S4 32 := broadcastInDim S4 ![] bcast_S_S4 main_c_48
  let main_v161 : IVec S4 32 := addi main_v153 main_v160
  let main_v162 : IVec S4 32 := broadcastInDim S4 ![] bcast_S_S4 main_v25
  let main_v163 : IVec S4 32 := addi main_v159 main_v162
  let main_c_49 : IVec S_ 32 := constantI S_ 32 4#32
  fn_part9 (F := F) main_v21 main_v25 main_v161 main_v163 main_c_49

def fn_part7 {F : FTy → Type} [FloatOps F] (main_v21 : FVec F S200704x196 .f32) (main_v25 : IVec S_ 32) (main_v125 : IVec S4 32) (main_v127 : IVec S4 32) : IVec S_ 1 :=
  let main_c_38 : IVec S_ 32 := constantI S_ 32 42#32
  let main_v128 : IVec S4 32 := broadcastInDim S4 ![] bcast_S_S4 main_c_38
  let main_v129 : IVec S4 32 := addi main_v125 main_v128
  let main_c_39 : IVec S_ 32 := constantI S_ 32 3#32
  let main_v130 : IVec S4 32 := broadcastInDim S4 ![] bcast_S_S4 main_c_39
  let main_v131 : IVec S4 32 := addi main_v129 main_v130
  let main_v132 : IVec S4 32 := addi main_v127 main_v131
  let main_c_40 : IVec S_ 32 := constantI S_ 32 17#32
  let main_v133 : IVec S4 32 := broadcastInDim S4 ![] bcast_S_S4 main_c_40
  let main_v134 : IVec S4 32 := Host.shli main_v131 main_v133
  let main_c_41 : IVec S_ 32 := constantI S_ 32 15#32
  let main_v135 : IVec S4 32 := broadcastInDim S4 ![] bcast_S_S4 main_c_41
  let main_v136 : IVec S4 32 := Host.shrui main_v131 main_v135
  let main_v137 : IVec S4 32 := ori main_v134 main_v136
  let main_v138 : IVec S4 32 := xori main_v132 main_v137
  let main_v139 : IVec S4 32 := addi main_v132 main_v138
  let main_c_42 : IVec S_ 32 := constantI S_ 32 29#32
  let main_v140 : IVec S4 32 := broadcastInDim S4 ![] bcast_S_S4 main_c_42
  let main_v141 : IVec S4 32 := Host.shli main_v138 main_v140
  let main_c_43 : IVec S_ 32 := constantI S_ 32 3#32
  let main_v142 : IVec S4 32 := broadcastInDim S4 ![] bcast_S_S4 main_c_43
  let main_v143 : IVec S4 32 := Host.shrui main_v138 main_v142
  let main_v144 : IVec S4 32 := ori main_v141 main_v143
  let main_v145 : IVec S4 32 := xori main_v139 main_v144
  fn_part8 (F := F) main_v21 main_v25 main_v139 main_v145

def fn_part6 {F : FTy → Type} [FloatOps F] (main_v21 : FVec F S200704x196 .f32) (main_v25 : IVec S_ 32) (main_v104 : IVec S4 32) (main_v105 : IVec S4 32) (main_v107 : IVec S4 32) (main_v108 : IVec S4 32) : IVec S_ 1 :=
  let main_v109 : IVec S4 32 := Host.shrui main_v104 main_v108
  let main_v110 : IVec S4 32 := ori main_v107 main_v109
  let main_v111 : IVec S4 32 := xori main_v105 main_v110
  let main_v112 : IVec S4 32 := addi main_v105 main_v111
  let main_c_33 : IVec S_ 32 := constantI S_ 32 26#32
  let main_v113 : IVec S4 32 := broadcastInDim S4 ![] bcast_S_S4 main_c_33
  let main_v114 : IVec S4 32 := Host.shli main_v111 main_v113
  let main_c_34 : IVec S_ 32 := constantI S_ 32 6#32
  let main_v115 : IVec S4 32 := broadcastInDim S4 ![] bcast_S_S4 main_c_34
  let main_v116 : IVec S4 32 := Host.shrui main_v111 main_v115
  let main_v117 : IVec S4 32 := ori main_v114 main_v116
  let main_v118 : IVec S4 32 := xori main_v112 main_v117
  let main_v119 : IVec S4 32 := addi main_v112 main_v118
  let main_c_35 : IVec S_ 32 := constantI S_ 32 6#32
  let main_v120 : IVec S4 32 := broadcastInDim S4 ![] bcast_S_S4 main_c_35
  let main_v121 : IVec S4 32 := Host.shli main_v118 main_v120
  let main_c_36 : IVec S_ 32 := constantI S_ 32 26#32
  let main_v122 : IVec S4 32 := broadcastInDim S4 ![] bcast_S_S4 main_c_36
  let main_v123 : IVec S4 32 := Host.shrui main_v118 main_v122
  let main_v124 : IVec S4 32 := ori main_v121 main_v123
  let main_v125 : IVec S4 32 := xori main_v119 main_v124
  let main_c_37 : IVec S_ 32 := constantI S_ 32 0#32
  let main_v126 : IVec S4 32 := broadcastInDim S4 ![] bcast_S_S4 main_c_37
  let main_v127 : IVec S4 32 := addi main_v119 main_v126
  fn_part7 (F := F) main_v21 main_v25 main_v125 main_v127

def fn_part5 {F : FTy → Type} [FloatOps F] (main_v21 : FVec F S200704x196 .f32) (main_v25 : IVec S_ 32) (main_v85 : IVec S4 32) (main_v90 : IVec S4 32) : IVec S_ 1 :=
  let main_v91 : IVec S4 32 := xori main_v85 main_v90
  let main_v92 : IVec S4 32 := broadcastInDim S4 ![] bcast_S_S4 main_v25
  let main_v93 : IVec S4 32 := addi main_v85 main_v92
  let main_c_27 : IVec S_ 32 := constantI S_ 32 0#32
  let main_v94 : IVec S4 32 := broadcastInDim S4 ![] bcast_S_S4 main_c_27
  let main_v95 : IVec S4 32 := addi main_v91 main_v94
  let main_c_28 : IVec S_ 32 := constantI S_ 32 2#32
  let main_v96 : IVec S4 32 := broadcastInDim S4 ![] bcast_S_S4 main_c_28
  let main_v97 : IVec S4 32 := addi main_v95 main_v96
  let main_v98 : IVec S4 32 := addi main_v93 main_v97
  let main_c_29 : IVec S_ 32 := constantI S_ 32 13#32
  let main_v99 : IVec S4 32 := broadcastInDim S4 ![] bcast_S_S4 main_c_29
  let main_v100 : IVec S4 32 := Host.shli main_v97 main_v99
  let main_c_30 : IVec S_ 32 := constantI S_ 32 19#32
  let main_v101 : IVec S4 32 := broadcastInDim S4 ![] bcast_S_S4 main_c_30
  let main_v102 : IVec S4 32 := Host.shrui main_v97 main_v101
  let main_v103 : IVec S4 32 := ori main_v100 main_v102
  let main_v104 : IVec S4 32 := xori main_v98 main_v103
  let main_v105 : IVec S4 32 := addi main_v98 main_v104
  let main_c_31 : IVec S_ 32 := constantI S_ 32 15#32
  let main_v106 : IVec S4 32 := broadcastInDim S4 ![] bcast_S_S4 main_c_31
  let main_v107 : IVec S4 32 := Host.shli main_v104 main_v106
  let main_c_32 : IVec S_ 32 := constantI S_ 32 17#32
  let main_v108 : IVec S4 32 := broadcastInDim S4 ![] bcast_S_S4 main_c_32
  fn_part6 (F := F) main_v21 main_v25 main_v104 main_v105 main_v107 main_v108

def fn_part4 {F : FTy → Type} [FloatOps F] (main_v21 : FVec F S200704x196 .f32) (main_v25 : IVec S_ 32) (main_v70 : IVec S4 32) (main_v71 : IVec S4 32) (main_c_21 : IVec S_ 32) : IVec S_ 1 :=
  let main_v72 : IVec S4 32 := broadcastInDim S4 ![] bcast_S_S4 main_c_21
  let main_v73 : IVec S4 32 := Host.shli main_v70 main_v72
  let main_c_22 : IVec S_ 32 := constantI S_ 32 3#32
  let main_v74 : IVec S4 32 := broadcastInDim S4 ![] bcast_S_S4 main_c_22
  let main_v75 : IVec S4 32 := Host.shrui main_v70 main_v74
  let main_v76 : IVec S4 32 := ori main_v73 main_v75
  let main_v77 : IVec S4 32 := xori main_v71 main_v76
  let main_v78 : IVec S4 32 := addi main_v71 main_v77
  let main_c_23 : IVec S_ 32 := constantI S_ 32 16#32
  let main_v79 : IVec S4 32 := broadcastInDim S4 ![] bcast_S_S4 main_c_23
  let main_v80 : IVec S4 32 := Host.shli main_v77 main_v79
  let main_c_24 : IVec S_ 32 := constantI S_ 32 16#32
  let main_v81 : IVec S4 32 := broadcastInDim S4 ![] bcast_S_S4 main_c_24
  let main_v82 : IVec S4 32 := Host.shrui main_v77 main_v81
  let main_v83 : IVec S4 32 := ori main_v80 main_v82
  let main_v84 : IVec S4 32 := xori main_v78 main_v83
  let main_v85 : IVec S4 32 := addi main_v78 main_v84
  let main_c_25 : IVec S_ 32 := constantI S_ 32 24#32
  let main_v86 : IVec S4 32 := broadcastInDim S4 ![] bcast_S_S4 main_c_25
  let main_v87 : IVec S4 32 := Host.shli main_v84 main_v86
  let main_c_26 : IVec S_ 32 := constantI S_ 32 8#32
  let main_v88 : IVec S4 32 := broadcastInDim S4 ![] bcast_S_S4 main_c_26
  let main_v89 : IVec S4 32 := Host.shrui main_v84 main_v88
  let main_v90 : IVec S4 32 := ori main_v87 main_v89
  fn_part5 (F := F) main_v21 main_v25 main_v85 main_v90

def fn_part3 {F : FTy → Type} [FloatOps F] (main_v21 : FVec F S200704x196 .f32) (main_v25 : IVec S_ 32) (main_v50 : IVec S4 32) (main_v51 : IVec S4 32) (main_v53 : IVec S4 32) : IVec S_ 1 :=
  let main_c_16 : IVec S_ 32 := constantI S_ 32 26#32
  let main_v54 : IVec S4 32 := broadcastInDim S4 ![] bcast_S_S4 main_c_16
  let main_v55 : IVec S4 32 := Host.shrui main_v50 main_v54
  let main_v56 : IVec S4 32 := ori main_v53 main_v55
  let main_v57 : IVec S4 32 := xori main_v51 main_v56
  let main_c_17 : IVec S_ 32 := constantI S_ 32 42#32
  let main_v58 : IVec S4 32 := broadcastInDim S4 ![] bcast_S_S4 main_c_17
  let main_v59 : IVec S4 32 := addi main_v51 main_v58
  let main_v60 : IVec S4 32 := broadcastInDim S4 ![] bcast_S_S4 main_v25
  let main_v61 : IVec S4 32 := addi main_v57 main_v60
  let main_c_18 : IVec S_ 32 := constantI S_ 32 1#32
  let main_v62 : IVec S4 32 := broadcastInDim S4 ![] bcast_S_S4 main_c_18
  let main_v63 : IVec S4 32 := addi main_v61 main_v62
  let main_v64 : IVec S4 32 := addi main_v59 main_v63
  let main_c_19 : IVec S_ 32 := constantI S_ 32 17#32
  let main_v65 : IVec S4 32 := broadcastInDim S4 ![] bcast_S_S4 main_c_19
  let main_v66 : IVec S4 32 := Host.shli main_v63 main_v65
  let main_c_20 : IVec S_ 32 := constantI S_ 32 15#32
  let main_v67 : IVec S4 32 := broadcastInDim S4 ![] bcast_S_S4 main_c_20
  let main_v68 : IVec S4 32 := Host.shrui main_v63 main_v67
  let main_v69 : IVec S4 32 := ori main_v66 main_v68
  let main_v70 : IVec S4 32 := xori main_v64 main_v69
  let main_v71 : IVec S4 32 := addi main_v64 main_v70
  let main_c_21 : IVec S_ 32 := constantI S_ 32 29#32
  fn_part4 (F := F) main_v21 main_v25 main_v70 main_v71 main_c_21

def fn_part2 {F : FTy → Type} [FloatOps F] (main_v21 : FVec F S200704x196 .f32) (main_v25 : IVec S_ 32) (main_v30 : IVec S4 32) (main_v32 : IVec S4 32) (main_v34 : IVec S4 32) : IVec S_ 1 :=
  let main_v35 : IVec S4 32 := ori main_v32 main_v34
  let main_v36 : IVec S4 32 := xori main_v30 main_v35
  let main_v37 : IVec S4 32 := addi main_v30 main_v36
  let main_c_11 : IVec S_ 32 := constantI S_ 32 15#32
  let main_v38 : IVec S4 32 := broadcastInDim S4 ![] bcast_S_S4 main_c_11
  let main_v39 : IVec S4 32 := Host.shli main_v36 main_v38
  let main_c_12 : IVec S_ 32 := constantI S_ 32 17#32
  let main_v40 : IVec S4 32 := broadcastInDim S4 ![] bcast_S_S4 main_c_12
  let main_v41 : IVec S4 32 := Host.shrui main_v36 main_v40
  let main_v42 : IVec S4 32 := ori main_v39 main_v41
  let main_v43 : IVec S4 32 := xori main_v37 main_v42
  let main_v44 : IVec S4 32 := addi main_v37 main_v43
  let main_c_13 : IVec S_ 32 := constantI S_ 32 26#32
  let main_v45 : IVec S4 32 := broadcastInDim S4 ![] bcast_S_S4 main_c_13
  let main_v46 : IVec S4 32 := Host.shli main_v43 main_v45
  let main_c_14 : IVec S_ 32 := constantI S_ 32 6#32
  let main_v47 : IVec S4 32 := broadcastInDim S4 ![] bcast_S_S4 main_c_14
  let main_v48 : IVec S4 32 := Host.shrui main_v43 main_v47
  let main_v49 : IVec S4 32 := ori main_v46 main_v48
  let main_v50 : IVec S4 32 := xori main_v44 main_v49
  let main_v51 : IVec S4 32 := addi main_v44 main_v50
  let main_c_15 : IVec S_ 32 := constantI S_ 32 6#32
  let main_v52 : IVec S4 32 := broadcastInDim S4 ![] bcast_S_S4 main_c_15
  let main_v53 : IVec S4 32 := Host.shli main_v50 main_v52
  fn_part3 (F := F) main_v21 main_v25 main_v50 main_v51 main_v53

def fn_part1 {F : FTy → Type} [FloatOps F] (main_v18 : FVec F S200704x196 .f32) (main_cst_3 : FVec F S_ .f32) : IVec S_ 1 :=
  let main_v19 : FVec F S200704x196 .f32 := broadcastInDim S200704x196 ![] bcast_S_S200704x196 main_cst_3
  let main_v20 : FVec F S200704x196 .f32 := addf main_v18 main_v19
  let main_v21 : FVec F S200704x196 .f32 := Host.log main_v20
  let main_v22 : IVec S4 32 := iotaInDim S4 32 0
  let main_c : IVec S_ 32 := constantI S_ 32 0#32
  let main_v23 : IVec S4 32 := broadcastInDim S4 ![] bcast_S_S4 main_c
  let main_c_4 : IVec S_ 32 := constantI S_ 32 0#32
  let main_c_5 : IVec S_ 32 := constantI S_ 32 42#32
  let main_v24 : IVec S_ 32 := xori main_c_4 main_c_5
  let main_c_6 : IVec S_ 32 := constantI S_ 32 466688986#32
  let main_v25 : IVec S_ 32 := xori main_v24 main_c_6
  let main_c_7 : IVec S_ 32 := constantI S_ 32 0#32
  let main_v26 : IVec S4 32 := broadcastInDim S4 ![] bcast_S_S4 main_c_7
  let main_v27 : IVec S4 32 := addi main_v23 main_v26
  let main_c_8 : IVec S_ 32 := constantI S_ 32 42#32
  let main_v28 : IVec S4 32 := broadcastInDim S4 ![] bcast_S_S4 main_c_8
  let main_v29 : IVec S4 32 := addi main_v22 main_v28
  let main_v30 : IVec S4 32 := addi main_v27 main_v29
  let main_c_9 : IVec S_ 32 := constantI S_ 32 13#32
  let main_v31 : IVec S4 32 := broadcastInDim S4 ![] bcast_S_S4 main_c_9
  let main_v32 : IVec S4 32 := Host.shli main_v29 main_v31
  let main_c_10 : IVec S_ 32 := constantI S_ 32 19#32
  let main_v33 : IVec S4 32 := broadcastInDim S4 ![] bcast_S_S4 main_c_10
  let main_v34 : IVec S4 32 := Host.shrui main_v29 main_v33
  fn_part2 (F := F) main_v21 main_v25 main_v30 main_v32 main_v34

def fn {F : FTy → Type} [FloatOps F] (main_arg0 : FVec F S4x96x224x224 .f32) (main_arg1 : FVec F S196x96 .f32) (main_arg2 : FVec F S96x96 .f32) : IVec S_ 1 :=
  let main_v0 : FVec F S4x96x50176 .f32 := shapeCast S4x96x50176 main_arg0 shapeCasts_S4x96x224x224_S4x96x50176
  let main_v1 : FVec F S4x50176x96 .f32 := (transpose S4x50176x96 [0, 2, 1] · transposes_S4x96x50176_S4x50176x96_0_2_1) main_v0
  let main_v2 : FVec F S96x196 .f32 := (transpose S96x196 [1, 0] · transposes_S196x96_S96x196_1_0) main_arg1
  let main_v3 : FVec F S4x50176x196 .f32 := (fun l r => Host.dotGeneral dot_S4x50176x96_S96x196_S4x50176x196_2_0_01_1_n_n none l r) main_v1 main_v2
  let main_cst : FVec F S_ .f32 := constant S_ .f32 0x42C00000#32
  let main_v4 : FVec F S_ .f32 := Host.sqrt main_cst
  let main_v5 : FVec F S4x50176x196 .f32 := broadcastInDim S4x50176x196 ![] bcast_S_S4x50176x196 main_v4
  let main_v6 : FVec F S4x50176x196 .f32 := Host.divf main_v3 main_v5
  let main_cst_0 : FVec F S_ .f32 := constant S_ .f32 0xFF800000#32
  let main_v7 : FVec F S4x50176 .f32 := (fun x v => Host.reduce FloatOps.maximumf x v reducesTo_S4x50176x196_S4x50176_d2 h_S_) main_v6 main_cst_0
  let main_cst_1 : FVec F S_ .f32 := constant S_ .f32 0xFF800000#32
  let main_v8 : FVec F S4x50176 .f32 := broadcastInDim S4x50176 ![] bcast_S_S4x50176 main_cst_1
  let main_v9 : FVec F S4x50176 .f32 := maximumf main_v8 main_v7
  let main_v10 : FVec F S4x50176x1 .f32 := broadcastInDim S4x50176x1 ![0, 1] bcast_S4x50176_S4x50176x1_0_1 main_v9
  let main_v11 : FVec F S4x50176x196 .f32 := broadcastInDim S4x50176x196 ![0, 1, 2] bcast_S4x50176x1_S4x50176x196_0_1_2 main_v10
  let main_v12 : FVec F S4x50176x196 .f32 := subf main_v6 main_v11
  let main_v13 : FVec F S4x50176x196 .f32 := Host.exp main_v12
  let main_cst_2 : FVec F S_ .f32 := constant S_ .f32 0x00000000#32
  let main_v14 : FVec F S4x50176 .f32 := (fun x v => Host.reduceAdd x v reducesTo_S4x50176x196_S4x50176_d2 h_S_) main_v13 main_cst_2
  let main_v15 : FVec F S4x50176x1 .f32 := broadcastInDim S4x50176x1 ![0, 1] bcast_S4x50176_S4x50176x1_0_1 main_v14
  let main_v16 : FVec F S4x50176x196 .f32 := broadcastInDim S4x50176x196 ![0, 1, 2] bcast_S4x50176x1_S4x50176x196_0_1_2 main_v15
  let main_v17 : FVec F S4x50176x196 .f32 := Host.divf main_v13 main_v16
  let main_v18 : FVec F S200704x196 .f32 := shapeCast S200704x196 main_v17 shapeCasts_S4x50176x196_S200704x196
  let main_cst_3 : FVec F S_ .f32 := constant S_ .f32 0x3089705F#32
  fn_part1 (F := F) main_v18 main_cst_3
-- ==== Kernel.lean ====
abbrev S4x96x224x224 : Shape := ⟨4, ![4, 96, 224, 224]⟩
abbrev S196x96 : Shape := ⟨2, ![196, 96]⟩
abbrev S96x96 : Shape := ⟨2, ![96, 96]⟩
abbrev S4x96x50176 : Shape := ⟨3, ![4, 96, 50176]⟩
abbrev S_ : Shape := ⟨0, ![]⟩
abbrev S128x96 : Shape := ⟨2, ![128, 96]⟩
abbrev S1 : Shape := ⟨1, ![1]⟩
abbrev S1x96x1792 : Shape := ⟨3, ![1, 96, 1792]⟩
abbrev S4x50176 : Shape := ⟨2, ![4, 50176]⟩
abbrev S4x196x128 : Shape := ⟨3, ![4, 196, 128]⟩
abbrev S96x1792 : Shape := ⟨2, ![96, 1792]⟩
abbrev S196x1792 : Shape := ⟨2, ![196, 1792]⟩
abbrev S1792 : Shape := ⟨1, ![1792]⟩
abbrev S1x1792 : Shape := ⟨2, ![1, 1792]⟩
abbrev S1x196 : Shape := ⟨2, ![1, 196]⟩
abbrev S128x1792 : Shape := ⟨2, ![128, 1792]⟩
abbrev S196x128 : Shape := ⟨2, ![196, 128]⟩
abbrev S1x196x128 : Shape := ⟨3, ![1, 196, 128]⟩
abbrev S4x196x1 : Shape := ⟨3, ![4, 196, 1]⟩

abbrev nBuf : Space → Nat
  | .hbm => 11
  | .vmem => 8
  | .smem => 0
  | _ => 0

abbrev bufTy : (tb : Table) → Fin (tcTables nBuf tb) → BufTy
  | .hbm, ⟨0, _⟩ => ⟨S4x96x224x224, .f32⟩
  | .hbm, ⟨1, _⟩ => ⟨S196x96, .f32⟩
  | .hbm, ⟨2, _⟩ => ⟨S96x96, .f32⟩
  | .hbm, ⟨3, _⟩ => ⟨S4x96x50176, .f32⟩
  | .hbm, ⟨4, _⟩ => ⟨S_, .f32⟩
  | .hbm, ⟨5, _⟩ => ⟨S128x96, .f32⟩
  | .hbm, ⟨6, _⟩ => ⟨S96x96, .f32⟩
  | .hbm, ⟨7, _⟩ => ⟨S_, .i32⟩
  | .hbm, ⟨8, _⟩ => ⟨S1, .i32⟩
  | .hbm, ⟨9, _⟩ => ⟨S128x96, .f32⟩
  | .hbm, ⟨10, _⟩ => ⟨S4x96x50176, .f32⟩
  | .local _ .vmem, ⟨0, _⟩ => ⟨S1x96x1792, .f32⟩
  | .local _ .vmem, ⟨1, _⟩ => ⟨S1x96x1792, .f32⟩
  | .local _ .vmem, ⟨2, _⟩ => ⟨S196x96, .f32⟩
  | .local _ .vmem, ⟨3, _⟩ => ⟨S128x96, .f32⟩
  | .local _ .vmem, ⟨4, _⟩ => ⟨S1x96x1792, .f32⟩
  | .local _ .vmem, ⟨5, _⟩ => ⟨S1x96x1792, .f32⟩
  | .local _ .vmem, ⟨6, _⟩ => ⟨S4x50176, .i32⟩
  | .local _ .vmem, ⟨7, _⟩ => ⟨S4x196x128, .f32⟩
  | _, _ => ⟨S4x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 2, 28], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let c0_54 : Index := 0#32
  let arg2 : BitVec 32 := BitVec.ofNat 32 (i 2).val
  let c1792_i32_53 : BitVec 32 := 1792#32
  let v232 : BitVec 32 := Scalar.muli arg2 c1792_i32_53
  let v233 : Index := Scalar.indexCast v232
  ![0, v233.toNat]
def k0_off2 (i : grid0.Coords) : Fin 2 → Nat :=
  let c1 : Index := 1#32
  let arg2 : BitVec 32 := BitVec.ofNat 32 (i 2).val
  let c1792_i32_107 : BitVec 32 := 1792#32
  let v424 : BitVec 32 := Scalar.muli arg2 c1792_i32_107
  let v425 : Index := Scalar.indexCast v424
  ![1, v425.toNat]
def k0_off3 (i : grid0.Coords) : Fin 2 → Nat :=
  let c2 : Index := 2#32
  let arg2 : BitVec 32 := BitVec.ofNat 32 (i 2).val
  let c1792_i32_160 : BitVec 32 := 1792#32
  let v616 : BitVec 32 := Scalar.muli arg2 c1792_i32_160
  let v617 : Index := Scalar.indexCast v616
  ![2, v617.toNat]
def k0_off4 (i : grid0.Coords) : Fin 2 → Nat :=
  let c3 : Index := 3#32
  let arg2 : BitVec 32 := BitVec.ofNat 32 (i 2).val
  let c1792_i32_213 : BitVec 32 := 1792#32
  let v808 : BitVec 32 := Scalar.muli arg2 c1792_i32_213
  let v809 : Index := Scalar.indexCast v808
  ![3, v809.toNat]
def k0_cond5 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_off5 (i : grid0.Coords) : Fin 2 → Nat :=
  let c0 : Index := 0#32
  let arg2 : BitVec 32 := BitVec.ofNat 32 (i 2).val
  let c1792_i32 : BitVec 32 := 1792#32
  let v8 : BitVec 32 := Scalar.muli arg2 c1792_i32
  let v9 : Index := Scalar.indexCast v8
  ![0, v9.toNat]
def k0_off6 (i : grid0.Coords) : Fin 2 → Nat :=
  let c1 : Index := 1#32
  let arg2 : BitVec 32 := BitVec.ofNat 32 (i 2).val
  let c1792_i32_6 : BitVec 32 := 1792#32
  let v21 : BitVec 32 := Scalar.muli arg2 c1792_i32_6
  let v22 : Index := Scalar.indexCast v21
  ![1, v22.toNat]
def k0_off7 (i : grid0.Coords) : Fin 2 → Nat :=
  let c2 : Index := 2#32
  let arg2 : BitVec 32 := BitVec.ofNat 32 (i 2).val
  let c1792_i32_11 : BitVec 32 := 1792#32
  let v34 : BitVec 32 := Scalar.muli arg2 c1792_i32_11
  let v35 : Index := Scalar.indexCast v34
  ![2, v35.toNat]
def k0_off8 (i : grid0.Coords) : Fin 2 → Nat :=
  let c3 : Index := 3#32
  let arg2 : BitVec 32 := BitVec.ofNat 32 (i 2).val
  let c1792_i32_16 : BitVec 32 := 1792#32
  let v47 : BitVec 32 := Scalar.muli arg2 c1792_i32_16
  let v48 : Index := Scalar.indexCast v47
  ![3, v48.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi c1_i32 arg1
  let v1 : BitVec 32 := Scalar.muli arg2 v0
  let c0_i32 : BitVec 32 := 0#32
  let c0_i32_0 : BitVec 32 := 0#32
  ![arg0.toNat, c0_i32.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg2 arg1
  let c0_i32 : BitVec 32 := 0#32
  let c0_i32_0 : BitVec 32 := 0#32
  ![arg0.toNat, c0_i32.toNat, v0.toNat]

abbrev stage0_0 : Fin 2 → Memref sig .tc .vmem S1x96x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S196x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S128x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x96x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x96x224x224 : Shape := ⟨4, ![4, 96, 224, 224]⟩
abbrev S196x96 : Shape := ⟨2, ![196, 96]⟩
abbrev S96x96 : Shape := ⟨2, ![96, 96]⟩
abbrev S4x96x50176 : Shape := ⟨3, ![4, 96, 50176]⟩
abbrev S4x50176x96 : Shape := ⟨3, ![4, 50176, 96]⟩
abbrev S96x196 : Shape := ⟨2, ![96, 196]⟩
abbrev S4x50176x196 : Shape := ⟨3, ![4, 50176, 196]⟩
abbrev S_ : Shape := ⟨0, ![]⟩
abbrev S4x50176 : Shape := ⟨2, ![4, 50176]⟩
abbrev S4x50176x1 : Shape := ⟨3, ![4, 50176, 1]⟩
abbrev S200704x196 : Shape := ⟨2, ![200704, 196]⟩
abbrev S4 : Shape := ⟨1, ![4]⟩
abbrev S4x200704x196 : Shape := ⟨3, ![4, 200704, 196]⟩
abbrev S1x200704x196 : Shape := ⟨3, ![1, 200704, 196]⟩
abbrev S4x200704 : Shape := ⟨2, ![4, 200704]⟩
abbrev S4x200704x1 : Shape := ⟨3, ![4, 200704, 1]⟩
abbrev S200704x96 : Shape := ⟨2, ![200704, 96]⟩
abbrev S1x200704 : Shape := ⟨2, ![1, 200704]⟩
abbrev S200704 : Shape := ⟨1, ![200704]⟩
abbrev S4x1 : Shape := ⟨2, ![4, 1]⟩
abbrev S784x96 : Shape := ⟨2, ![784, 96]⟩
abbrev S200704x1 : Shape := ⟨2, ![200704, 1]⟩
abbrev S784x1 : Shape := ⟨2, ![784, 1]⟩
abbrev S1 : Shape := ⟨1, ![1]⟩
abbrev S1x1 : Shape := ⟨2, ![1, 1]⟩

abbrev nBuf : Space → Nat
  | .hbm => 743
  | .vmem => 0
  | .smem => 0
  | _ => 0

abbrev hbmTy0_0 (i : Nat) : BufTy := match i % 128 with
  | 0 => ⟨S4x96x224x224, .f32⟩
  | 1 => ⟨S196x96, .f32⟩
  | 2 => ⟨S96x96, .f32⟩
  | 3 => ⟨S4x96x50176, .f32⟩
  | 4 => ⟨S4x50176x96, .f32⟩
  | 5 => ⟨S96x196, .f32⟩
  | 6 => ⟨S4x50176x196, .f32⟩
  | 7 => ⟨S_, .f32⟩
  | 8 => ⟨S_, .f32⟩
  | 9 => ⟨S4x50176x196, .f32⟩
  | 10 => ⟨S4x50176x196, .f32⟩
  | 11 => ⟨S_, .f32⟩
  | 12 => ⟨S4x50176, .f32⟩
  | 13 => ⟨S_, .f32⟩
  | 14 => ⟨S4x50176, .f32⟩
  | 15 => ⟨S4x50176, .f32⟩
  | 16 => ⟨S4x50176x1, .f32⟩
  | 17 => ⟨S4x50176x196, .f32⟩
  | 18 => ⟨S4x50176x196, .f32⟩
  | 19 => ⟨S4x50176x196, .f32⟩
  | 20 => ⟨S_, .f32⟩
  | 21 => ⟨S4x50176, .f32⟩
  | 22 => ⟨S4x50176x1, .f32⟩
  | 23 => ⟨S4x50176x196, .f32⟩
  | 24 => ⟨S4x50176x196, .f32⟩
  | 25 => ⟨S200704x196, .f32⟩
  | 26 => ⟨S_, .f32⟩
  | 27 => ⟨S200704x196, .f32⟩
  | 28 => ⟨S200704x196, .f32⟩
  | 29 => ⟨S200704x196, .f32⟩
  | 30 => ⟨S4, .i32⟩
  | 31 => ⟨S_, .i32⟩
  | 32 => ⟨S4, .i32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S4, .i32⟩
  | 40 => ⟨S4, .i32⟩
  | 41 => ⟨S_, .i32⟩
  | 42 => ⟨S4, .i32⟩
  | 43 => ⟨S4, .i32⟩
  | 44 => ⟨S4, .i32⟩
  | 45 => ⟨S_, .i32⟩
  | 46 => ⟨S4, .i32⟩
  | 47 => ⟨S4, .i32⟩
  | 48 => ⟨S_, .i32⟩
  | 49 => ⟨S4, .i32⟩
  | 50 => ⟨S4, .i32⟩
  | 51 => ⟨S4, .i32⟩
  | 52 => ⟨S4, .i32⟩
  | 53 => ⟨S4, .i32⟩
  | 54 => ⟨S_, .i32⟩
  | 55 => ⟨S4, .i32⟩
  | 56 => ⟨S4, .i32⟩
  | 57 => ⟨S_, .i32⟩
  | 58 => ⟨S4, .i32⟩
  | 59 => ⟨S4, .i32⟩
  | 60 => ⟨S4, .i32⟩
  | 61 => ⟨S4, .i32⟩
  | 62 => ⟨S4, .i32⟩
  | 63 => ⟨S_, .i32⟩
  | 64 => ⟨S4, .i32⟩
  | 65 => ⟨S4, .i32⟩
  | 66 => ⟨S_, .i32⟩
  | 67 => ⟨S4, .i32⟩
  | 68 => ⟨S4, .i32⟩
  | 69 => ⟨S4, .i32⟩
  | 70 => ⟨S4, .i32⟩
  | 71 => ⟨S4, .i32⟩
  | 72 => ⟨S_, .i32⟩
  | 73 => ⟨S4, .i32⟩
  | 74 => ⟨S4, .i32⟩
  | 75 => ⟨S_, .i32⟩
  | 76 => ⟨S4, .i32⟩
  | 77 => ⟨S4, .i32⟩
  | 78 => ⟨S4, .i32⟩
  | 79 => ⟨S4, .i32⟩
  | 80 => ⟨S_, .i32⟩
  | 81 => ⟨S4, .i32⟩
  | 82 => ⟨S4, .i32⟩
  | 83 => ⟨S4, .i32⟩
  | 84 => ⟨S4, .i32⟩
  | 85 => ⟨S_, .i32⟩
  | 86 => ⟨S4, .i32⟩
  | 87 => ⟨S4, .i32⟩
  | 88 => ⟨S4, .i32⟩
  | 89 => ⟨S_, .i32⟩
  | 90 => ⟨S4, .i32⟩
  | 91 => ⟨S4, .i32⟩
  | 92 => ⟨S_, .i32⟩
  | 93 => ⟨S4, .i32⟩
  | 94 => ⟨S4, .i32⟩
  | 95 => ⟨S4, .i32⟩
  | 96 => ⟨S4, .i32⟩
  | 97 => ⟨S4, .i32⟩
  | 98 => ⟨S_, .i32⟩
  | 99 => ⟨S4, .i32⟩
  | 100 => ⟨S4, .i32⟩
  | 101 => ⟨S_, .i32⟩
  | 102 => ⟨S4, .i32⟩
  | 103 => ⟨S4, .i32⟩
  | 104 => ⟨S4, .i32⟩
  | 105 => ⟨S4, .i32⟩
  | 106 => ⟨S4, .i32⟩
  | 107 => ⟨S_, .i32⟩
  | 108 => ⟨S4, .i32⟩
  | 109 => ⟨S4, .i32⟩
  | 110 => ⟨S_, .i32⟩
  | 111 => ⟨S4, .i32⟩
  | 112 => ⟨S4, .i32⟩
  | 113 => ⟨S4, .i32⟩
  | 114 => ⟨S4, .i32⟩
  | 115 => ⟨S4, .i32⟩
  | 116 => ⟨S_, .i32⟩
  | 117 => ⟨S4, .i32⟩
  | 118 => ⟨S4, .i32⟩
  | 119 => ⟨S_, .i32⟩
  | 120 => ⟨S4, .i32⟩
  | 121 => ⟨S4, .i32⟩
  | 122 => ⟨S4, .i32⟩
  | 123 => ⟨S4, .i32⟩
  | 124 => ⟨S4, .i32⟩
  | 125 => ⟨S4, .i32⟩
  | 126 => ⟨S_, .i32⟩
  | 127 => ⟨S4, .i32⟩
  | _ => ⟨S4x96x224x224, .f32⟩

abbrev hbmTy0_1 (i : Nat) : BufTy := match i % 128 with
  | 0 => ⟨S4, .i32⟩
  | 1 => ⟨S_, .i32⟩
  | 2 => ⟨S4, .i32⟩
  | 3 => ⟨S4, .i32⟩
  | 4 => ⟨S4, .i32⟩
  | 5 => ⟨S_, .i32⟩
  | 6 => ⟨S4, .i32⟩
  | 7 => ⟨S4, .i32⟩
  | 8 => ⟨S_, .i32⟩
  | 9 => ⟨S4, .i32⟩
  | 10 => ⟨S4, .i32⟩
  | 11 => ⟨S4, .i32⟩
  | 12 => ⟨S4, .i32⟩
  | 13 => ⟨S4, .i32⟩
  | 14 => ⟨S_, .i32⟩
  | 15 => ⟨S4, .i32⟩
  | 16 => ⟨S4, .i32⟩
  | 17 => ⟨S_, .i32⟩
  | 18 => ⟨S4, .i32⟩
  | 19 => ⟨S4, .i32⟩
  | 20 => ⟨S4, .i32⟩
  | 21 => ⟨S4, .i32⟩
  | 22 => ⟨S4, .i32⟩
  | 23 => ⟨S_, .i32⟩
  | 24 => ⟨S4, .i32⟩
  | 25 => ⟨S4, .i32⟩
  | 26 => ⟨S_, .i32⟩
  | 27 => ⟨S4, .i32⟩
  | 28 => ⟨S4, .i32⟩
  | 29 => ⟨S4, .i32⟩
  | 30 => ⟨S4, .i32⟩
  | 31 => ⟨S4, .i32⟩
  | 32 => ⟨S_, .i32⟩
  | 33 => ⟨S4, .i32⟩
  | 34 => ⟨S4, .i32⟩
  | 35 => ⟨S_, .i32⟩
  | 36 => ⟨S4, .i32⟩
  | 37 => ⟨S4, .i32⟩
  | 38 => ⟨S4, .i32⟩
  | 39 => ⟨S4, .i32⟩
  | 40 => ⟨S_, .i32⟩
  | 41 => ⟨S4, .i32⟩
  | 42 => ⟨S4, .i32⟩
  | 43 => ⟨S_, .i32⟩
  | 44 => ⟨S4, .i32⟩
  | 45 => ⟨S4, .i32⟩
  | 46 => ⟨S_, .i32⟩
  | 47 => ⟨S4, .i32⟩
  | 48 => ⟨S4, .i32⟩
  | 49 => ⟨S4, .i32⟩
  | 50 => ⟨S_, .i32⟩
  | 51 => ⟨S4, .i32⟩
  | 52 => ⟨S4, .i32⟩
  | 53 => ⟨S_, .i32⟩
  | 54 => ⟨S4, .i32⟩
  | 55 => ⟨S4, .i32⟩
  | 56 => ⟨S4, .i32⟩
  | 57 => ⟨S4, .i32⟩
  | 58 => ⟨S4, .i32⟩
  | 59 => ⟨S_, .i32⟩
  | 60 => ⟨S4, .i32⟩
  | 61 => ⟨S4, .i32⟩
  | 62 => ⟨S_, .i32⟩
  | 63 => ⟨S4, .i32⟩
  | 64 => ⟨S4, .i32⟩
  | 65 => ⟨S4, .i32⟩
  | 66 => ⟨S4, .i32⟩
  | 67 => ⟨S4, .i32⟩
  | 68 => ⟨S_, .i32⟩
  | 69 => ⟨S4, .i32⟩
  | 70 => ⟨S4, .i32⟩
  | 71 => ⟨S_, .i32⟩
  | 72 => ⟨S4, .i32⟩
  | 73 => ⟨S4, .i32⟩
  | 74 => ⟨S4, .i32⟩
  | 75 => ⟨S4, .i32⟩
  | 76 => ⟨S4, .i32⟩
  | 77 => ⟨S_, .i32⟩
  | 78 => ⟨S4, .i32⟩
  | 79 => ⟨S4, .i32⟩
  | 80 => ⟨S_, .i32⟩
  | 81 => ⟨S4, .i32⟩
  | 82 => ⟨S4, .i32⟩
  | 83 => ⟨S4, .i32⟩
  | 84 => ⟨S4, .i32⟩
  | 85 => ⟨S_, .i32⟩
  | 86 => ⟨S4, .i32⟩
  | 87 => ⟨S4, .i32⟩
  | 88 => ⟨S4, .i32⟩
  | 89 => ⟨S4, .i32⟩
  | 90 => ⟨S_, .i32⟩
  | 91 => ⟨S4, .i32⟩
  | 92 => ⟨S4, .i32⟩
  | 93 => ⟨S4, .i32⟩
  | 94 => ⟨S_, .i32⟩
  | 95 => ⟨S4, .i32⟩
  | 96 => ⟨S4, .i32⟩
  | 97 => ⟨S_, .i32⟩
  | 98 => ⟨S4, .i32⟩
  | 99 => ⟨S4, .i32⟩
  | 100 => ⟨S4, .i32⟩
  | 101 => ⟨S4, .i32⟩
  | 102 => ⟨S4, .i32⟩
  | 103 => ⟨S_, .i32⟩
  | 104 => ⟨S4, .i32⟩
  | 105 => ⟨S4, .i32⟩
  | 106 => ⟨S_, .i32⟩
  | 107 => ⟨S4, .i32⟩
  | 108 => ⟨S4, .i32⟩
  | 109 => ⟨S4, .i32⟩
  | 110 => ⟨S4, .i32⟩
  | 111 => ⟨S4, .i32⟩
  | 112 => ⟨S_, .i32⟩
  | 113 => ⟨S4, .i32⟩
  | 114 => ⟨S4, .i32⟩
  | 115 => ⟨S_, .i32⟩
  | 116 => ⟨S4, .i32⟩
  | 117 => ⟨S4, .i32⟩
  | 118 => ⟨S4, .i32⟩
  | 119 => ⟨S4, .i32⟩
  | 120 => ⟨S4, .i32⟩
  | 121 => ⟨S_, .i32⟩
  | 122 => ⟨S4, .i32⟩
  | 123 => ⟨S4, .i32⟩
  | 124 => ⟨S_, .i32⟩
  | 125 => ⟨S4, .i32⟩
  | 126 => ⟨S4, .i32⟩
  | 127 => ⟨S4, .i32⟩
  | _ => ⟨S4x96x224x224, .f32⟩

abbrev hbmTy0_2 (i : Nat) : BufTy := match i % 128 with
  | 0 => ⟨S4, .i32⟩
  | 1 => ⟨S4, .i32⟩
  | 2 => ⟨S4, .i32⟩
  | 3 => ⟨S_, .i32⟩
  | 4 => ⟨S4, .i32⟩
  | 5 => ⟨S4, .i32⟩
  | 6 => ⟨S_, .i32⟩
  | 7 => ⟨S4, .i32⟩
  | 8 => ⟨S4, .i32⟩
  | 9 => ⟨S4x200704x196, .i32⟩
  | 10 => ⟨S_, .i32⟩
  | 11 => ⟨S4x200704x196, .i32⟩
  | 12 => ⟨S4x200704x196, .i32⟩
  | 13 => ⟨S4x200704x196, .i32⟩
  | 14 => ⟨S4x200704x196, .i32⟩
  | 15 => ⟨S4x200704x196, .i32⟩
  | 16 => ⟨S4x200704x196, .i32⟩
  | 17 => ⟨S4x200704x196, .i32⟩
  | 18 => ⟨S_, .i32⟩
  | 19 => ⟨S4x200704x196, .i32⟩
  | 20 => ⟨S4x200704x196, .i32⟩
  | 21 => ⟨S_, .i32⟩
  | 22 => ⟨S4x200704x196, .i32⟩
  | 23 => ⟨S4x200704x196, .i32⟩
  | 24 => ⟨S4x200704x196, .i32⟩
  | 25 => ⟨S4x200704x196, .i32⟩
  | 26 => ⟨S4x200704x196, .i32⟩
  | 27 => ⟨S_, .i32⟩
  | 28 => ⟨S4x200704x196, .i32⟩
  | 29 => ⟨S4x200704x196, .i32⟩
  | 30 => ⟨S_, .i32⟩
  | 31 => ⟨S4x200704x196, .i32⟩
  | 32 => ⟨S4x200704x196, .i32⟩
  | 33 => ⟨S4x200704x196, .i32⟩
  | 34 => ⟨S4x200704x196, .i32⟩
  | 35 => ⟨S4x200704x196, .i32⟩
  | 36 => ⟨S_, .i32⟩
  | 37 => ⟨S4x200704x196, .i32⟩
  | 38 => ⟨S4x200704x196, .i32⟩
  | 39 => ⟨S_, .i32⟩
  | 40 => ⟨S4x200704x196, .i32⟩
  | 41 => ⟨S4x200704x196, .i32⟩
  | 42 => ⟨S4x200704x196, .i32⟩
  | 43 => ⟨S4x200704x196, .i32⟩
  | 44 => ⟨S4x200704x196, .i32⟩
  | 45 => ⟨S_, .i32⟩
  | 46 => ⟨S4x200704x196, .i32⟩
  | 47 => ⟨S4x200704x196, .i32⟩
  | 48 => ⟨S_, .i32⟩
  | 49 => ⟨S4x200704x196, .i32⟩
  | 50 => ⟨S4x200704x196, .i32⟩
  | 51 => ⟨S4x200704x196, .i32⟩
  | 52 => ⟨S4x200704x196, .i32⟩
  | 53 => ⟨S4x200704x196, .i32⟩
  | 54 => ⟨S_, .i32⟩
  | 55 => ⟨S4x200704x196, .i32⟩
  | 56 => ⟨S4x200704x196, .i32⟩
  | 57 => ⟨S_, .i32⟩
  | 58 => ⟨S4x200704x196, .i32⟩
  | 59 => ⟨S4x200704x196, .i32⟩
  | 60 => ⟨S4x200704x196, .i32⟩
  | 61 => ⟨S4x200704x196, .i32⟩
  | 62 => ⟨S4x200704x196, .i32⟩
  | 63 => ⟨S4x200704x196, .i32⟩
  | 64 => ⟨S_, .i32⟩
  | 65 => ⟨S4x200704x196, .i32⟩
  | 66 => ⟨S4x200704x196, .i32⟩
  | 67 => ⟨S4x200704x196, .i32⟩
  | 68 => ⟨S_, .i32⟩
  | 69 => ⟨S4x200704x196, .i32⟩
  | 70 => ⟨S4x200704x196, .i32⟩
  | 71 => ⟨S_, .i32⟩
  | 72 => ⟨S4x200704x196, .i32⟩
  | 73 => ⟨S4x200704x196, .i32⟩
  | 74 => ⟨S4x200704x196, .i32⟩
  | 75 => ⟨S4x200704x196, .i32⟩
  | 76 => ⟨S4x200704x196, .i32⟩
  | 77 => ⟨S_, .i32⟩
  | 78 => ⟨S4x200704x196, .i32⟩
  | 79 => ⟨S4x200704x196, .i32⟩
  | 80 => ⟨S_, .i32⟩
  | 81 => ⟨S4x200704x196, .i32⟩
  | 82 => ⟨S4x200704x196, .i32⟩
  | 83 => ⟨S4x200704x196, .i32⟩
  | 84 => ⟨S4x200704x196, .i32⟩
  | 85 => ⟨S4x200704x196, .i32⟩
  | 86 => ⟨S_, .i32⟩
  | 87 => ⟨S4x200704x196, .i32⟩
  | 88 => ⟨S4x200704x196, .i32⟩
  | 89 => ⟨S_, .i32⟩
  | 90 => ⟨S4x200704x196, .i32⟩
  | 91 => ⟨S4x200704x196, .i32⟩
  | 92 => ⟨S4x200704x196, .i32⟩
  | 93 => ⟨S4x200704x196, .i32⟩
  | 94 => ⟨S4x200704x196, .i32⟩
  | 95 => ⟨S_, .i32⟩
  | 96 => ⟨S4x200704x196, .i32⟩
  | 97 => ⟨S4x200704x196, .i32⟩
  | 98 => ⟨S_, .i32⟩
  | 99 => ⟨S4x200704x196, .i32⟩
  | 100 => ⟨S4x200704x196, .i32⟩
  | 101 => ⟨S4x200704x196, .i32⟩
  | 102 => ⟨S4x200704x196, .i32⟩
  | 103 => ⟨S4x200704x196, .i32⟩
  | 104 => ⟨S4x200704x196, .i32⟩
  | 105 => ⟨S_, .i32⟩
  | 106 => ⟨S4x200704x196, .i32⟩
  | 107 => ⟨S4x200704x196, .i32⟩
  | 108 => ⟨S4x200704x196, .i32⟩
  | 109 => ⟨S_, .i32⟩
  | 110 => ⟨S4x200704x196, .i32⟩
  | 111 => ⟨S4x200704x196, .i32⟩
  | 112 => ⟨S_, .i32⟩
  | 113 => ⟨S4x200704x196, .i32⟩
  | 114 => ⟨S4x200704x196, .i32⟩
  | 115 => ⟨S4x200704x196, .i32⟩
  | 116 => ⟨S4x200704x196, .i32⟩
  | 117 => ⟨S4x200704x196, .i32⟩
  | 118 => ⟨S_, .i32⟩
  | 119 => ⟨S4x200704x196, .i32⟩
  | 120 => ⟨S4x200704x196, .i32⟩
  | 121 => ⟨S_, .i32⟩
  | 122 => ⟨S4x200704x196, .i32⟩
  | 123 => ⟨S4x200704x196, .i32⟩
  | 124 => ⟨S4x200704x196, .i32⟩
  | 125 => ⟨S4x200704x196, .i32⟩
  | 126 => ⟨S4x200704x196, .i32⟩
  | 127 => ⟨S_, .i32⟩
  | _ => ⟨S4x96x224x224, .f32⟩

abbrev hbmTy0_3 (i : Nat) : BufTy := match i % 128 with
  | 0 => ⟨S4x200704x196, .i32⟩
  | 1 => ⟨S4x200704x196, .i32⟩
  | 2 => ⟨S_, .i32⟩
  | 3 => ⟨S4x200704x196, .i32⟩
  | 4 => ⟨S4x200704x196, .i32⟩
  | 5 => ⟨S4x200704x196, .i32⟩
  | 6 => ⟨S4x200704x196, .i32⟩
  | 7 => ⟨S4x200704x196, .i32⟩
  | 8 => ⟨S_, .i32⟩
  | 9 => ⟨S4x200704x196, .i32⟩
  | 10 => ⟨S4x200704x196, .i32⟩
  | 11 => ⟨S_, .i32⟩
  | 12 => ⟨S4x200704x196, .i32⟩
  | 13 => ⟨S4x200704x196, .i32⟩
  | 14 => ⟨S4x200704x196, .i32⟩
  | 15 => ⟨S4x200704x196, .i32⟩
  | 16 => ⟨S4x200704x196, .i32⟩
  | 17 => ⟨S4x200704x196, .i32⟩
  | 18 => ⟨S_, .i32⟩
  | 19 => ⟨S4x200704x196, .i32⟩
  | 20 => ⟨S4x200704x196, .i32⟩
  | 21 => ⟨S4x200704x196, .i32⟩
  | 22 => ⟨S_, .i32⟩
  | 23 => ⟨S4x200704x196, .i32⟩
  | 24 => ⟨S4x200704x196, .i32⟩
  | 25 => ⟨S_, .i32⟩
  | 26 => ⟨S4x200704x196, .i32⟩
  | 27 => ⟨S4x200704x196, .i32⟩
  | 28 => ⟨S4x200704x196, .i32⟩
  | 29 => ⟨S4x200704x196, .i32⟩
  | 30 => ⟨S4x200704x196, .i32⟩
  | 31 => ⟨S_, .i32⟩
  | 32 => ⟨S4x200704x196, .i32⟩
  | 33 => ⟨S4x200704x196, .i32⟩
  | 34 => ⟨S_, .i32⟩
  | 35 => ⟨S4x200704x196, .i32⟩
  | 36 => ⟨S4x200704x196, .i32⟩
  | 37 => ⟨S4x200704x196, .i32⟩
  | 38 => ⟨S4x200704x196, .i32⟩
  | 39 => ⟨S4x200704x196, .i32⟩
  | 40 => ⟨S_, .i32⟩
  | 41 => ⟨S4x200704x196, .i32⟩
  | 42 => ⟨S4x200704x196, .i32⟩
  | 43 => ⟨S_, .i32⟩
  | 44 => ⟨S4x200704x196, .i32⟩
  | 45 => ⟨S4x200704x196, .i32⟩
  | 46 => ⟨S4x200704x196, .i32⟩
  | 47 => ⟨S4x200704x196, .i32⟩
  | 48 => ⟨S4x200704x196, .i32⟩
  | 49 => ⟨S_, .i32⟩
  | 50 => ⟨S4x200704x196, .i32⟩
  | 51 => ⟨S4x200704x196, .i32⟩
  | 52 => ⟨S_, .i32⟩
  | 53 => ⟨S4x200704x196, .i32⟩
  | 54 => ⟨S4x200704x196, .i32⟩
  | 55 => ⟨S4x200704x196, .i32⟩
  | 56 => ⟨S4x200704x196, .i32⟩
  | 57 => ⟨S4x200704x196, .i32⟩
  | 58 => ⟨S4x200704x196, .i32⟩
  | 59 => ⟨S_, .i32⟩
  | 60 => ⟨S4x200704x196, .i32⟩
  | 61 => ⟨S4x200704x196, .i32⟩
  | 62 => ⟨S4x200704x196, .i32⟩
  | 63 => ⟨S_, .i32⟩
  | 64 => ⟨S4x200704x196, .i32⟩
  | 65 => ⟨S4x200704x196, .i32⟩
  | 66 => ⟨S_, .i32⟩
  | 67 => ⟨S4x200704x196, .i32⟩
  | 68 => ⟨S4x200704x196, .i32⟩
  | 69 => ⟨S4x200704x196, .i32⟩
  | 70 => ⟨S4x200704x196, .i32⟩
  | 71 => ⟨S4x200704x196, .i32⟩
  | 72 => ⟨S_, .i32⟩
  | 73 => ⟨S4x200704x196, .i32⟩
  | 74 => ⟨S4x200704x196, .i32⟩
  | 75 => ⟨S_, .i32⟩
  | 76 => ⟨S4x200704x196, .i32⟩
  | 77 => ⟨S4x200704x196, .i32⟩
  | 78 => ⟨S4x200704x196, .i32⟩
  | 79 => ⟨S4x200704x196, .i32⟩
  | 80 => ⟨S4x200704x196, .i32⟩
  | 81 => ⟨S_, .i32⟩
  | 82 => ⟨S4x200704x196, .i32⟩
  | 83 => ⟨S4x200704x196, .i32⟩
  | 84 => ⟨S_, .i32⟩
  | 85 => ⟨S4x200704x196, .i32⟩
  | 86 => ⟨S4x200704x196, .i32⟩
  | 87 => ⟨S4x200704x196, .i32⟩
  | 88 => ⟨S4x200704x196, .i32⟩
  | 89 => ⟨S4x200704x196, .i32⟩
  | 90 => ⟨S_, .i32⟩
  | 91 => ⟨S4x200704x196, .i32⟩
  | 92 => ⟨S4x200704x196, .i32⟩
  | 93 => ⟨S_, .i32⟩
  | 94 => ⟨S4x200704x196, .i32⟩
  | 95 => ⟨S4x200704x196, .i32⟩
  | 96 => ⟨S4x200704x196, .i32⟩
  | 97 => ⟨S4x200704x196, .i32⟩
  | 98 => ⟨S4x200704x196, .i32⟩
  | 99 => ⟨S4x200704x196, .i32⟩
  | 100 => ⟨S_, .i32⟩
  | 101 => ⟨S4x200704x196, .i32⟩
  | 102 => ⟨S4x200704x196, .i32⟩
  | 103 => ⟨S4x200704x196, .i32⟩
  | 104 => ⟨S_, .i32⟩
  | 105 => ⟨S4x200704x196, .i32⟩
  | 106 => ⟨S4x200704x196, .i32⟩
  | 107 => ⟨S_, .i32⟩
  | 108 => ⟨S4x200704x196, .i32⟩
  | 109 => ⟨S4x200704x196, .i32⟩
  | 110 => ⟨S4x200704x196, .f32⟩
  | 111 => ⟨S_, .f32⟩
  | 112 => ⟨S4x200704x196, .f32⟩
  | 113 => ⟨S4x200704x196, .f32⟩
  | 114 => ⟨S_, .f32⟩
  | 115 => ⟨S4x200704x196, .f32⟩
  | 116 => ⟨S4x200704x196, .f32⟩
  | 117 => ⟨S4x200704x196, .f32⟩
  | 118 => ⟨S4x200704x196, .f32⟩
  | 119 => ⟨S4x200704x196, .f32⟩
  | 120 => ⟨S4x200704x196, .f32⟩
  | 121 => ⟨S1x200704x196, .f32⟩
  | 122 => ⟨S4x200704x196, .f32⟩
  | 123 => ⟨S4x200704x196, .f32⟩
  | 124 => ⟨S_, .f32⟩
  | 125 => ⟨S4x200704, .f32⟩
  | 126 => ⟨S4x200704x1, .f32⟩
  | 127 => ⟨S4x200704x196, .f32⟩
  | _ => ⟨S4x96x224x224, .f32⟩

abbrev hbmTy0_4 (i : Nat) : BufTy := match i % 128 with
  | 0 => ⟨S4x200704x196, .i1⟩
  | 1 => ⟨S4x200704x196, .i32⟩
  | 2 => ⟨S_, .i32⟩
  | 3 => ⟨S_, .i32⟩
  | 4 => ⟨S4x200704x196, .i32⟩
  | 5 => ⟨S4x200704x196, .i32⟩
  | 6 => ⟨S_, .i32⟩
  | 7 => ⟨S4x200704, .i32⟩
  | 8 => ⟨S4x96x50176, .f32⟩
  | 9 => ⟨S4x50176x96, .f32⟩
  | 10 => ⟨S4x50176x96, .f32⟩
  | 11 => ⟨S200704x96, .f32⟩
  | 12 => ⟨S1x200704, .i32⟩
  | 13 => ⟨S200704, .i32⟩
  | 14 => ⟨S4x50176, .i32⟩
  | 15 => ⟨S4, .i32⟩
  | 16 => ⟨S4x1, .i32⟩
  | 17 => ⟨S_, .i32⟩
  | 18 => ⟨S4x1, .i32⟩
  | 19 => ⟨S4x1, .i32⟩
  | 20 => ⟨S4x50176, .i32⟩
  | 21 => ⟨S4x50176, .i32⟩
  | 22 => ⟨S200704, .i32⟩
  | 23 => ⟨S_, .f32⟩
  | 24 => ⟨S784x96, .f32⟩
  | 25 => ⟨S200704x1, .i32⟩
  | 26 => ⟨S784x96, .f32⟩
  | 27 => ⟨S_, .f32⟩
  | 28 => ⟨S200704x1, .f32⟩
  | 29 => ⟨S_, .f32⟩
  | 30 => ⟨S784x1, .f32⟩
  | 31 => ⟨S200704x1, .i32⟩
  | 32 => ⟨S784x1, .f32⟩
  | 33 => ⟨S_, .f32⟩
  | 34 => ⟨S784x1, .f32⟩
  | 35 => ⟨S784x1, .f32⟩
  | 36 => ⟨S784x96, .f32⟩
  | 37 => ⟨S784x96, .f32⟩
  | 38 => ⟨S_, .i32⟩
  | 39 => ⟨S200704, .i32⟩
  | 40 => ⟨S200704, .i1⟩
  | 41 => ⟨S_, .i32⟩
  | 42 => ⟨S200704, .i32⟩
  | 43 => ⟨S200704, .i32⟩
  | 44 => ⟨S200704, .i32⟩
  | 45 => ⟨S200704x1, .i32⟩
  | 46 => ⟨S1, .i32⟩
  | 47 => ⟨S_, .i32⟩
  | 48 => ⟨S200704x1, .i32⟩
  | 49 => ⟨S200704x1, .i1⟩
  | 50 => ⟨S1x1, .i32⟩
  | 51 => ⟨S200704x1, .i32⟩
  | 52 => ⟨S200704x1, .i1⟩
  | 53 => ⟨S200704x1, .i1⟩
  | 54 => ⟨S_, .i1⟩
  | 55 => ⟨S200704, .i1⟩
  | 56 => ⟨S200704x96, .f32⟩
  | 57 => ⟨S200704x96, .i1⟩
  | 58 => ⟨S_, .f32⟩
  | 59 => ⟨S200704x96, .f32⟩
  | 60 => ⟨S200704x96, .f32⟩
  | 61 => ⟨S4x50176x96, .f32⟩
  | 62 => ⟨S4x96x50176, .f32⟩
  | 63 => ⟨S_, .f32⟩
  | 64 => ⟨S4x96x50176, .f32⟩
  | 65 => ⟨S4x96x50176, .f32⟩
  | 66 => ⟨S1x200704, .i32⟩
  | 67 => ⟨S200704, .i32⟩
  | 68 => ⟨S4x50176, .i32⟩
  | 69 => ⟨S4, .i32⟩
  | 70 => ⟨S4x1, .i32⟩
  | 71 => ⟨S_, .i32⟩
  | 72 => ⟨S4x1, .i32⟩
  | 73 => ⟨S4x1, .i32⟩
  | 74 => ⟨S4x50176, .i32⟩
  | 75 => ⟨S4x50176, .i32⟩
  | 76 => ⟨S200704, .i32⟩
  | 77 => ⟨S_, .f32⟩
  | 78 => ⟨S784x96, .f32⟩
  | 79 => ⟨S200704x1, .i32⟩
  | 80 => ⟨S784x96, .f32⟩
  | 81 => ⟨S_, .f32⟩
  | 82 => ⟨S200704x1, .f32⟩
  | 83 => ⟨S_, .f32⟩
  | 84 => ⟨S784x1, .f32⟩
  | 85 => ⟨S200704x1, .i32⟩
  | 86 => ⟨S784x1, .f32⟩
  | 87 => ⟨S_, .f32⟩
  | 88 => ⟨S784x1, .f32⟩
  | 89 => ⟨S784x1, .f32⟩
  | 90 => ⟨S784x96, .f32⟩
  | 91 => ⟨S784x96, .f32⟩
  | 92 => ⟨S_, .i32⟩
  | 93 => ⟨S200704, .i32⟩
  | 94 => ⟨S200704, .i1⟩
  | 95 => ⟨S_, .i32⟩
  | 96 => ⟨S200704, .i32⟩
  | 97 => ⟨S200704, .i32⟩
  | 98 => ⟨S200704, .i32⟩
  | 99 => ⟨S200704x1, .i32⟩
  | 100 => ⟨S1, .i32⟩
  | 101 => ⟨S_, .i32⟩
  | 102 => ⟨S200704x1, .i32⟩
  | 103 => ⟨S200704x1, .i1⟩
  | 104 => ⟨S1x1, .i32⟩
  | 105 => ⟨S200704x1, .i32⟩
  | 106 => ⟨S200704x1, .i1⟩
  | 107 => ⟨S200704x1, .i1⟩
  | 108 => ⟨S_, .i1⟩
  | 109 => ⟨S200704, .i1⟩
  | 110 => ⟨S200704x96, .f32⟩
  | 111 => ⟨S200704x96, .i1⟩
  | 112 => ⟨S_, .f32⟩
  | 113 => ⟨S200704x96, .f32⟩
  | 114 => ⟨S200704x96, .f32⟩
  | 115 => ⟨S4x50176x96, .f32⟩
  | 116 => ⟨S4x96x50176, .f32⟩
  | 117 => ⟨S_, .f32⟩
  | 118 => ⟨S4x96x50176, .f32⟩
  | 119 => ⟨S4x96x50176, .f32⟩
  | 120 => ⟨S4x96x50176, .f32⟩
  | 121 => ⟨S1x200704, .i32⟩
  | 122 => ⟨S200704, .i32⟩
  | 123 => ⟨S4x50176, .i32⟩
  | 124 => ⟨S4, .i32⟩
  | 125 => ⟨S4x1, .i32⟩
  | 126 => ⟨S_, .i32⟩
  | 127 => ⟨S4x1, .i32⟩
  | _ => ⟨S4x96x224x224, .f32⟩

abbrev hbmTy0_5 (i : Nat) : BufTy := match i % 128 with
  | 0 => ⟨S4x1, .i32⟩
  | 1 => ⟨S4x50176, .i32⟩
  | 2 => ⟨S4x50176, .i32⟩
  | 3 => ⟨S200704, .i32⟩
  | 4 => ⟨S_, .f32⟩
  | 5 => ⟨S784x96, .f32⟩
  | 6 => ⟨S200704x1, .i32⟩
  | 7 => ⟨S784x96, .f32⟩
  | 8 => ⟨S_, .f32⟩
  | 9 => ⟨S200704x1, .f32⟩
  | 10 => ⟨S_, .f32⟩
  | 11 => ⟨S784x1, .f32⟩
  | 12 => ⟨S200704x1, .i32⟩
  | 13 => ⟨S784x1, .f32⟩
  | 14 => ⟨S_, .f32⟩
  | 15 => ⟨S784x1, .f32⟩
  | 16 => ⟨S784x1, .f32⟩
  | 17 => ⟨S784x96, .f32⟩
  | 18 => ⟨S784x96, .f32⟩
  | 19 => ⟨S_, .i32⟩
  | 20 => ⟨S200704, .i32⟩
  | 21 => ⟨S200704, .i1⟩
  | 22 => ⟨S_, .i32⟩
  | 23 => ⟨S200704, .i32⟩
  | 24 => ⟨S200704, .i32⟩
  | 25 => ⟨S200704, .i32⟩
  | 26 => ⟨S200704x1, .i32⟩
  | 27 => ⟨S1, .i32⟩
  | 28 => ⟨S_, .i32⟩
  | 29 => ⟨S200704x1, .i32⟩
  | 30 => ⟨S200704x1, .i1⟩
  | 31 => ⟨S1x1, .i32⟩
  | 32 => ⟨S200704x1, .i32⟩
  | 33 => ⟨S200704x1, .i1⟩
  | 34 => ⟨S200704x1, .i1⟩
  | 35 => ⟨S_, .i1⟩
  | 36 => ⟨S200704, .i1⟩
  | 37 => ⟨S200704x96, .f32⟩
  | 38 => ⟨S200704x96, .i1⟩
  | 39 => ⟨S_, .f32⟩
  | 40 => ⟨S200704x96, .f32⟩
  | 41 => ⟨S200704x96, .f32⟩
  | 42 => ⟨S4x50176x96, .f32⟩
  | 43 => ⟨S4x96x50176, .f32⟩
  | 44 => ⟨S_, .f32⟩
  | 45 => ⟨S4x96x50176, .f32⟩
  | 46 => ⟨S4x96x50176, .f32⟩
  | 47 => ⟨S4x96x50176, .f32⟩
  | 48 => ⟨S1x200704, .i32⟩
  | 49 => ⟨S200704, .i32⟩
  | 50 => ⟨S4x50176, .i32⟩
  | 51 => ⟨S4, .i32⟩
  | 52 => ⟨S4x1, .i32⟩
  | 53 => ⟨S_, .i32⟩
  | 54 => ⟨S4x1, .i32⟩
  | 55 => ⟨S4x1, .i32⟩
  | 56 => ⟨S4x50176, .i32⟩
  | 57 => ⟨S4x50176, .i32⟩
  | 58 => ⟨S200704, .i32⟩
  | 59 => ⟨S_, .f32⟩
  | 60 => ⟨S784x96, .f32⟩
  | 61 => ⟨S200704x1, .i32⟩
  | 62 => ⟨S784x96, .f32⟩
  | 63 => ⟨S_, .f32⟩
  | 64 => ⟨S200704x1, .f32⟩
  | 65 => ⟨S_, .f32⟩
  | 66 => ⟨S784x1, .f32⟩
  | 67 => ⟨S200704x1, .i32⟩
  | 68 => ⟨S784x1, .f32⟩
  | 69 => ⟨S_, .f32⟩
  | 70 => ⟨S784x1, .f32⟩
  | 71 => ⟨S784x1, .f32⟩
  | 72 => ⟨S784x96, .f32⟩
  | 73 => ⟨S784x96, .f32⟩
  | 74 => ⟨S_, .i32⟩
  | 75 => ⟨S200704, .i32⟩
  | 76 => ⟨S200704, .i1⟩
  | 77 => ⟨S_, .i32⟩
  | 78 => ⟨S200704, .i32⟩
  | 79 => ⟨S200704, .i32⟩
  | 80 => ⟨S200704, .i32⟩
  | 81 => ⟨S200704x1, .i32⟩
  | 82 => ⟨S1, .i32⟩
  | 83 => ⟨S_, .i32⟩
  | 84 => ⟨S200704x1, .i32⟩
  | 85 => ⟨S200704x1, .i1⟩
  | 86 => ⟨S1x1, .i32⟩
  | 87 => ⟨S200704x1, .i32⟩
  | 88 => ⟨S200704x1, .i1⟩
  | 89 => ⟨S200704x1, .i1⟩
  | 90 => ⟨S_, .i1⟩
  | 91 => ⟨S200704, .i1⟩
  | 92 => ⟨S200704x96, .f32⟩
  | 93 => ⟨S200704x96, .i1⟩
  | 94 => ⟨S_, .f32⟩
  | 95 => ⟨S200704x96, .f32⟩
  | 96 => ⟨S200704x96, .f32⟩
  | 97 => ⟨S4x50176x96, .f32⟩
  | 98 => ⟨S4x96x50176, .f32⟩
  | 99 => ⟨S_, .f32⟩
  | 100 => ⟨S4x96x50176, .f32⟩
  | 101 => ⟨S4x96x50176, .f32⟩
  | 102 => ⟨S4x96x50176, .f32⟩
  | _ => ⟨S4x96x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x96x224x224, .f32⟩

abbrev bufTy : (tb : Table) → Fin (tcTables nBuf tb) → BufTy
  | .hbm, ⟨i, _⟩ => hbmTy i
  | _, _ => ⟨S4x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c : Ref sig .tc := ⟨.hbm, 31, rfl⟩
abbrev main_v23 : Ref sig .tc := ⟨.hbm, 32, rfl⟩
abbrev main_c_4 : Ref sig .tc := ⟨.hbm, 33, rfl⟩
abbrev main_c_5 : Ref sig .tc := ⟨.hbm, 34, rfl⟩
abbrev main_v24 : Ref sig .tc := ⟨.hbm, 35, rfl⟩
abbrev main_c_6 : Ref sig .tc := ⟨.hbm, 36, rfl⟩
abbrev main_v25 : Ref sig .tc := ⟨.hbm, 37, rfl⟩
abbrev main_c_7 : Ref sig .tc := ⟨.hbm, 38, rfl⟩
abbrev main_v26 : Ref sig .tc := ⟨.hbm, 39, rfl⟩
abbrev main_v27 : Ref sig .tc := ⟨.hbm, 40, rfl⟩
abbrev main_c_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_9 : Ref sig .tc := ⟨.hbm, 45, rfl⟩
abbrev main_v31 : Ref sig .tc := ⟨.hbm, 46, rfl⟩
abbrev main_v32 : Ref sig .tc := ⟨.hbm, 47, rfl⟩
abbrev main_c_10 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_11 : Ref sig .tc := ⟨.hbm, 54, rfl⟩
abbrev main_v38 : Ref sig .tc := ⟨.hbm, 55, rfl⟩
abbrev main_v39 : Ref sig .tc := ⟨.hbm, 56, rfl⟩
abbrev main_c_12 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_13 : Ref sig .tc := ⟨.hbm, 63, rfl⟩
abbrev main_v45 : Ref sig .tc := ⟨.hbm, 64, rfl⟩
abbrev main_v46 : Ref sig .tc := ⟨.hbm, 65, rfl⟩
abbrev main_c_14 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_15 : Ref sig .tc := ⟨.hbm, 72, rfl⟩
abbrev main_v52 : Ref sig .tc := ⟨.hbm, 73, rfl⟩
abbrev main_v53 : Ref sig .tc := ⟨.hbm, 74, rfl⟩
abbrev main_c_16 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_17 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_18 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_19 : Ref sig .tc := ⟨.hbm, 89, rfl⟩
abbrev main_v65 : Ref sig .tc := ⟨.hbm, 90, rfl⟩
abbrev main_v66 : Ref sig .tc := ⟨.hbm, 91, rfl⟩
abbrev main_c_20 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_21 : Ref sig .tc := ⟨.hbm, 98, rfl⟩
abbrev main_v72 : Ref sig .tc := ⟨.hbm, 99, rfl⟩
abbrev main_v73 : Ref sig .tc := ⟨.hbm, 100, rfl⟩
abbrev main_c_22 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c_23 : Ref sig .tc := ⟨.hbm, 107, rfl⟩
abbrev main_v79 : Ref sig .tc := ⟨.hbm, 108, rfl⟩
abbrev main_v80 : Ref sig .tc := ⟨.hbm, 109, rfl⟩
abbrev main_c_24 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_c_25 : Ref sig .tc := ⟨.hbm, 116, rfl⟩
abbrev main_v86 : Ref sig .tc := ⟨.hbm, 117, rfl⟩
abbrev main_v87 : Ref sig .tc := ⟨.hbm, 118, rfl⟩
abbrev main_c_26 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_c_27 : Ref sig .tc := ⟨.hbm, 126, rfl⟩
abbrev main_v94 : Ref sig .tc := ⟨.hbm, 127, rfl⟩
abbrev main_v95 : Ref sig .tc := ⟨.hbm, 128, rfl⟩
abbrev main_c_28 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_c_29 : Ref sig .tc := ⟨.hbm, 133, rfl⟩
abbrev main_v99 : Ref sig .tc := ⟨.hbm, 134, rfl⟩
abbrev main_v100 : Ref sig .tc := ⟨.hbm, 135, rfl⟩
abbrev main_c_30 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_c_31 : Ref sig .tc := ⟨.hbm, 142, rfl⟩
abbrev main_v106 : Ref sig .tc := ⟨.hbm, 143, rfl⟩
abbrev main_v107 : Ref sig .tc := ⟨.hbm, 144, rfl⟩
abbrev main_c_32 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_c_33 : Ref sig .tc := ⟨.hbm, 151, rfl⟩
abbrev main_v113 : Ref sig .tc := ⟨.hbm, 152, rfl⟩
abbrev main_v114 : Ref sig .tc := ⟨.hbm, 153, rfl⟩
abbrev main_c_34 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_c_35 : Ref sig .tc := ⟨.hbm, 160, rfl⟩
abbrev main_v120 : Ref sig .tc := ⟨.hbm, 161, rfl⟩
abbrev main_v121 : Ref sig .tc := ⟨.hbm, 162, rfl⟩
abbrev main_c_36 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_c_37 : Ref sig .tc := ⟨.hbm, 168, rfl⟩
abbrev main_v126 : Ref sig .tc := ⟨.hbm, 169, rfl⟩
abbrev main_v127 : Ref sig .tc := ⟨.hbm, 170, rfl⟩
abbrev main_c_38 : Ref sig .tc := ⟨.hbm, 171, rfl⟩
abbrev main_v128 : Ref sig .tc := ⟨.hbm, 172, rfl⟩
abbrev main_v129 : Ref sig .tc := ⟨.hbm, 173, rfl⟩
abbrev main_c_39 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_c_40 : Ref sig .tc := ⟨.hbm, 178, rfl⟩
abbrev main_v133 : Ref sig .tc := ⟨.hbm, 179, rfl⟩
abbrev main_v134 : Ref sig .tc := ⟨.hbm, 180, rfl⟩
abbrev main_c_41 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_c_42 : Ref sig .tc := ⟨.hbm, 187, rfl⟩
abbrev main_v140 : Ref sig .tc := ⟨.hbm, 188, rfl⟩
abbrev main_v141 : Ref sig .tc := ⟨.hbm, 189, rfl⟩
abbrev main_c_43 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_c_44 : Ref sig .tc := ⟨.hbm, 196, rfl⟩
abbrev main_v147 : Ref sig .tc := ⟨.hbm, 197, rfl⟩
abbrev main_v148 : Ref sig .tc := ⟨.hbm, 198, rfl⟩
abbrev main_c_45 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_c_46 : Ref sig .tc := ⟨.hbm, 205, rfl⟩
abbrev main_v154 : Ref sig .tc := ⟨.hbm, 206, rfl⟩
abbrev main_v155 : Ref sig .tc := ⟨.hbm, 207, rfl⟩
abbrev main_c_47 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_c_48 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_c_49 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_c_50 : Ref sig .tc := ⟨.hbm, 222, rfl⟩
abbrev main_v167 : Ref sig .tc := ⟨.hbm, 223, rfl⟩
abbrev main_v168 : Ref sig .tc := ⟨.hbm, 224, rfl⟩
abbrev main_c_51 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_c_52 : Ref sig .tc := ⟨.hbm, 231, rfl⟩
abbrev main_v174 : Ref sig .tc := ⟨.hbm, 232, rfl⟩
abbrev main_v175 : Ref sig .tc := ⟨.hbm, 233, rfl⟩
abbrev main_c_53 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_c_54 : Ref sig .tc := ⟨.hbm, 240, rfl⟩
abbrev main_v181 : Ref sig .tc := ⟨.hbm, 241, rfl⟩
abbrev main_v182 : Ref sig .tc := ⟨.hbm, 242, rfl⟩
abbrev main_c_55 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_c_56 : Ref sig .tc := ⟨.hbm, 249, rfl⟩
abbrev main_v188 : Ref sig .tc := ⟨.hbm, 250, rfl⟩
abbrev main_v189 : Ref sig .tc := ⟨.hbm, 251, rfl⟩
abbrev main_c_57 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_c_58 : Ref sig .tc := ⟨.hbm, 259, rfl⟩
abbrev main_v196 : Ref sig .tc := ⟨.hbm, 260, rfl⟩
abbrev main_v197 : Ref sig .tc := ⟨.hbm, 261, rfl⟩
abbrev main_c_59 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_c_60 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_c_61 : Ref sig .tc := ⟨.hbm, 274, rfl⟩
abbrev main_v208 : Ref sig .tc := ⟨.hbm, 275, rfl⟩
abbrev main_v209 : Ref sig .tc := ⟨.hbm, 276, rfl⟩
abbrev main_c_62 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_c_63 : Ref sig .tc := ⟨.hbm, 283, rfl⟩
abbrev main_v215 : Ref sig .tc := ⟨.hbm, 284, rfl⟩
abbrev main_v216 : Ref sig .tc := ⟨.hbm, 285, rfl⟩
abbrev main_c_64 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩
abbrev main_v220 : Ref sig .tc := ⟨.hbm, 290, rfl⟩
abbrev main_v221 : Ref sig .tc := ⟨.hbm, 291, rfl⟩
abbrev main_c_65 : Ref sig .tc := ⟨.hbm, 292, rfl⟩
abbrev main_v222 : Ref sig .tc := ⟨.hbm, 293, rfl⟩
abbrev main_v223 : Ref sig .tc := ⟨.hbm, 294, rfl⟩
abbrev main_c_66 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_c_67 : Ref sig .tc := ⟨.hbm, 301, rfl⟩
abbrev main_v229 : Ref sig .tc := ⟨.hbm, 302, rfl⟩
abbrev main_v230 : Ref sig .tc := ⟨.hbm, 303, rfl⟩
abbrev main_c_68 : Ref sig .tc := ⟨.hbm, 304, rfl⟩
abbrev main_v231 : Ref sig .tc := ⟨.hbm, 305, rfl⟩
abbrev main_v232 : Ref sig .tc := ⟨.hbm, 306, rfl⟩
abbrev main_v233 : Ref sig .tc := ⟨.hbm, 307, rfl⟩
abbrev main_v234 : Ref sig .tc := ⟨.hbm, 308, rfl⟩
abbrev main_v235 : Ref sig .tc := ⟨.hbm, 309, rfl⟩
abbrev main_c_69 : Ref sig .tc := ⟨.hbm, 310, rfl⟩
abbrev main_v236 : Ref sig .tc := ⟨.hbm, 311, rfl⟩
abbrev main_v237 : Ref sig .tc := ⟨.hbm, 312, rfl⟩
abbrev main_c_70 : Ref sig .tc := ⟨.hbm, 313, rfl⟩
abbrev main_v238 : Ref sig .tc := ⟨.hbm, 314, rfl⟩
abbrev main_v239 : Ref sig .tc := ⟨.hbm, 315, rfl⟩
abbrev main_v240 : Ref sig .tc := ⟨.hbm, 316, rfl⟩
abbrev main_v241 : Ref sig .tc := ⟨.hbm, 317, rfl⟩
abbrev main_v242 : Ref sig .tc := ⟨.hbm, 318, rfl⟩
abbrev main_v243 : Ref sig .tc := ⟨.hbm, 319, rfl⟩
abbrev main_c_71 : Ref sig .tc := ⟨.hbm, 320, rfl⟩
abbrev main_v244 : Ref sig .tc := ⟨.hbm, 321, rfl⟩
abbrev main_v245 : Ref sig .tc := ⟨.hbm, 322, rfl⟩
abbrev main_v246 : Ref sig .tc := ⟨.hbm, 323, rfl⟩
abbrev main_c_72 : Ref sig .tc := ⟨.hbm, 324, rfl⟩
abbrev main_v247 : Ref sig .tc := ⟨.hbm, 325, rfl⟩
abbrev main_v248 : Ref sig .tc := ⟨.hbm, 326, rfl⟩
abbrev main_c_73 : Ref sig .tc := ⟨.hbm, 327, rfl⟩
abbrev main_v249 : Ref sig .tc := ⟨.hbm, 328, rfl⟩
abbrev main_v250 : Ref sig .tc := ⟨.hbm, 329, rfl⟩
abbrev main_v251 : Ref sig .tc := ⟨.hbm, 330, rfl⟩
abbrev main_v252 : Ref sig .tc := ⟨.hbm, 331, rfl⟩
abbrev main_v253 : Ref sig .tc := ⟨.hbm, 332, rfl⟩
abbrev main_c_74 : Ref sig .tc := ⟨.hbm, 333, rfl⟩
abbrev main_v254 : Ref sig .tc := ⟨.hbm, 334, rfl⟩
abbrev main_v255 : Ref sig .tc := ⟨.hbm, 335, rfl⟩
abbrev main_c_75 : Ref sig .tc := ⟨.hbm, 336, rfl⟩
abbrev main_v256 : Ref sig .tc := ⟨.hbm, 337, rfl⟩
abbrev main_v257 : Ref sig .tc := ⟨.hbm, 338, rfl⟩
abbrev main_v258 : Ref sig .tc := ⟨.hbm, 339, rfl⟩
abbrev main_v259 : Ref sig .tc := ⟨.hbm, 340, rfl⟩
abbrev main_v260 : Ref sig .tc := ⟨.hbm, 341, rfl⟩
abbrev main_c_76 : Ref sig .tc := ⟨.hbm, 342, rfl⟩
abbrev main_v261 : Ref sig .tc := ⟨.hbm, 343, rfl⟩
abbrev main_v262 : Ref sig .tc := ⟨.hbm, 344, rfl⟩
abbrev main_c_77 : Ref sig .tc := ⟨.hbm, 345, rfl⟩
abbrev main_v263 : Ref sig .tc := ⟨.hbm, 346, rfl⟩
abbrev main_v264 : Ref sig .tc := ⟨.hbm, 347, rfl⟩
abbrev main_v265 : Ref sig .tc := ⟨.hbm, 348, rfl⟩
abbrev main_v266 : Ref sig .tc := ⟨.hbm, 349, rfl⟩
abbrev main_v267 : Ref sig .tc := ⟨.hbm, 350, rfl⟩
abbrev main_c_78 : Ref sig .tc := ⟨.hbm, 351, rfl⟩
abbrev main_v268 : Ref sig .tc := ⟨.hbm, 352, rfl⟩
abbrev main_v269 : Ref sig .tc := ⟨.hbm, 353, rfl⟩
abbrev main_c_79 : Ref sig .tc := ⟨.hbm, 354, rfl⟩
abbrev main_v270 : Ref sig .tc := ⟨.hbm, 355, rfl⟩
abbrev main_v271 : Ref sig .tc := ⟨.hbm, 356, rfl⟩
abbrev main_v272 : Ref sig .tc := ⟨.hbm, 357, rfl⟩
abbrev main_v273 : Ref sig .tc := ⟨.hbm, 358, rfl⟩
abbrev main_v274 : Ref sig .tc := ⟨.hbm, 359, rfl⟩
abbrev main_v275 : Ref sig .tc := ⟨.hbm, 360, rfl⟩
abbrev main_c_80 : Ref sig .tc := ⟨.hbm, 361, rfl⟩
abbrev main_v276 : Ref sig .tc := ⟨.hbm, 362, rfl⟩
abbrev main_v277 : Ref sig .tc := ⟨.hbm, 363, rfl⟩
abbrev main_v278 : Ref sig .tc := ⟨.hbm, 364, rfl⟩
abbrev main_c_81 : Ref sig .tc := ⟨.hbm, 365, rfl⟩
abbrev main_v279 : Ref sig .tc := ⟨.hbm, 366, rfl⟩
abbrev main_v280 : Ref sig .tc := ⟨.hbm, 367, rfl⟩
abbrev main_c_82 : Ref sig .tc := ⟨.hbm, 368, rfl⟩
abbrev main_v281 : Ref sig .tc := ⟨.hbm, 369, rfl⟩
abbrev main_v282 : Ref sig .tc := ⟨.hbm, 370, rfl⟩
abbrev main_v283 : Ref sig .tc := ⟨.hbm, 371, rfl⟩
abbrev main_v284 : Ref sig .tc := ⟨.hbm, 372, rfl⟩
abbrev main_v285 : Ref sig .tc := ⟨.hbm, 373, rfl⟩
abbrev main_c_83 : Ref sig .tc := ⟨.hbm, 374, rfl⟩
abbrev main_v286 : Ref sig .tc := ⟨.hbm, 375, rfl⟩
abbrev main_v287 : Ref sig .tc := ⟨.hbm, 376, rfl⟩
abbrev main_c_84 : Ref sig .tc := ⟨.hbm, 377, rfl⟩
abbrev main_v288 : Ref sig .tc := ⟨.hbm, 378, rfl⟩
abbrev main_v289 : Ref sig .tc := ⟨.hbm, 379, rfl⟩
abbrev main_v290 : Ref sig .tc := ⟨.hbm, 380, rfl⟩
abbrev main_v291 : Ref sig .tc := ⟨.hbm, 381, rfl⟩
abbrev main_v292 : Ref sig .tc := ⟨.hbm, 382, rfl⟩
abbrev main_c_85 : Ref sig .tc := ⟨.hbm, 383, rfl⟩
abbrev main_v293 : Ref sig .tc := ⟨.hbm, 384, rfl⟩
abbrev main_v294 : Ref sig .tc := ⟨.hbm, 385, rfl⟩
abbrev main_c_86 : Ref sig .tc := ⟨.hbm, 386, rfl⟩
abbrev main_v295 : Ref sig .tc := ⟨.hbm, 387, rfl⟩
abbrev main_v296 : Ref sig .tc := ⟨.hbm, 388, rfl⟩
abbrev main_v297 : Ref sig .tc := ⟨.hbm, 389, rfl⟩
abbrev main_v298 : Ref sig .tc := ⟨.hbm, 390, rfl⟩
abbrev main_v299 : Ref sig .tc := ⟨.hbm, 391, rfl⟩
abbrev main_c_87 : Ref sig .tc := ⟨.hbm, 392, rfl⟩
abbrev main_v300 : Ref sig .tc := ⟨.hbm, 393, rfl⟩
abbrev main_v301 : Ref sig .tc := ⟨.hbm, 394, rfl⟩
abbrev main_c_88 : Ref sig .tc := ⟨.hbm, 395, rfl⟩
abbrev main_v302 : Ref sig .tc := ⟨.hbm, 396, rfl⟩
abbrev main_v303 : Ref sig .tc := ⟨.hbm, 397, rfl⟩
abbrev main_v304 : Ref sig .tc := ⟨.hbm, 398, rfl⟩
abbrev main_v305 : Ref sig .tc := ⟨.hbm, 399, rfl⟩
abbrev main_v306 : Ref sig .tc := ⟨.hbm, 400, rfl⟩
abbrev main_v307 : Ref sig .tc := ⟨.hbm, 401, rfl⟩
abbrev main_c_89 : Ref sig .tc := ⟨.hbm, 402, rfl⟩
abbrev main_v308 : Ref sig .tc := ⟨.hbm, 403, rfl⟩
abbrev main_v309 : Ref sig .tc := ⟨.hbm, 404, rfl⟩
abbrev main_v310 : Ref sig .tc := ⟨.hbm, 405, rfl⟩
abbrev main_c_90 : Ref sig .tc := ⟨.hbm, 406, rfl⟩
abbrev main_v311 : Ref sig .tc := ⟨.hbm, 407, rfl⟩
abbrev main_v312 : Ref sig .tc := ⟨.hbm, 408, rfl⟩
abbrev main_c_91 : Ref sig .tc := ⟨.hbm, 409, rfl⟩
abbrev main_v313 : Ref sig .tc := ⟨.hbm, 410, rfl⟩
abbrev main_v314 : Ref sig .tc := ⟨.hbm, 411, rfl⟩
abbrev main_v315 : Ref sig .tc := ⟨.hbm, 412, rfl⟩
abbrev main_v316 : Ref sig .tc := ⟨.hbm, 413, rfl⟩
abbrev main_v317 : Ref sig .tc := ⟨.hbm, 414, rfl⟩
abbrev main_c_92 : Ref sig .tc := ⟨.hbm, 415, rfl⟩
abbrev main_v318 : Ref sig .tc := ⟨.hbm, 416, rfl⟩
abbrev main_v319 : Ref sig .tc := ⟨.hbm, 417, rfl⟩
abbrev main_c_93 : Ref sig .tc := ⟨.hbm, 418, rfl⟩
abbrev main_v320 : Ref sig .tc := ⟨.hbm, 419, rfl⟩
abbrev main_v321 : Ref sig .tc := ⟨.hbm, 420, rfl⟩
abbrev main_v322 : Ref sig .tc := ⟨.hbm, 421, rfl⟩
abbrev main_v323 : Ref sig .tc := ⟨.hbm, 422, rfl⟩
abbrev main_v324 : Ref sig .tc := ⟨.hbm, 423, rfl⟩
abbrev main_c_94 : Ref sig .tc := ⟨.hbm, 424, rfl⟩
abbrev main_v325 : Ref sig .tc := ⟨.hbm, 425, rfl⟩
abbrev main_v326 : Ref sig .tc := ⟨.hbm, 426, rfl⟩
abbrev main_c_95 : Ref sig .tc := ⟨.hbm, 427, rfl⟩
abbrev main_v327 : Ref sig .tc := ⟨.hbm, 428, rfl⟩
abbrev main_v328 : Ref sig .tc := ⟨.hbm, 429, rfl⟩
abbrev main_v329 : Ref sig .tc := ⟨.hbm, 430, rfl⟩
abbrev main_v330 : Ref sig .tc := ⟨.hbm, 431, rfl⟩
abbrev main_v331 : Ref sig .tc := ⟨.hbm, 432, rfl⟩
abbrev main_c_96 : Ref sig .tc := ⟨.hbm, 433, rfl⟩
abbrev main_v332 : Ref sig .tc := ⟨.hbm, 434, rfl⟩
abbrev main_v333 : Ref sig .tc := ⟨.hbm, 435, rfl⟩
abbrev main_c_97 : Ref sig .tc := ⟨.hbm, 436, rfl⟩
abbrev main_v334 : Ref sig .tc := ⟨.hbm, 437, rfl⟩
abbrev main_v335 : Ref sig .tc := ⟨.hbm, 438, rfl⟩
abbrev main_v336 : Ref sig .tc := ⟨.hbm, 439, rfl⟩
abbrev main_v337 : Ref sig .tc := ⟨.hbm, 440, rfl⟩
abbrev main_v338 : Ref sig .tc := ⟨.hbm, 441, rfl⟩
abbrev main_v339 : Ref sig .tc := ⟨.hbm, 442, rfl⟩
abbrev main_c_98 : Ref sig .tc := ⟨.hbm, 443, rfl⟩
abbrev main_v340 : Ref sig .tc := ⟨.hbm, 444, rfl⟩
abbrev main_v341 : Ref sig .tc := ⟨.hbm, 445, rfl⟩
abbrev main_v342 : Ref sig .tc := ⟨.hbm, 446, rfl⟩
abbrev main_c_99 : Ref sig .tc := ⟨.hbm, 447, rfl⟩
abbrev main_v343 : Ref sig .tc := ⟨.hbm, 448, rfl⟩
abbrev main_v344 : Ref sig .tc := ⟨.hbm, 449, rfl⟩
abbrev main_c_100 : Ref sig .tc := ⟨.hbm, 450, rfl⟩
abbrev main_v345 : Ref sig .tc := ⟨.hbm, 451, rfl⟩
abbrev main_v346 : Ref sig .tc := ⟨.hbm, 452, rfl⟩
abbrev main_v347 : Ref sig .tc := ⟨.hbm, 453, rfl⟩
abbrev main_v348 : Ref sig .tc := ⟨.hbm, 454, rfl⟩
abbrev main_v349 : Ref sig .tc := ⟨.hbm, 455, rfl⟩
abbrev main_c_101 : Ref sig .tc := ⟨.hbm, 456, rfl⟩
abbrev main_v350 : Ref sig .tc := ⟨.hbm, 457, rfl⟩
abbrev main_v351 : Ref sig .tc := ⟨.hbm, 458, rfl⟩
abbrev main_c_102 : Ref sig .tc := ⟨.hbm, 459, rfl⟩
abbrev main_v352 : Ref sig .tc := ⟨.hbm, 460, rfl⟩
abbrev main_v353 : Ref sig .tc := ⟨.hbm, 461, rfl⟩
abbrev main_v354 : Ref sig .tc := ⟨.hbm, 462, rfl⟩
abbrev main_v355 : Ref sig .tc := ⟨.hbm, 463, rfl⟩
abbrev main_v356 : Ref sig .tc := ⟨.hbm, 464, rfl⟩
abbrev main_c_103 : Ref sig .tc := ⟨.hbm, 465, rfl⟩
abbrev main_v357 : Ref sig .tc := ⟨.hbm, 466, rfl⟩
abbrev main_v358 : Ref sig .tc := ⟨.hbm, 467, rfl⟩
abbrev main_c_104 : Ref sig .tc := ⟨.hbm, 468, rfl⟩
abbrev main_v359 : Ref sig .tc := ⟨.hbm, 469, rfl⟩
abbrev main_v360 : Ref sig .tc := ⟨.hbm, 470, rfl⟩
abbrev main_v361 : Ref sig .tc := ⟨.hbm, 471, rfl⟩
abbrev main_v362 : Ref sig .tc := ⟨.hbm, 472, rfl⟩
abbrev main_v363 : Ref sig .tc := ⟨.hbm, 473, rfl⟩
abbrev main_c_105 : Ref sig .tc := ⟨.hbm, 474, rfl⟩
abbrev main_v364 : Ref sig .tc := ⟨.hbm, 475, rfl⟩
abbrev main_v365 : Ref sig .tc := ⟨.hbm, 476, rfl⟩
abbrev main_c_106 : Ref sig .tc := ⟨.hbm, 477, rfl⟩
abbrev main_v366 : Ref sig .tc := ⟨.hbm, 478, rfl⟩
abbrev main_v367 : Ref sig .tc := ⟨.hbm, 479, rfl⟩
abbrev main_v368 : Ref sig .tc := ⟨.hbm, 480, rfl⟩
abbrev main_v369 : Ref sig .tc := ⟨.hbm, 481, rfl⟩
abbrev main_v370 : Ref sig .tc := ⟨.hbm, 482, rfl⟩
abbrev main_v371 : Ref sig .tc := ⟨.hbm, 483, rfl⟩
abbrev main_c_107 : Ref sig .tc := ⟨.hbm, 484, rfl⟩
abbrev main_v372 : Ref sig .tc := ⟨.hbm, 485, rfl⟩
abbrev main_v373 : Ref sig .tc := ⟨.hbm, 486, rfl⟩
abbrev main_v374 : Ref sig .tc := ⟨.hbm, 487, rfl⟩
abbrev main_c_108 : Ref sig .tc := ⟨.hbm, 488, rfl⟩
abbrev main_v375 : Ref sig .tc := ⟨.hbm, 489, rfl⟩
abbrev main_v376 : Ref sig .tc := ⟨.hbm, 490, rfl⟩
abbrev main_c_109 : Ref sig .tc := ⟨.hbm, 491, rfl⟩
abbrev main_v377 : Ref sig .tc := ⟨.hbm, 492, rfl⟩
abbrev main_v378 : Ref sig .tc := ⟨.hbm, 493, rfl⟩
abbrev main_v379 : Ref sig .tc := ⟨.hbm, 494, rfl⟩
abbrev main_cst_110 : Ref sig .tc := ⟨.hbm, 495, rfl⟩
abbrev main_v380 : Ref sig .tc := ⟨.hbm, 496, rfl⟩
abbrev main_v381 : Ref sig .tc := ⟨.hbm, 497, rfl⟩
abbrev main_cst_111 : Ref sig .tc := ⟨.hbm, 498, rfl⟩
abbrev main_v382 : Ref sig .tc := ⟨.hbm, 499, rfl⟩
abbrev main_v383 : Ref sig .tc := ⟨.hbm, 500, rfl⟩
abbrev main_v384 : Ref sig .tc := ⟨.hbm, 501, rfl⟩
abbrev main_v385 : Ref sig .tc := ⟨.hbm, 502, rfl⟩
abbrev main_v386 : Ref sig .tc := ⟨.hbm, 503, rfl⟩
abbrev main_v387 : Ref sig .tc := ⟨.hbm, 504, rfl⟩
abbrev main_v388 : Ref sig .tc := ⟨.hbm, 505, rfl⟩
abbrev main_v389 : Ref sig .tc := ⟨.hbm, 506, rfl⟩
abbrev main_v390 : Ref sig .tc := ⟨.hbm, 507, rfl⟩
abbrev main_cst_112 : Ref sig .tc := ⟨.hbm, 508, rfl⟩
abbrev main_v391 : Ref sig .tc := ⟨.hbm, 509, rfl⟩
abbrev main_v392 : Ref sig .tc := ⟨.hbm, 510, rfl⟩
abbrev main_v393 : Ref sig .tc := ⟨.hbm, 511, rfl⟩
abbrev main_v394 : Ref sig .tc := ⟨.hbm, 512, rfl⟩
abbrev main_v395 : Ref sig .tc := ⟨.hbm, 513, rfl⟩
abbrev main_c_113 : Ref sig .tc := ⟨.hbm, 514, rfl⟩
abbrev main_call0_v0 : Ref sig .tc := ⟨.hbm, 515, rfl⟩
abbrev main_call0_v1 : Ref sig .tc := ⟨.hbm, 516, rfl⟩
abbrev main_v396 : Ref sig .tc := ⟨.hbm, 517, rfl⟩
abbrev main_c_114 : Ref sig .tc := ⟨.hbm, 518, rfl⟩
abbrev main_v397 : Ref sig .tc := ⟨.hbm, 519, rfl⟩
abbrev main_v398 : Ref sig .tc := ⟨.hbm, 520, rfl⟩
abbrev main_v399 : Ref sig .tc := ⟨.hbm, 521, rfl⟩
abbrev main_v400 : Ref sig .tc := ⟨.hbm, 522, rfl⟩
abbrev main_v401 : Ref sig .tc := ⟨.hbm, 523, rfl⟩
abbrev main_v402 : Ref sig .tc := ⟨.hbm, 524, rfl⟩
abbrev main_v403 : Ref sig .tc := ⟨.hbm, 525, rfl⟩
abbrev main_v404 : Ref sig .tc := ⟨.hbm, 526, rfl⟩
abbrev main_v405 : Ref sig .tc := ⟨.hbm, 527, rfl⟩
abbrev main_v406 : Ref sig .tc := ⟨.hbm, 528, rfl⟩
abbrev main_c_115 : Ref sig .tc := ⟨.hbm, 529, rfl⟩
abbrev main_v407 : Ref sig .tc := ⟨.hbm, 530, rfl⟩
abbrev main_v408 : Ref sig .tc := ⟨.hbm, 531, rfl⟩
abbrev main_v409 : Ref sig .tc := ⟨.hbm, 532, rfl⟩
abbrev main_v410 : Ref sig .tc := ⟨.hbm, 533, rfl⟩
abbrev main_v411 : Ref sig .tc := ⟨.hbm, 534, rfl⟩
abbrev main_cst_116 : Ref sig .tc := ⟨.hbm, 535, rfl⟩
abbrev main_v412 : Ref sig .tc := ⟨.hbm, 536, rfl⟩
abbrev main_v413 : Ref sig .tc := ⟨.hbm, 537, rfl⟩
abbrev main_v414 : Ref sig .tc := ⟨.hbm, 538, rfl⟩
abbrev main_cst_117 : Ref sig .tc := ⟨.hbm, 539, rfl⟩
abbrev main_v415 : Ref sig .tc := ⟨.hbm, 540, rfl⟩
abbrev main_cst_118 : Ref sig .tc := ⟨.hbm, 541, rfl⟩
abbrev main_v416 : Ref sig .tc := ⟨.hbm, 542, rfl⟩
abbrev main_v417 : Ref sig .tc := ⟨.hbm, 543, rfl⟩
abbrev main_v418 : Ref sig .tc := ⟨.hbm, 544, rfl⟩
abbrev main_cst_119 : Ref sig .tc := ⟨.hbm, 545, rfl⟩
abbrev main_v419 : Ref sig .tc := ⟨.hbm, 546, rfl⟩
abbrev main_v420 : Ref sig .tc := ⟨.hbm, 547, rfl⟩
abbrev main_v421 : Ref sig .tc := ⟨.hbm, 548, rfl⟩
abbrev main_v422 : Ref sig .tc := ⟨.hbm, 549, rfl⟩
abbrev main_call1_c : Ref sig .tc := ⟨.hbm, 550, rfl⟩
abbrev main_call1_v0 : Ref sig .tc := ⟨.hbm, 551, rfl⟩
abbrev main_call1_v1 : Ref sig .tc := ⟨.hbm, 552, rfl⟩
abbrev main_call1_c_0 : Ref sig .tc := ⟨.hbm, 553, rfl⟩
abbrev main_call1_v2 : Ref sig .tc := ⟨.hbm, 554, rfl⟩
abbrev main_call1_v3 : Ref sig .tc := ⟨.hbm, 555, rfl⟩
abbrev main_call1_v4 : Ref sig .tc := ⟨.hbm, 556, rfl⟩
abbrev main_call1_v5 : Ref sig .tc := ⟨.hbm, 557, rfl⟩
abbrev main_call1_c_1 : Ref sig .tc := ⟨.hbm, 558, rfl⟩
abbrev main_call1_c_2 : Ref sig .tc := ⟨.hbm, 559, rfl⟩
abbrev main_call1_v6 : Ref sig .tc := ⟨.hbm, 560, rfl⟩
abbrev main_call1_v7 : Ref sig .tc := ⟨.hbm, 561, rfl⟩
abbrev main_call1_v8 : Ref sig .tc := ⟨.hbm, 562, rfl⟩
abbrev main_call1_v9 : Ref sig .tc := ⟨.hbm, 563, rfl⟩
abbrev main_call1_v10 : Ref sig .tc := ⟨.hbm, 564, rfl⟩
abbrev main_call1_v11 : Ref sig .tc := ⟨.hbm, 565, rfl⟩
abbrev main_call1_c_3 : Ref sig .tc := ⟨.hbm, 566, rfl⟩
abbrev main_call1_v12 : Ref sig .tc := ⟨.hbm, 567, rfl⟩
abbrev main_call1_v13 : Ref sig .tc := ⟨.hbm, 568, rfl⟩
abbrev main_call1_v14 : Ref sig .tc := ⟨.hbm, 569, rfl⟩
abbrev main_call1_cst : Ref sig .tc := ⟨.hbm, 570, rfl⟩
abbrev main_call1_v15 : Ref sig .tc := ⟨.hbm, 571, rfl⟩
abbrev main_v423 : Ref sig .tc := ⟨.hbm, 572, rfl⟩
abbrev main_v424 : Ref sig .tc := ⟨.hbm, 573, rfl⟩
abbrev main_v425 : Ref sig .tc := ⟨.hbm, 574, rfl⟩
abbrev main_cst_120 : Ref sig .tc := ⟨.hbm, 575, rfl⟩
abbrev main_v426 : Ref sig .tc := ⟨.hbm, 576, rfl⟩
abbrev main_v427 : Ref sig .tc := ⟨.hbm, 577, rfl⟩
abbrev main_v428 : Ref sig .tc := ⟨.hbm, 578, rfl⟩
abbrev main_v429 : Ref sig .tc := ⟨.hbm, 579, rfl⟩
abbrev main_v430 : Ref sig .tc := ⟨.hbm, 580, rfl⟩
abbrev main_v431 : Ref sig .tc := ⟨.hbm, 581, rfl⟩
abbrev main_v432 : Ref sig .tc := ⟨.hbm, 582, rfl⟩
abbrev main_c_121 : Ref sig .tc := ⟨.hbm, 583, rfl⟩
abbrev main_v433 : Ref sig .tc := ⟨.hbm, 584, rfl⟩
abbrev main_v434 : Ref sig .tc := ⟨.hbm, 585, rfl⟩
abbrev main_v435 : Ref sig .tc := ⟨.hbm, 586, rfl⟩
abbrev main_v436 : Ref sig .tc := ⟨.hbm, 587, rfl⟩
abbrev main_v437 : Ref sig .tc := ⟨.hbm, 588, rfl⟩
abbrev main_cst_122 : Ref sig .tc := ⟨.hbm, 589, rfl⟩
abbrev main_v438 : Ref sig .tc := ⟨.hbm, 590, rfl⟩
abbrev main_v439 : Ref sig .tc := ⟨.hbm, 591, rfl⟩
abbrev main_v440 : Ref sig .tc := ⟨.hbm, 592, rfl⟩
abbrev main_cst_123 : Ref sig .tc := ⟨.hbm, 593, rfl⟩
abbrev main_v441 : Ref sig .tc := ⟨.hbm, 594, rfl⟩
abbrev main_cst_124 : Ref sig .tc := ⟨.hbm, 595, rfl⟩
abbrev main_v442 : Ref sig .tc := ⟨.hbm, 596, rfl⟩
abbrev main_v443 : Ref sig .tc := ⟨.hbm, 597, rfl⟩
abbrev main_v444 : Ref sig .tc := ⟨.hbm, 598, rfl⟩
abbrev main_cst_125 : Ref sig .tc := ⟨.hbm, 599, rfl⟩
abbrev main_v445 : Ref sig .tc := ⟨.hbm, 600, rfl⟩
abbrev main_v446 : Ref sig .tc := ⟨.hbm, 601, rfl⟩
abbrev main_v447 : Ref sig .tc := ⟨.hbm, 602, rfl⟩
abbrev main_v448 : Ref sig .tc := ⟨.hbm, 603, rfl⟩
abbrev main_call2_c : Ref sig .tc := ⟨.hbm, 604, rfl⟩
abbrev main_call2_v0 : Ref sig .tc := ⟨.hbm, 605, rfl⟩
abbrev main_call2_v1 : Ref sig .tc := ⟨.hbm, 606, rfl⟩
abbrev main_call2_c_0 : Ref sig .tc := ⟨.hbm, 607, rfl⟩
abbrev main_call2_v2 : Ref sig .tc := ⟨.hbm, 608, rfl⟩
abbrev main_call2_v3 : Ref sig .tc := ⟨.hbm, 609, rfl⟩
abbrev main_call2_v4 : Ref sig .tc := ⟨.hbm, 610, rfl⟩
abbrev main_call2_v5 : Ref sig .tc := ⟨.hbm, 611, rfl⟩
abbrev main_call2_c_1 : Ref sig .tc := ⟨.hbm, 612, rfl⟩
abbrev main_call2_c_2 : Ref sig .tc := ⟨.hbm, 613, rfl⟩
abbrev main_call2_v6 : Ref sig .tc := ⟨.hbm, 614, rfl⟩
abbrev main_call2_v7 : Ref sig .tc := ⟨.hbm, 615, rfl⟩
abbrev main_call2_v8 : Ref sig .tc := ⟨.hbm, 616, rfl⟩
abbrev main_call2_v9 : Ref sig .tc := ⟨.hbm, 617, rfl⟩
abbrev main_call2_v10 : Ref sig .tc := ⟨.hbm, 618, rfl⟩
abbrev main_call2_v11 : Ref sig .tc := ⟨.hbm, 619, rfl⟩
abbrev main_call2_c_3 : Ref sig .tc := ⟨.hbm, 620, rfl⟩
abbrev main_call2_v12 : Ref sig .tc := ⟨.hbm, 621, rfl⟩
abbrev main_call2_v13 : Ref sig .tc := ⟨.hbm, 622, rfl⟩
abbrev main_call2_v14 : Ref sig .tc := ⟨.hbm, 623, rfl⟩
abbrev main_call2_cst : Ref sig .tc := ⟨.hbm, 624, rfl⟩
abbrev main_call2_v15 : Ref sig .tc := ⟨.hbm, 625, rfl⟩
abbrev main_v449 : Ref sig .tc := ⟨.hbm, 626, rfl⟩
abbrev main_v450 : Ref sig .tc := ⟨.hbm, 627, rfl⟩
abbrev main_v451 : Ref sig .tc := ⟨.hbm, 628, rfl⟩
abbrev main_cst_126 : Ref sig .tc := ⟨.hbm, 629, rfl⟩
abbrev main_v452 : Ref sig .tc := ⟨.hbm, 630, rfl⟩
abbrev main_v453 : Ref sig .tc := ⟨.hbm, 631, rfl⟩
abbrev main_v454 : Ref sig .tc := ⟨.hbm, 632, rfl⟩
abbrev main_v455 : Ref sig .tc := ⟨.hbm, 633, rfl⟩
abbrev main_v456 : Ref sig .tc := ⟨.hbm, 634, rfl⟩
abbrev main_v457 : Ref sig .tc := ⟨.hbm, 635, rfl⟩
abbrev main_v458 : Ref sig .tc := ⟨.hbm, 636, rfl⟩
abbrev main_v459 : Ref sig .tc := ⟨.hbm, 637, rfl⟩
abbrev main_c_127 : Ref sig .tc := ⟨.hbm, 638, rfl⟩
abbrev main_v460 : Ref sig .tc := ⟨.hbm, 639, rfl⟩
abbrev main_v461 : Ref sig .tc := ⟨.hbm, 640, rfl⟩
abbrev main_v462 : Ref sig .tc := ⟨.hbm, 641, rfl⟩
abbrev main_v463 : Ref sig .tc := ⟨.hbm, 642, rfl⟩
abbrev main_v464 : Ref sig .tc := ⟨.hbm, 643, rfl⟩
abbrev main_cst_128 : Ref sig .tc := ⟨.hbm, 644, rfl⟩
abbrev main_v465 : Ref sig .tc := ⟨.hbm, 645, rfl⟩
abbrev main_v466 : Ref sig .tc := ⟨.hbm, 646, rfl⟩
abbrev main_v467 : Ref sig .tc := ⟨.hbm, 647, rfl⟩
abbrev main_cst_129 : Ref sig .tc := ⟨.hbm, 648, rfl⟩
abbrev main_v468 : Ref sig .tc := ⟨.hbm, 649, rfl⟩
abbrev main_cst_130 : Ref sig .tc := ⟨.hbm, 650, rfl⟩
abbrev main_v469 : Ref sig .tc := ⟨.hbm, 651, rfl⟩
abbrev main_v470 : Ref sig .tc := ⟨.hbm, 652, rfl⟩
abbrev main_v471 : Ref sig .tc := ⟨.hbm, 653, rfl⟩
abbrev main_cst_131 : Ref sig .tc := ⟨.hbm, 654, rfl⟩
abbrev main_v472 : Ref sig .tc := ⟨.hbm, 655, rfl⟩
abbrev main_v473 : Ref sig .tc := ⟨.hbm, 656, rfl⟩
abbrev main_v474 : Ref sig .tc := ⟨.hbm, 657, rfl⟩
abbrev main_v475 : Ref sig .tc := ⟨.hbm, 658, rfl⟩
abbrev main_call3_c : Ref sig .tc := ⟨.hbm, 659, rfl⟩
abbrev main_call3_v0 : Ref sig .tc := ⟨.hbm, 660, rfl⟩
abbrev main_call3_v1 : Ref sig .tc := ⟨.hbm, 661, rfl⟩
abbrev main_call3_c_0 : Ref sig .tc := ⟨.hbm, 662, rfl⟩
abbrev main_call3_v2 : Ref sig .tc := ⟨.hbm, 663, rfl⟩
abbrev main_call3_v3 : Ref sig .tc := ⟨.hbm, 664, rfl⟩
abbrev main_call3_v4 : Ref sig .tc := ⟨.hbm, 665, rfl⟩
abbrev main_call3_v5 : Ref sig .tc := ⟨.hbm, 666, rfl⟩
abbrev main_call3_c_1 : Ref sig .tc := ⟨.hbm, 667, rfl⟩
abbrev main_call3_c_2 : Ref sig .tc := ⟨.hbm, 668, rfl⟩
abbrev main_call3_v6 : Ref sig .tc := ⟨.hbm, 669, rfl⟩
abbrev main_call3_v7 : Ref sig .tc := ⟨.hbm, 670, rfl⟩
abbrev main_call3_v8 : Ref sig .tc := ⟨.hbm, 671, rfl⟩
abbrev main_call3_v9 : Ref sig .tc := ⟨.hbm, 672, rfl⟩
abbrev main_call3_v10 : Ref sig .tc := ⟨.hbm, 673, rfl⟩
abbrev main_call3_v11 : Ref sig .tc := ⟨.hbm, 674, rfl⟩
abbrev main_call3_c_3 : Ref sig .tc := ⟨.hbm, 675, rfl⟩
abbrev main_call3_v12 : Ref sig .tc := ⟨.hbm, 676, rfl⟩
abbrev main_call3_v13 : Ref sig .tc := ⟨.hbm, 677, rfl⟩
abbrev main_call3_v14 : Ref sig .tc := ⟨.hbm, 678, rfl⟩
abbrev main_call3_cst : Ref sig .tc := ⟨.hbm, 679, rfl⟩
abbrev main_call3_v15 : Ref sig .tc := ⟨.hbm, 680, rfl⟩
abbrev main_v476 : Ref sig .tc := ⟨.hbm, 681, rfl⟩
abbrev main_v477 : Ref sig .tc := ⟨.hbm, 682, rfl⟩
abbrev main_v478 : Ref sig .tc := ⟨.hbm, 683, rfl⟩
abbrev main_cst_132 : Ref sig .tc := ⟨.hbm, 684, rfl⟩
abbrev main_v479 : Ref sig .tc := ⟨.hbm, 685, rfl⟩
abbrev main_v480 : Ref sig .tc := ⟨.hbm, 686, rfl⟩
abbrev main_v481 : Ref sig .tc := ⟨.hbm, 687, rfl⟩
abbrev main_v482 : Ref sig .tc := ⟨.hbm, 688, rfl⟩
abbrev main_v483 : Ref sig .tc := ⟨.hbm, 689, rfl⟩
abbrev main_v484 : Ref sig .tc := ⟨.hbm, 690, rfl⟩
abbrev main_v485 : Ref sig .tc := ⟨.hbm, 691, rfl⟩
abbrev main_v486 : Ref sig .tc := ⟨.hbm, 692, rfl⟩
abbrev main_c_133 : Ref sig .tc := ⟨.hbm, 693, rfl⟩
abbrev main_v487 : Ref sig .tc := ⟨.hbm, 694, rfl⟩
abbrev main_v488 : Ref sig .tc := ⟨.hbm, 695, rfl⟩
abbrev main_v489 : Ref sig .tc := ⟨.hbm, 696, rfl⟩
abbrev main_v490 : Ref sig .tc := ⟨.hbm, 697, rfl⟩
abbrev main_v491 : Ref sig .tc := ⟨.hbm, 698, rfl⟩
abbrev main_cst_134 : Ref sig .tc := ⟨.hbm, 699, rfl⟩
abbrev main_v492 : Ref sig .tc := ⟨.hbm, 700, rfl⟩
abbrev main_v493 : Ref sig .tc := ⟨.hbm, 701, rfl⟩
abbrev main_v494 : Ref sig .tc := ⟨.hbm, 702, rfl⟩
abbrev main_cst_135 : Ref sig .tc := ⟨.hbm, 703, rfl⟩
abbrev main_v495 : Ref sig .tc := ⟨.hbm, 704, rfl⟩
abbrev main_cst_136 : Ref sig .tc := ⟨.hbm, 705, rfl⟩
abbrev main_v496 : Ref sig .tc := ⟨.hbm, 706, rfl⟩
abbrev main_v497 : Ref sig .tc := ⟨.hbm, 707, rfl⟩
abbrev main_v498 : Ref sig .tc := ⟨.hbm, 708, rfl⟩
abbrev main_cst_137 : Ref sig .tc := ⟨.hbm, 709, rfl⟩
abbrev main_v499 : Ref sig .tc := ⟨.hbm, 710, rfl⟩
abbrev main_v500 : Ref sig .tc := ⟨.hbm, 711, rfl⟩
abbrev main_v501 : Ref sig .tc := ⟨.hbm, 712, rfl⟩
abbrev main_v502 : Ref sig .tc := ⟨.hbm, 713, rfl⟩
abbrev main_call4_c : Ref sig .tc := ⟨.hbm, 714, rfl⟩
abbrev main_call4_v0 : Ref sig .tc := ⟨.hbm, 715, rfl⟩
abbrev main_call4_v1 : Ref sig .tc := ⟨.hbm, 716, rfl⟩
abbrev main_call4_c_0 : Ref sig .tc := ⟨.hbm, 717, rfl⟩
abbrev main_call4_v2 : Ref sig .tc := ⟨.hbm, 718, rfl⟩
abbrev main_call4_v3 : Ref sig .tc := ⟨.hbm, 719, rfl⟩
abbrev main_call4_v4 : Ref sig .tc := ⟨.hbm, 720, rfl⟩
abbrev main_call4_v5 : Ref sig .tc := ⟨.hbm, 721, rfl⟩
abbrev main_call4_c_1 : Ref sig .tc := ⟨.hbm, 722, rfl⟩
abbrev main_call4_c_2 : Ref sig .tc := ⟨.hbm, 723, rfl⟩
abbrev main_call4_v6 : Ref sig .tc := ⟨.hbm, 724, rfl⟩
abbrev main_call4_v7 : Ref sig .tc := ⟨.hbm, 725, rfl⟩
abbrev main_call4_v8 : Ref sig .tc := ⟨.hbm, 726, rfl⟩
abbrev main_call4_v9 : Ref sig .tc := ⟨.hbm, 727, rfl⟩
abbrev main_call4_v10 : Ref sig .tc := ⟨.hbm, 728, rfl⟩
abbrev main_call4_v11 : Ref sig .tc := ⟨.hbm, 729, rfl⟩
abbrev main_call4_c_3 : Ref sig .tc := ⟨.hbm, 730, rfl⟩
abbrev main_call4_v12 : Ref sig .tc := ⟨.hbm, 731, rfl⟩
abbrev main_call4_v13 : Ref sig .tc := ⟨.hbm, 732, rfl⟩
abbrev main_call4_v14 : Ref sig .tc := ⟨.hbm, 733, rfl⟩
abbrev main_call4_cst : Ref sig .tc := ⟨.hbm, 734, rfl⟩
abbrev main_call4_v15 : Ref sig .tc := ⟨.hbm, 735, rfl⟩
abbrev main_v503 : Ref sig .tc := ⟨.hbm, 736, rfl⟩
abbrev main_v504 : Ref sig .tc := ⟨.hbm, 737, rfl⟩
abbrev main_v505 : Ref sig .tc := ⟨.hbm, 738, rfl⟩
abbrev main_cst_138 : Ref sig .tc := ⟨.hbm, 739, rfl⟩
abbrev main_v506 : Ref sig .tc := ⟨.hbm, 740, rfl⟩
abbrev main_v507 : Ref sig .tc := ⟨.hbm, 741, rfl⟩
abbrev main_v508 : Ref sig .tc := ⟨.hbm, 742, rfl⟩

abbrev nD : Nat := 1
abbrev τ : Topo := Topo.v7x

variable {F : FTy → Type} [FloatOps F]
-- ==== Proof.Race.lean ====
/- The race and the score of a draw: the superpixel whose race is least is the one whose score is greatest. -/
module

public import Idealize.ShloMosaic.Lib.Pointwise
public import Mathlib.Analysis.SpecialFunctions.Log.Basic

@[expose] public section

set_option maxRecDepth 16384

noncomputable section

namespace Cert.Proof

open Idealize.ShloMosaic

/-- What a positive normal pattern denotes. -/
theorem ofBits_normal (b : BitVec 32) (ex fr : ℕ) (h : b.toNat = ex * 8388608 + fr) (hfr : fr < 8388608) (h0 : 0 < ex) (h1 : ex < 255) :
    Ideal.ofBits .f32 b = (((8388608 + fr : ℝ) * 2 ^ ((ex : ℤ) - 150) : ℝ) : EReal) := by
  show Ideal.ieee 8 23 b = _
  have e1 : b.extractLsb' 31 1 = 0#1 := by
    apply BitVec.eq_of_toNat_eq
    simp only [BitVec.extractLsb'_toNat, Nat.shiftRight_eq_div_pow, h]
    show _ = 0
    omega
  have e2 : (b.extractLsb' 23 8).toNat = ex := by
    simp only [BitVec.extractLsb'_toNat, Nat.shiftRight_eq_div_pow, h]
    omega
  have e3 : (b.extractLsb' 0 23).toNat = fr := by
    simp only [BitVec.extractLsb'_toNat, Nat.shiftRight_eq_div_pow, h]
    omega
  unfold Ideal.ieee
  simp only [Nat.reduceAdd, e1, e2, e3]
  rw [if_neg (by omega), if_neg (by omega)]
  congr 1
  norm_num
  left
  rw [show ((ex : ℤ) - 127 - 23) = ex - 150 by ring]

/-- The uniform draw of a word. -/
def unif (d : BitVec 32) : EReal :=
  max (Ideal.ofBits .f32 (IntOp.ori (IntOp.shrui .vector d 9#32) 1065353216#32) - 1) (Ideal.ofBits .f32 8388608#32)

theorem unit_toNat (d : BitVec 32) : (IntOp.ori (IntOp.shrui .vector d 9#32) 1065353216#32).toNat = 127 * 8388608 + d.toNat / 512 := by
  have hs : IntOp.shrui .vector d 9#32 = d >>> 9 := rfl
  rw [hs]
  unfold IntOp.ori
  rw [BitVec.toNat_or, BitVec.toNat_ushiftRight, Nat.shiftRight_eq_div_pow, Nat.or_comm]
  have hd : d.toNat / 2 ^ 9 < 2 ^ 23 := by have := d.isLt; omega
  have := Nat.two_pow_add_eq_or_of_lt hd 127
  show 2 ^ 23 * 127 ||| d.toNat / 2 ^ 9 = _
  rw [← this]
  omega

/-- The draw is a real strictly between 0 and 1. -/
theorem unif_real (d : BitVec 32) : ∃ u : ℝ, 0 < u ∧ u < 1 ∧ unif d = (u : EReal) := by
  have hd : d.toNat / 512 < 8388608 := by have := d.isLt; omega
  have e1 := ofBits_normal _ 127 (d.toNat / 512) (unit_toNat d) hd (by omega) (by omega)
  have e2 := ofBits_normal 8388608#32 1 0 (by decide) (by omega) (by omega) (by omega)
  generalize hn : d.toNat / 512 = n at *
  have hn' : (n : ℝ) < 8388608 := by exact_mod_cast hd
  have hn0 : (0 : ℝ) ≤ n := Nat.cast_nonneg _
  have ht : ((8388608 + ((0 : ℕ) : ℝ)) * 2 ^ (((1 : ℕ) : ℤ) - 150) : ℝ) = 2 ^ (-126 : ℤ) := by norm_num
  rw [ht] at e2
  have hu : ((8388608 + (n : ℝ)) * 2 ^ (((127 : ℕ) : ℤ) - 150) : ℝ) = 1 + n / 8388608 := by
    norm_num; ring
  rw [hu] at e1
  refine ⟨max (n / 8388608) (2 ^ (-126 : ℤ)), lt_max_of_lt_right (by positivity), max_lt ?_ (by norm_num), ?_⟩
  · rw [div_lt_one (by norm_num)]; exact hn'
  · unfold unif
    rw [e1, e2, EReal.coe_strictMono.monotone.map_max]
    congr 1
    rw [← EReal.coe_one, ← EReal.coe_sub]
    congr 1
    ring

theorem ofBits_shift : ∃ k : ℝ, 0 < k ∧ Ideal.ofBits .f32 814313567#32 = (k : EReal) :=
  ⟨_, by positivity, ofBits_normal 814313567#32 97 618591 (by decide) (by omega) (by omega) (by omega)⟩

theorem ofBits_96 : Ideal.ofBits .f32 1119879168#32 = ((96 : ℝ) : EReal) := by
  rw [ofBits_normal 1119879168#32 133 4194304 (by decide) (by omega) (by omega) (by omega)]
  congr 1
  norm_num

theorem ofBits_quarter : Ideal.ofBits .f32 1048576000#32 = ((1 / 4 : ℝ) : EReal) := by
  rw [ofBits_normal 1048576000#32 125 0 (by decide) (by omega) (by omega) (by omega)]
  congr 1
  norm_num

theorem ofBits_four : Ideal.ofBits .f32 1082130432#32 = ((4 : ℝ) : EReal) := by
  rw [ofBits_normal 1082130432#32 129 0 (by decide) (by omega) (by omega) (by omega)]
  congr 1
  norm_num

theorem ofBits_top : Ideal.ofBits .f32 2139095040#32 = ⊤ := by
  show Ideal.ieee 8 23 2139095040#32 = _
  have e1 : (2139095040#32).extractLsb' 31 1 = 0#1 := by decide
  have e2 : ((2139095040#32).extractLsb' 23 8).toNat = 255 := by decide
  have e3 : ((2139095040#32).extractLsb' 0 23).toNat = 0 := by decide
  unfold Ideal.ieee
  simp [e1, e2, e3]

theorem ofBits_bot : Ideal.ofBits .f32 4286578688#32 = ⊥ := by
  show Ideal.ieee 8 23 4286578688#32 = _
  have e1 : (4286578688#32).extractLsb' 31 1 = 1#1 := by decide
  have e2 : ((4286578688#32).extractLsb' 23 8).toNat = 255 := by decide
  have e3 : ((4286578688#32).extractLsb' 0 23).toNat = 0 := by decide
  unfold Ideal.ieee
  simp [e1, e2, e3]

theorem exp_coe (r : ℝ) : Ideal.exp (r : EReal) = (Real.exp r : EReal) := rfl
theorem log_coe {r : ℝ} (h : 0 < r) : Ideal.log (r : EReal) = (Real.log r : EReal) := if_neg (not_le.2 h)
theorem div_coe (a : ℝ) {b : ℝ} (h : b ≠ 0) : Ideal.div (a : EReal) (b : EReal) = ((a / b : ℝ) : EReal) := by
  unfold Ideal.div
  rw [if_neg (by exact_mod_cast h), ← EReal.coe_inv, ← EReal.coe_mul, div_eq_mul_inv]
theorem sum_coe {ι : Type} (t : Finset ι) (f : ι → ℝ) : ∑ a ∈ t, (f a : EReal) = ((∑ a ∈ t, f a : ℝ) : EReal) := by
  classical
  induction t using Finset.induction_on with
  | empty => simp
  | insert a t ha ih => rw [Finset.sum_insert ha, Finset.sum_insert ha, ih, EReal.coe_add]

/-- A value is the maximum exactly when none is greater. -/
theorem eq_foldMax {ι : Type} [Fintype ι] (f : ι → EReal) (s : ι) : f s = Finset.univ.fold max ⊥ f ↔ ∀ a, f a ≤ f s := by
  constructor
  · intro h a
    rw [h]
    exact Finset.le_fold_max _ |>.2 (.inr ⟨a, Finset.mem_univ _, le_rfl⟩)
  · intro h
    exact le_antisymm (Finset.le_fold_max _ |>.2 (.inr ⟨s, Finset.mem_univ _, le_rfl⟩))
      (Finset.fold_max_le _ |>.2 ⟨bot_le, fun a _ => h a⟩)

/-- A value is the minimum exactly when none is less. -/
theorem eq_foldMin {ι : Type} [Fintype ι] (f : ι → EReal) (s : ι) : f s = Finset.univ.fold min ⊤ f ↔ ∀ a, f s ≤ f a := by
  constructor
  · intro h a
    rw [h]
    exact Finset.fold_min_le _ |>.2 (.inr ⟨a, Finset.mem_univ _, le_rfl⟩)
  · intro h
    exact le_antisymm (Finset.le_fold_min _ |>.2 ⟨le_top, fun a _ => h a⟩)
      (Finset.fold_min_le _ |>.2 (.inr ⟨s, Finset.mem_univ _, le_rfl⟩))

variable (lg : Fin 196 → EReal) (d : Fin 196 → BitVec 32)

/-- The greatest logit. -/
def top : EReal := Finset.univ.fold max (Ideal.ofBits .f32 4286578688#32) lg

/-- The inverse weight of a superpixel. -/
def weight (s : Fin 196) : EReal :=
  Ideal.div 1 (Ideal.exp (lg s - top lg) + Ideal.ofBits .f32 814313567#32 * ∑ a, Ideal.exp (lg a - top lg))

/-- The race: minus the logarithm of the draw, times the inverse weight. -/
def race (s : Fin 196) : EReal := (0 - Ideal.log (unif (d s))) * weight lg s

/-- The score: Gumbel noise plus the logarithm of the share. -/
def score (s : Fin 196) : EReal :=
  -Ideal.log (-Ideal.log (unif (d s)))
    + Ideal.log (Ideal.div (Ideal.exp (lg s - top lg)) (∑ a, Ideal.exp (lg a - top lg)) + Ideal.ofBits .f32 814313567#32)

/-- The logits' exponentials, less the greatest: nonnegative reals, one of them positive, or all zero, where the greatest logit is infinite. -/
theorem exps_cases :
    (∃ q : Fin 196 → ℝ, (∀ s, 0 ≤ q s) ∧ 0 < ∑ a, q a ∧ ∀ s, Ideal.exp (lg s - top lg) = (q s : EReal)) ∨ ∀ s, Ideal.exp (lg s - top lg) = 0 := by
  have hle : ∀ s, lg s ≤ top lg := fun s => Finset.le_fold_max _ |>.2 (.inr ⟨s, Finset.mem_univ _, le_rfl⟩)
  obtain ⟨s₀, -, h₀⟩ := Finset.exists_max_image Finset.univ lg ⟨0, Finset.mem_univ _⟩
  have hs₀ : lg s₀ = top lg := by
    unfold top
    rw [ofBits_bot]
    exact (eq_foldMax lg s₀).2 fun b => h₀ b (Finset.mem_univ _)
  induction ht : top lg with
  | top =>
    refine .inr fun s => ?_
    rw [sub_eq_add_neg, EReal.neg_top, EReal.add_bot]
    rfl
  | bot =>
    refine .inr fun s => ?_
    have hs := hle s
    rw [ht, le_bot_iff] at hs
    rw [hs, sub_eq_add_neg, EReal.bot_add]
    rfl
  | coe M =>
    rw [ht] at hle
    have hr : ∀ s, ∃ r : ℝ, 0 ≤ r ∧ Ideal.exp (lg s - (M : EReal)) = (r : EReal) := fun s => by
      induction h : lg s with
      | top => exact absurd (h ▸ hle s) (by simp)
      | bot => exact ⟨0, le_rfl, by rw [sub_eq_add_neg, EReal.bot_add]; rfl⟩
      | coe l => exact ⟨Real.exp (l - M), (Real.exp_pos _).le, by rw [← EReal.coe_sub, exp_coe]⟩
    choose q hq0 hq using hr
    refine .inl ⟨q, hq0, Finset.sum_pos' (fun a _ => hq0 a) ⟨s₀, Finset.mem_univ _, ?_⟩, hq⟩
    have e : (q s₀ : EReal) = ((1 : ℝ) : EReal) := by
      rw [← hq, hs₀, ht, ← EReal.coe_sub, exp_coe, sub_self, Real.exp_zero]
    rw [EReal.coe_eq_coe_iff.1 e]
    exact one_pos

/-- Where the exponentials are reals, the score is minus the logarithm of the race, less a constant. -/
theorem race_score {q : Fin 196 → ℝ} (hq0 : ∀ s, 0 ≤ q s) (hz : 0 < ∑ a, q a) (ee : ∀ s, Ideal.exp (lg s - top lg) = (q s : EReal)) :
    ∃ (C : ℝ) (r : Fin 196 → ℝ), ∀ s, 0 < r s ∧ race lg d s = (r s : EReal) ∧ score lg d s = ((-Real.log (r s) - C : ℝ) : EReal) := by
  choose u hu0 hu1 hu using fun s => unif_real (d s)
  obtain ⟨k, hk, ek⟩ := ofBits_shift
  have ez : ∑ a, Ideal.exp (lg a - top lg) = ((∑ a, q a : ℝ) : EReal) := by
    rw [← sum_coe]; exact Finset.sum_congr rfl fun a _ => ee a
  generalize (∑ a, q a) = z at *
  have hL : ∀ s, 0 < -Real.log (u s) := fun s => neg_pos.2 (Real.log_neg (hu0 s) (hu1 s))
  have hw : ∀ s, 0 < q s + k * z := fun s => by have := hq0 s; positivity
  refine ⟨Real.log z, fun s => -Real.log (u s) * (1 / (q s + k * z)), fun s => ⟨?_, ?_, ?_⟩⟩
  · exact mul_pos (hL s) (one_div_pos.2 (hw s))
  · unfold race weight
    rw [ee, ez, hu, ek, log_coe (hu0 s), ← EReal.coe_mul, ← EReal.coe_add, ← EReal.coe_one, div_coe _ (hw s).ne', ← EReal.coe_zero,
      ← EReal.coe_sub, ← EReal.coe_mul, zero_sub]
  · unfold score
    have hp : 0 < q s / z + k := by have := hq0 s; positivity
    rw [ee, ez, hu, ek, log_coe (hu0 s), ← EReal.coe_neg, log_coe (hL s), ← EReal.coe_neg, div_coe _ hz.ne', ← EReal.coe_add, log_coe hp,
      ← EReal.coe_add]
    congr 1
    have e : q s / z + k = (q s + k * z) / z := by field_simp
    rw [e, Real.log_div (hw s).ne' hz.ne', Real.log_mul (hL s).ne' (one_div_pos.2 (hw s)).ne', one_div, Real.log_inv]
    ring

/-- Where the exponentials are all zero, every score is the same. -/
theorem score_bot (h : ∀ s, Ideal.exp (lg s - top lg) = 0) (s : Fin 196) : score lg d s = ⊥ := by
  obtain ⟨k, hk, ek⟩ := ofBits_shift
  have ez : ∑ a, Ideal.exp (lg a - top lg) = 0 := Finset.sum_eq_zero fun a _ => h a
  have ed : Ideal.div 0 0 = ⊥ := by
    unfold Ideal.div
    rw [if_pos rfl, if_neg (lt_irrefl _)]
  unfold score
  rw [h, ez, ed, EReal.bot_add]
  exact EReal.add_bot _

/-- Where one superpixel alone has the greatest score, the least race and the greatest score are attained at the same superpixels. -/
theorem race_iff_score (hu : ∃ l, ∀ s, score lg d s = Finset.univ.fold max (Ideal.ofBits .f32 4286578688#32) (score lg d) ↔ s = l) (s : Fin 196) :
    race lg d s = Finset.univ.fold min (Ideal.ofBits .f32 2139095040#32) (race lg d)
      ↔ score lg d s = Finset.univ.fold max (Ideal.ofBits .f32 4286578688#32) (score lg d) := by
  rw [ofBits_bot] at hu ⊢
  rcases exps_cases lg with ⟨q, hq0, hz, ee⟩ | h0
  · obtain ⟨C, r, h⟩ := race_score lg d hq0 hz ee
    rw [ofBits_top, eq_foldMin, eq_foldMax]
    refine forall_congr' fun a => ?_
    rw [(h s).2.1, (h a).2.1, (h s).2.2, (h a).2.2, EReal.coe_le_coe_iff, EReal.coe_le_coe_iff, sub_le_sub_iff_right, neg_le_neg_iff,
      Real.log_le_log_iff (h s).1 (h a).1]
  · obtain ⟨l, hl⟩ := hu
    have hall : ∀ a, a = l := fun a => (hl a).1 ((eq_foldMax _ a).2 fun b => by rw [score_bot lg d h0, score_bot lg d h0])
    exact absurd ((hall 0).trans (hall 1).symm) (by decide)

end Cert.Proof

end
-- ==== Proof.Points.lean ====
/- The kernel's grid points: the conditions of its branches in closed form over the point's number, and the staging and scratch
   memrefs the body is called with there. -/
module

public import proofs.«01_k».proof.Proof.Gen.KernelIdeal.Frame

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points whose coordinates have i1 = 0 — by arithmetic of the point. -/
theorem hcond0_0 : ∀ t : Fin cfg0.N, cond0_0 (grid0.coords t) ↔ t.val / 28 % 2 = 0 :=
  (fun t => by
    have ht : t.val < 224 := Nat.lt_of_lt_of_eq t.isLt N_0
    have e0 : (grid0.coords t 0).val = t.val / 56 % 4 := Pipeline.Grid.coords_val t 0 (by decide) rfl
    have e1 : (grid0.coords t 1).val = t.val / 28 % 2 := Pipeline.Grid.coords_val t 1 (by decide) rfl
    have e2 : (grid0.coords t 2).val = t.val / 1 % 28 := Pipeline.Grid.coords_val t 2 (by decide) rfl
    simp only [cond0_0, k0_cond1, e0, e1, e2]
    word_cmp
   : ∀ t : Fin grid0.N, cond0_0 (grid0.coords t) ↔ t.val / 28 % 2 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 2).val) 0#32)) 0#32) = 1#1
/-- It holds at the points ≡ 0 (mod 28) — by arithmetic of the point. -/
theorem hcond0_1 : ∀ t : Fin cfg0.N, cond0_1 (grid0.coords t) ↔ t.val % 28 = 0 :=
  (fun t => by
    have ht : t.val < 224 := Nat.lt_of_lt_of_eq t.isLt N_0
    have e0 : (grid0.coords t 0).val = t.val / 56 % 4 := Pipeline.Grid.coords_val t 0 (by decide) rfl
    have e1 : (grid0.coords t 1).val = t.val / 28 % 2 := Pipeline.Grid.coords_val t 1 (by decide) rfl
    have e2 : (grid0.coords t 2).val = t.val / 1 % 28 := Pipeline.Grid.coords_val t 2 (by decide) rfl
    simp only [cond0_1, e0, e1, e2]
    word_cmp
   : ∀ t : Fin grid0.N, cond0_1 (grid0.coords t) ↔ t.val % 28 = 0)

/-- The condition of the body's `scf.if` 2 (`k0_h3`), from the grid coordinates (the skeleton's scalar
    chain substituted). -/
abbrev cond0_2 (i : grid0.Coords) : Prop := (Scalar.cmpi .ne (Scalar.extui (Scalar.cmpi .sgt (BitVec.ofNat 32 (i 2).val) 0#32)) 0#32) = 1#1
/-- It holds at the points whose coordinates have 1 ≤ i2 — decided over the grid. -/
theorem hcond0_2 : ∀ t : Fin cfg0.N, cond0_2 (grid0.coords t) ↔ 1 ≤ t.val % 28 :=
  (by decide +kernel : ∀ t : Fin grid0.N, cond0_2 (grid0.coords t) ↔ 1 ≤ t.val % 28)

/-- The condition of the body's `scf.if` 3 (`k0_h4`), from the grid coordinates (the skeleton's scalar
    chain substituted). -/
abbrev cond0_3 (i : grid0.Coords) : Prop := (Scalar.cmpi .ne (Scalar.extui (Scalar.cmpi .eq (BitVec.ofNat 32 (i 2).val) 27#32)) 0#32) = 1#1
/-- It holds at the points ≡ 27 (mod 28) — by arithmetic of the point. -/
theorem hcond0_3 : ∀ t : Fin cfg0.N, cond0_3 (grid0.coords t) ↔ t.val % 28 = 27 :=
  (fun t => by
    have ht : t.val < 224 := Nat.lt_of_lt_of_eq t.isLt N_0
    have e0 : (grid0.coords t 0).val = t.val / 56 % 4 := Pipeline.Grid.coords_val t 0 (by decide) rfl
    have e1 : (grid0.coords t 1).val = t.val / 28 % 2 := Pipeline.Grid.coords_val t 1 (by decide) rfl
    have e2 : (grid0.coords t 2).val = t.val / 1 % 28 := Pipeline.Grid.coords_val t 2 (by decide) rfl
    simp only [cond0_3, e0, e1, e2]
    word_cmp
   : ∀ t : Fin grid0.N, cond0_3 (grid0.coords t) ↔ t.val % 28 = 27)

/-- The condition of the body's `scf.if` 4 (`k0_h5`), from the grid coordinates (the skeleton's scalar
    chain substituted). -/
abbrev cond0_4 (i : grid0.Coords) : Prop := k0_cond5 i = 1#1
/-- It holds at the points whose coordinates have i1 = 1 — by arithmetic of the point. -/
theorem hcond0_4 : ∀ t : Fin cfg0.N, cond0_4 (grid0.coords t) ↔ t.val / 28 % 2 = 1 :=
  (fun t => by
    have ht : t.val < 224 := Nat.lt_of_lt_of_eq t.isLt N_0
    have e0 : (grid0.coords t 0).val = t.val / 56 % 4 := Pipeline.Grid.coords_val t 0 (by decide) rfl
    have e1 : (grid0.coords t 1).val = t.val / 28 % 2 := Pipeline.Grid.coords_val t 1 (by decide) rfl
    have e2 : (grid0.coords t 2).val = t.val / 1 % 28 := Pipeline.Grid.coords_val t 2 (by decide) rfl
    simp only [cond0_4, k0_cond5, e0, e1, e2]
    word_cmp
   : ∀ t : Fin grid0.N, cond0_4 (grid0.coords t) ↔ t.val / 28 % 2 = 1)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x96x1792 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S196x96 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x96 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x96x1792 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S4x50176 .i32 := Memref.whole cc0_scratch0
abbrev scM0_1 : Memref sig .tc .vmem S4x196x128 .f32 := Memref.whole cc0_scratch1
/-- The scratch `arg8` the kernel carries between points, as a view: what it holds is stated through it. -/
abbrev VS0_1 : View sig .tc .vmem S4x196x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.Body.lean ====
/- One run of the kernel's body, as a statement over the contents of its six memrefs before and after. -/
module

public import proofs.«01_k».proof.Proof.Points
public import proofs.«01_k».proof.Proof.Gen.KernelIdeal.Skeleton
public import Idealize.ShloMosaic.Lib.Pipeline.ValueKit
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at coordinates `i`, on whole memrefs with the image block `x0`, the centroids `x1` and the value matrix `x2`, takes
    the output block from `y` to `y'`, the stored labels from `l` to `l'` and the accumulator from `a` to `a'`. -/
def RunsTo (c : Dev nD) (i : grid0.Coords) (arg3 : Memref sig .tc .vmem S1x96x1792 .f32) (harg3 : arg3.IsWhole)
    (arg4 : Memref sig .tc .vmem S196x96 .f32) (harg4 : arg4.IsWhole) (arg5 : Memref sig .tc .vmem S128x96 .f32) (harg5 : arg5.IsWhole)
    (arg6 : Memref sig .tc .vmem S1x96x1792 .f32) (harg6 : arg6.IsWhole) (arg7 : Memref sig .tc .vmem S4x50176 .i32) (harg7 : arg7.IsWhole)
    (arg8 : Memref sig .tc .vmem S4x196x128 .f32) (harg8 : arg8.IsWhole)
    (x0 : Vec F S1x96x1792 .f32) (x1 : Vec F S196x96 .f32) (x2 : Vec F S128x96 .f32) (y y' : Vec F S1x96x1792 .f32)
    (l l' : Vec F S4x50176 .i32) (a a' : Vec F S4x196x128 .f32) : Prop :=
  ∀ (E : Set ℕ) (K : PUnit → sProp 𝕄),
    iprop(owns (c : Thread nD τ) arg3 fullShare x0 ∗ owns (c : Thread nD τ) arg4 fullShare x1 ∗ owns (c : Thread nD τ) arg5 fullShare x2
        ∗ owns (c : Thread nD τ) arg6 fullShare y ∗ owns (c : Thread nD τ) arg7 fullShare l ∗ owns (c : Thread nD τ) arg8 fullShare a
        ∗ (iprop(owns (c : Thread nD τ) arg3 fullShare x0 ∗ owns (c : Thread nD τ) arg4 fullShare x1 ∗ owns (c : Thread nD τ) arg5 fullShare x2
            ∗ owns (c : Thread nD τ) arg6 fullShare y' ∗ owns (c : Thread nD τ) arg7 fullShare l' ∗ owns (c : Thread nD τ) arg8 fullShare a') -∗ K ⟨⟩))
      ⊢ wp frame (wpE (defs₀ (F := F)) Variants.none c none) E
          (cc0__fused_kernel i arg3 harg3 arg4 harg4 arg5 harg5 arg6 harg6 arg7 harg7 arg8 harg8) K

end Cert.KernelIdeal.Hand

end
-- ==== Proof.Vocab.lean ====
/- What one sample of the scatter phase computes, in vocabulary shared by the four samples: the cipher's words for the tile, the
   one-hot matrix of the chosen superpixels, the labels and the partial sums; and that the body's values are these. -/
module

public import proofs.«01_k».proof.Proof.Body

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The words of one tile: superpixel by pixel. -/
abbrev Words := IVec S196x1792 32

/-- One round of the cipher on a pair of word arrays: add, rotate left by `r` (`r' = 32 - r`), and mix. -/
def rotV (r r' : BitVec 32) (s : Words × Words) : Words × Words :=
  (addi s.1 s.2, xori (ori (shli s.2 (broadcast S196x1792 r)) (shrui s.2 (broadcast S196x1792 r'))) (addi s.1 s.2))

/-- A key injection. -/
def injV (k l : BitVec 32) (s : Words × Words) : Words × Words :=
  (addi s.1 (broadcast S196x1792 k), addi s.2 (broadcast S196x1792 l))

/-- Four rounds with the first set of rotations. -/
def mixA (s : Words × Words) : Words × Words := rotV 6#32 26#32 (rotV 26#32 6#32 (rotV 15#32 17#32 (rotV 13#32 19#32 s)))
/-- Four rounds with the second set of rotations. -/
def mixB (s : Words × Words) : Words × Words := rotV 24#32 8#32 (rotV 16#32 16#32 (rotV 29#32 3#32 (rotV 17#32 15#32 s)))

/-- The cipher of the counter pair `(0, x)` under the key words `k`, the later injections' second words `l`, both output words
    joined by exclusive or. -/
def cipherV (k0 k1 k2 l1 l2 l3 l4 l5 : BitVec 32) (x : Words) : Words :=
  let s0 : Words × Words := (broadcast S196x1792 k0, addi x (broadcast S196x1792 k1))
  let s1 := injV k1 l1 (mixA s0)
  let s2 := injV k2 l2 (mixB s1)
  let s3 := injV k0 l3 (mixA s2)
  let s4 := injV k1 l4 (mixB s3)
  let s5 := injV k2 l5 (mixA s4)
  xori s5.1 s5.2

/-- The tile's counters: pixel number times the superpixel count, plus the superpixel. -/
def ctrV (i : grid0.Coords) : Words := k0_pay10 (BitVec.ofNat 32 (i 0).val) (BitVec.ofNat 32 (i 2).val)

/-- The four samples' words at a tile. -/
def wordsV0 (i : grid0.Coords) : Words :=
  cipherV 1832780943#32 270669613#32 1724713080#32 1724713081#32 1832780945#32 270669616#32 1724713084#32 1832780948#32 (ctrV i)
def wordsV1 (i : grid0.Coords) : Words :=
  cipherV 64467757#32 2916123636#32 3050711811#32 3050711812#32 64467759#32 2916123639#32 3050711815#32 64467762#32 (ctrV i)
def wordsV2 (i : grid0.Coords) : Words :=
  cipherV 2465931498#32 255383827#32 2249384483#32 2249384484#32 2465931500#32 255383830#32 2249384487#32 2465931503#32 (ctrV i)
def wordsV3 (i : grid0.Coords) : Words :=
  cipherV 3134548294#32 894150801#32 2488261133#32 2488261134#32 3134548296#32 894150804#32 2488261137#32 3134548299#32 (ctrV i)

/-- Minus the logarithm of the uniform draw of each word, times the inverse weight. -/
def raceV (w : FVec F S196x1792 .f32) (d : Words) : FVec F S196x1792 .f32 :=
  mulf (subf (broadcast S196x1792 (Scalar.ofBits .f32 0x00000000#32))
    (log (maximumf (subf (bitcastToFloat .f32 (ori (shrui d (broadcast S196x1792 9#32)) (broadcast S196x1792 1065353216#32)))
      (broadcast S196x1792 (Scalar.ofBits .f32 0x3F800000#32))) (broadcast S196x1792 (Scalar.ofBits .f32 0x00800000#32))))) w

/-- The one-hot matrix: one where a superpixel's race value is the pixel's least. -/
def hotV (w : FVec F S196x1792 .f32) (d : Words) : FVec F S196x1792 .f32 :=
  sitofp .f32 (extui 32 (cmpf .oeq (raceV w d) (broadcastTo S196x1792 (shapeCast S1x1792
    (multiReduction .minimumf [0] S1792 (raceV w d) 0x7F800000#32 reduces_S196x1792_S1792 (.inl rfl) rfl)
    shapeCasts_S1792_S1x1792) broadcasts_S1x1792_S196x1792)) natLt_1_32)

/-- The labels of the tile's pixels, from the one-hot matrix. -/
def labV (h : FVec F S196x1792 .f32) : IVec S1x1792 32 :=
  shapeCast S1x1792 (fptosi 32 (shapeCast S1792 (matmul dot_S1x196_S196x1792_S1x1792_1_0_0_1_n_n none (k0_pay8 (F := F)) h
    (constant S1x1792 .f32 0x00000000#32)) shapeCasts_S1x1792_S1792)) shapeCasts_S1792_S1x1792

/-- The tile's sums per superpixel, of the values and of ones. -/
def partV (h : FVec F S196x1792 .f32) (v : FVec F S128x1792 .f32) : FVec F S196x128 .f32 :=
  matmul dot_S196x1792_S128x1792_S196x128_1_1_0_0_n_n none h v (constant S196x128 .f32 0x00000000#32)

section samples
variable (i : grid0.Coords) (w : FVec F S196x1792 .f32) (v : FVec F S128x1792 .f32)

/-- Sample 0: the body's labels. -/
theorem lab0_eq : k0_pay49 k0_pay8 (k0_pay48 w (k0_pay46 (k0_pay34 (k0_pay21 (ctrV i) 1832780943#32) (k0_pay22 (ctrV i) 1832780943#32) (k0_pay23 (ctrV i) 1832780943#32) 3#32) (k0_pay35 (k0_pay21 (ctrV i) 1832780943#32) (k0_pay22 (ctrV i) 1832780943#32) (k0_pay23 (ctrV i) 1832780943#32) 3#32) (k0_pay36 (k0_pay21 (ctrV i) 1832780943#32) (k0_pay22 (ctrV i) 1832780943#32) (k0_pay23 (ctrV i) 1832780943#32) 3#32) 26#32) (k0_pay47 (k0_pay34 (k0_pay21 (ctrV i) 1832780943#32) (k0_pay22 (ctrV i) 1832780943#32) (k0_pay23 (ctrV i) 1832780943#32) 3#32) (k0_pay35 (k0_pay21 (ctrV i) 1832780943#32) (k0_pay22 (ctrV i) 1832780943#32) (k0_pay23 (ctrV i) 1832780943#32) 3#32) (k0_pay36 (k0_pay21 (ctrV i) 1832780943#32) (k0_pay22 (ctrV i) 1832780943#32) (k0_pay23 (ctrV i) 1832780943#32) 3#32) 26#32)) = labV (hotV w (wordsV0 i)) := by
  sl_kernel_rfl

/-- Sample 0: the body's sums. -/
theorem part0_eq : k0_pay50 v (k0_pay48 w (k0_pay46 (k0_pay34 (k0_pay21 (ctrV i) 1832780943#32) (k0_pay22 (ctrV i) 1832780943#32) (k0_pay23 (ctrV i) 1832780943#32) 3#32) (k0_pay35 (k0_pay21 (ctrV i) 1832780943#32) (k0_pay22 (ctrV i) 1832780943#32) (k0_pay23 (ctrV i) 1832780943#32) 3#32) (k0_pay36 (k0_pay21 (ctrV i) 1832780943#32) (k0_pay22 (ctrV i) 1832780943#32) (k0_pay23 (ctrV i) 1832780943#32) 3#32) 26#32) (k0_pay47 (k0_pay34 (k0_pay21 (ctrV i) 1832780943#32) (k0_pay22 (ctrV i) 1832780943#32) (k0_pay23 (ctrV i) 1832780943#32) 3#32) (k0_pay35 (k0_pay21 (ctrV i) 1832780943#32) (k0_pay22 (ctrV i) 1832780943#32) (k0_pay23 (ctrV i) 1832780943#32) 3#32) (k0_pay36 (k0_pay21 (ctrV i) 1832780943#32) (k0_pay22 (ctrV i) 1832780943#32) (k0_pay23 (ctrV i) 1832780943#32) 3#32) 26#32)) = partV (hotV w (wordsV0 i)) v := by
  sl_kernel_rfl

/-- Sample 1: the body's labels. -/
theorem lab1_eq : k0_pay90 w k0_pay8 (k0_pay88 (k0_pay86 (k0_pay73 (k0_pay59 (ctrV i)) (k0_pay60 (ctrV i)) k0_pay61) (k0_pay74 (k0_pay59 (ctrV i)) (k0_pay60 (ctrV i)) k0_pay61)) (k0_pay87 (k0_pay73 (k0_pay59 (ctrV i)) (k0_pay60 (ctrV i)) k0_pay61) (k0_pay74 (k0_pay59 (ctrV i)) (k0_pay60 (ctrV i)) k0_pay61))) = labV (hotV w (wordsV1 i)) := by
  sl_kernel_rfl

/-- Sample 1: the body's sums. -/
theorem part1_eq : k0_pay91 w v (k0_pay88 (k0_pay86 (k0_pay73 (k0_pay59 (ctrV i)) (k0_pay60 (ctrV i)) k0_pay61) (k0_pay74 (k0_pay59 (ctrV i)) (k0_pay60 (ctrV i)) k0_pay61)) (k0_pay87 (k0_pay73 (k0_pay59 (ctrV i)) (k0_pay60 (ctrV i)) k0_pay61) (k0_pay74 (k0_pay59 (ctrV i)) (k0_pay60 (ctrV i)) k0_pay61))) = partV (hotV w (wordsV1 i)) v := by
  sl_kernel_rfl

/-- Sample 2: the body's labels. -/
theorem lab2_eq : k0_pay136 w k0_pay8 (k0_pay132 (k0_pay121 (k0_pay109 (k0_pay97 (ctrV i)) (k0_pay98 (ctrV i))) (k0_pay110 (k0_pay97 (ctrV i)) (k0_pay98 (ctrV i))) 13#32) (k0_pay122 (k0_pay109 (k0_pay97 (ctrV i)) (k0_pay98 (ctrV i))) (k0_pay110 (k0_pay97 (ctrV i)) (k0_pay98 (ctrV i))) 13#32) 16#32) (k0_pay133 (k0_pay121 (k0_pay109 (k0_pay97 (ctrV i)) (k0_pay98 (ctrV i))) (k0_pay110 (k0_pay97 (ctrV i)) (k0_pay98 (ctrV i))) 13#32) (k0_pay122 (k0_pay109 (k0_pay97 (ctrV i)) (k0_pay98 (ctrV i))) (k0_pay110 (k0_pay97 (ctrV i)) (k0_pay98 (ctrV i))) 13#32) 16#32) k0_pay134 = labV (hotV w (wordsV2 i)) := by
  sl_kernel_rfl

/-- Sample 2: the body's sums. -/
theorem part2_eq : k0_pay137 w v (k0_pay132 (k0_pay121 (k0_pay109 (k0_pay97 (ctrV i)) (k0_pay98 (ctrV i))) (k0_pay110 (k0_pay97 (ctrV i)) (k0_pay98 (ctrV i))) 13#32) (k0_pay122 (k0_pay109 (k0_pay97 (ctrV i)) (k0_pay98 (ctrV i))) (k0_pay110 (k0_pay97 (ctrV i)) (k0_pay98 (ctrV i))) 13#32) 16#32) (k0_pay133 (k0_pay121 (k0_pay109 (k0_pay97 (ctrV i)) (k0_pay98 (ctrV i))) (k0_pay110 (k0_pay97 (ctrV i)) (k0_pay98 (ctrV i))) 13#32) (k0_pay122 (k0_pay109 (k0_pay97 (ctrV i)) (k0_pay98 (ctrV i))) (k0_pay110 (k0_pay97 (ctrV i)) (k0_pay98 (ctrV i))) 13#32) 16#32) k0_pay134 = partV (hotV w (wordsV2 i)) v := by
  sl_kernel_rfl

/-- Sample 3: the body's labels. -/
theorem lab3_eq : k0_pay179 w k0_pay8 (k0_pay175 (k0_pay162 (k0_pay152 (k0_pay140 (ctrV i)) (k0_pay141 (ctrV i)) 15#32) (k0_pay153 (k0_pay140 (ctrV i)) (k0_pay141 (ctrV i)) 15#32) 24#32) (k0_pay163 (k0_pay152 (k0_pay140 (ctrV i)) (k0_pay141 (ctrV i)) 15#32) (k0_pay153 (k0_pay140 (ctrV i)) (k0_pay141 (ctrV i)) 15#32) 24#32) (k0_pay164 (k0_pay152 (k0_pay140 (ctrV i)) (k0_pay141 (ctrV i)) 15#32) (k0_pay153 (k0_pay140 (ctrV i)) (k0_pay141 (ctrV i)) 15#32) 24#32) 15#32) (k0_pay176 (k0_pay162 (k0_pay152 (k0_pay140 (ctrV i)) (k0_pay141 (ctrV i)) 15#32) (k0_pay153 (k0_pay140 (ctrV i)) (k0_pay141 (ctrV i)) 15#32) 24#32) (k0_pay163 (k0_pay152 (k0_pay140 (ctrV i)) (k0_pay141 (ctrV i)) 15#32) (k0_pay153 (k0_pay140 (ctrV i)) (k0_pay141 (ctrV i)) 15#32) 24#32) (k0_pay164 (k0_pay152 (k0_pay140 (ctrV i)) (k0_pay141 (ctrV i)) 15#32) (k0_pay153 (k0_pay140 (ctrV i)) (k0_pay141 (ctrV i)) 15#32) 24#32) 15#32) (k0_pay177 (k0_pay162 (k0_pay152 (k0_pay140 (ctrV i)) (k0_pay141 (ctrV i)) 15#32) (k0_pay153 (k0_pay140 (ctrV i)) (k0_pay141 (ctrV i)) 15#32) 24#32) (k0_pay163 (k0_pay152 (k0_pay140 (ctrV i)) (k0_pay141 (ctrV i)) 15#32) (k0_pay153 (k0_pay140 (ctrV i)) (k0_pay141 (ctrV i)) 15#32) 24#32) (k0_pay164 (k0_pay152 (k0_pay140 (ctrV i)) (k0_pay141 (ctrV i)) 15#32) (k0_pay153 (k0_pay140 (ctrV i)) (k0_pay141 (ctrV i)) 15#32) 24#32) 15#32) 6#32 = labV (hotV w (wordsV3 i)) := by
  sl_kernel_rfl

/-- Sample 3: the body's sums. -/
theorem part3_eq : k0_pay180 w v (k0_pay175 (k0_pay162 (k0_pay152 (k0_pay140 (ctrV i)) (k0_pay141 (ctrV i)) 15#32) (k0_pay153 (k0_pay140 (ctrV i)) (k0_pay141 (ctrV i)) 15#32) 24#32) (k0_pay163 (k0_pay152 (k0_pay140 (ctrV i)) (k0_pay141 (ctrV i)) 15#32) (k0_pay153 (k0_pay140 (ctrV i)) (k0_pay141 (ctrV i)) 15#32) 24#32) (k0_pay164 (k0_pay152 (k0_pay140 (ctrV i)) (k0_pay141 (ctrV i)) 15#32) (k0_pay153 (k0_pay140 (ctrV i)) (k0_pay141 (ctrV i)) 15#32) 24#32) 15#32) (k0_pay176 (k0_pay162 (k0_pay152 (k0_pay140 (ctrV i)) (k0_pay141 (ctrV i)) 15#32) (k0_pay153 (k0_pay140 (ctrV i)) (k0_pay141 (ctrV i)) 15#32) 24#32) (k0_pay163 (k0_pay152 (k0_pay140 (ctrV i)) (k0_pay141 (ctrV i)) 15#32) (k0_pay153 (k0_pay140 (ctrV i)) (k0_pay141 (ctrV i)) 15#32) 24#32) (k0_pay164 (k0_pay152 (k0_pay140 (ctrV i)) (k0_pay141 (ctrV i)) 15#32) (k0_pay153 (k0_pay140 (ctrV i)) (k0_pay141 (ctrV i)) 15#32) 24#32) 15#32) (k0_pay177 (k0_pay162 (k0_pay152 (k0_pay140 (ctrV i)) (k0_pay141 (ctrV i)) 15#32) (k0_pay153 (k0_pay140 (ctrV i)) (k0_pay141 (ctrV i)) 15#32) 24#32) (k0_pay163 (k0_pay152 (k0_pay140 (ctrV i)) (k0_pay141 (ctrV i)) 15#32) (k0_pay153 (k0_pay140 (ctrV i)) (k0_pay141 (ctrV i)) 15#32) 24#32) (k0_pay164 (k0_pay152 (k0_pay140 (ctrV i)) (k0_pay141 (ctrV i)) 15#32) (k0_pay153 (k0_pay140 (ctrV i)) (k0_pay141 (ctrV i)) 15#32) 24#32) 15#32) 6#32 = partV (hotV w (wordsV3 i)) v := by
  sl_kernel_rfl

end samples

/-- The one-hot matrices of a tile, one per sample. -/
def hots (i : grid0.Coords) (w : FVec F S196x1792 .f32) : Fin 4 → FVec F S196x1792 .f32 :=
  ![hotV w (wordsV0 i), hotV w (wordsV1 i), hotV w (wordsV2 i), hotV w (wordsV3 i)]

/-- Column `j` of a row of labels. -/
def colIdx (j : Fin 1792) : S1x1792.Idx := fun a => match a with
  | ⟨0, _⟩ => (⟨0, Nat.zero_lt_one⟩ : Fin 1)
  | ⟨1, _⟩ => j

/-- The stored labels after tile `t`: the tile's columns hold its labels, the others what they held. -/
def labsAfter (t : ℕ) (h : Fin 4 → FVec F S196x1792 .f32) (l : Vec F S4x50176 .i32) : Vec F S4x50176 .i32 :=
  fun y => if hy : 1792 * t ≤ (y 1).val ∧ (y 1).val < 1792 * t + 1792 then
    labV (h (y 0)) (colIdx ⟨(y 1).val - 1792 * t, by omega⟩) else l y

/-- The four samples' sums of a tile, side by side. -/
def sums (h : Fin 4 → FVec F S196x1792 .f32) (v : FVec F S128x1792 .f32) : FVec F S4x196x128 .f32 :=
  k0_pay1 (partV (h 1) v) (partV (h 2) v) (partV (h 3) v) (k0_pay181 (partV (h 0) v))

/-- Four label stores, one per sample row, leave the labels after the tile. -/
theorem labs_writes (i : grid0.Coords) (h : Fin 4 → FVec F S196x1792 .f32) (l : Vec F S4x50176 .i32)
    (arg7 : Memref sig .tc .vmem S4x50176 .i32) (harg7 : arg7.IsWhole) (o1 o2 o3 o4 : Fin 2 → ℕ)
    (e1 : o1 = ![0, 1792 * (i 2).val]) (e2 : o2 = ![1, 1792 * (i 2).val]) (e3 : o3 = ![2, 1792 * (i 2).val])
    (e4 : o4 = ![3, 1792 * (i 2).val])
    (b1 : ∀ a, o1 a + S1x1792.size a ≤ S4x50176.size a) (b2 : ∀ a, o2 a + S1x1792.size a ≤ S4x50176.size a)
    (b3 : ∀ a, o3 a + S1x1792.size a ≤ S4x50176.size a) (b4 : ∀ a, o4 a + S1x1792.size a ≤ S4x50176.size a) :
    arg7.view.read (Elt F) (arg7.view.writes (Elt F) (harg7.unread l)
      [⟨Rect.unit o4 S1x1792.size b4, labV (h 3)⟩, ⟨Rect.unit o3 S1x1792.size b3, labV (h 2)⟩,
       ⟨Rect.unit o2 S1x1792.size b2, labV (h 1)⟩, ⟨Rect.unit o1 S1x1792.size b1, labV (h 0)⟩])
      = labsAfter (i 2).val h l := by
  funext y
  have hy0 : (y 0).val < 4 := (y 0).isLt
  by_cases hy : 1792 * (i 2).val ≤ (y 1).val ∧ (y 1).val < 1792 * (i 2).val + 1792
  · refine Eq.trans ?_ (dif_pos hy).symm
    have key : ∀ k : Fin 4, y 0 = k → ∀ a : Fin 2, (y a).val = (![k.val, 1792 * (i 2).val] : Fin 2 → ℕ) a
        + (colIdx ⟨(y 1).val - 1792 * (i 2).val, by omega⟩ a).val := by
      intro k hk a
      match a with
      | ⟨0, _⟩ => exact congrArg Fin.val hk
      | ⟨1, _⟩ => show (y 1).val = 1792 * (i 2).val + ((y 1).val - 1792 * (i 2).val); omega
    have miss : ∀ k : Fin 4, y 0 ≠ k → (y 0).val < (![k.val, 1792 * (i 2).val] : Fin 2 → ℕ) 0 ∨ (![k.val, 1792 * (i 2).val] : Fin 2 → ℕ) 0 + S1x1792.size 0 ≤ (y 0).val := by
      intro k hk
      show (y 0).val < k.val ∨ k.val + 1 ≤ (y 0).val
      have : (y 0).val ≠ k.val := fun e => hk (Fin.ext e)
      omega
    by_cases h3 : y 0 = (3 : Fin 4)
    · rw [h3]; exact View.read_writes_cons_unit_of_mem _ _ b4 _ _ y _ e4 (key 3 h3)
    rw [View.read_writes_cons_unit_of_not_mem _ _ b4 _ _ y e4 0 (miss 3 h3)]
    by_cases h2 : y 0 = (2 : Fin 4)
    · rw [h2]; exact View.read_writes_cons_unit_of_mem _ _ b3 _ _ y _ e3 (key 2 h2)
    rw [View.read_writes_cons_unit_of_not_mem _ _ b3 _ _ y e3 0 (miss 2 h2)]
    by_cases h1 : y 0 = (1 : Fin 4)
    · rw [h1]; exact View.read_writes_cons_unit_of_mem _ _ b2 _ _ y _ e2 (key 1 h1)
    rw [View.read_writes_cons_unit_of_not_mem _ _ b2 _ _ y e2 0 (miss 1 h1)]
    have h0 : y 0 = (0 : Fin 4) := by
      have n3 : (y 0).val ≠ 3 := fun e => h3 (Fin.ext e)
      have n2 : (y 0).val ≠ 2 := fun e => h2 (Fin.ext e)
      have n1 : (y 0).val ≠ 1 := fun e => h1 (Fin.ext e)
      exact Fin.ext (by show (y 0).val = 0; omega)
    rw [h0]; exact View.read_writes_cons_unit_of_mem _ _ b1 _ _ y _ e1 (key 0 h0)
  · refine Eq.trans ?_ (dif_neg hy).symm
    have miss : ∀ k : ℕ, (y 1).val < (![k, 1792 * (i 2).val] : Fin 2 → ℕ) 1 ∨ (![k, 1792 * (i 2).val] : Fin 2 → ℕ) 1 + S1x1792.size 1 ≤ (y 1).val := by
      intro k
      show (y 1).val < 1792 * (i 2).val ∨ 1792 * (i 2).val + 1792 ≤ (y 1).val
      omega
    rw [View.read_writes_cons_unit_of_not_mem _ _ b4 _ _ y e4 1 (miss 3), View.read_writes_cons_unit_of_not_mem _ _ b3 _ _ y e3 1 (miss 2),
      View.read_writes_cons_unit_of_not_mem _ _ b2 _ _ y e2 1 (miss 1), View.read_writes_cons_unit_of_not_mem _ _ b1 _ _ y e1 1 (miss 0)]
    exact congrFun (harg7.read_unread l) y

end Cert.KernelIdeal.Hand

end
-- ==== Proof.Cipher.lean ====
/- The cipher on one counter: the word that each sample draws at a position; and that the kernel's words at a tile are these. -/
module

public import proofs.«01_k».proof.Proof.Vocab
public import Idealize.ShloMosaic.Lib.Pointwise

@[expose] public section

set_option maxRecDepth 16384

noncomputable section

namespace Cert.Proof

open Idealize.ShloMosaic

/-- The cipher's state: two words. -/
abbrev Pair := BitVec 32 × BitVec 32

/-- One round: add, rotate left by `l` (`r = 32 - l`), and mix. -/
def rot (l r : BitVec 32) (s : Pair) : Pair :=
  (IntOp.addi s.1 s.2, IntOp.xori (IntOp.ori (IntOp.shli .vector s.2 l) (IntOp.shrui .vector s.2 r)) (IntOp.addi s.1 s.2))

/-- A key injection. -/
def inj (k l : BitVec 32) (s : Pair) : Pair := (IntOp.addi s.1 k, IntOp.addi s.2 l)

/-- Four rounds with the first set of rotations. -/
def roundsA (s : Pair) : Pair := rot 6#32 26#32 (rot 26#32 6#32 (rot 15#32 17#32 (rot 13#32 19#32 s)))
/-- Four rounds with the second set of rotations. -/
def roundsB (s : Pair) : Pair := rot 24#32 8#32 (rot 16#32 16#32 (rot 29#32 3#32 (rot 17#32 15#32 s)))

/-- The cipher from its first state on: `k0 k1 k2` are the first words injected, `l1 … l5` the second. -/
def cipherFrom (k0 k1 k2 l1 l2 l3 l4 l5 : BitVec 32) (s : Pair) : Pair :=
  inj k2 l5 (roundsA (inj k1 l4 (roundsB (inj k0 l3 (roundsA (inj k2 l2 (roundsB (inj k1 l1 (roundsA s)))))))))

/-- The word drawn at the counter `(0, x)`: both words of the cipher, joined by exclusive or. -/
def draw (k0 k1 k2 l1 l2 l3 l4 l5 x : BitVec 32) : BitVec 32 :=
  IntOp.xori (cipherFrom k0 k1 k2 l1 l2 l3 l4 l5 (k0, IntOp.addi x k1)).1 (cipherFrom k0 k1 k2 l1 l2 l3 l4 l5 (k0, IntOp.addi x k1)).2

/-- The word that sample `i` draws at position `x`. -/
def word (i : Fin 4) (x : BitVec 32) : BitVec 32 :=
  (![draw 1832780943#32 270669613#32 1724713080#32 1724713081#32 1832780945#32 270669616#32 1724713084#32 1832780948#32 x,
    draw 64467757#32 2916123636#32 3050711811#32 3050711812#32 64467759#32 2916123639#32 3050711815#32 64467762#32 x,
    draw 2465931498#32 255383827#32 2249384483#32 2249384484#32 2465931500#32 255383830#32 2249384487#32 2465931503#32 x,
    draw 3134548294#32 894150801#32 2488261133#32 2488261134#32 3134548296#32 894150804#32 2488261137#32 3134548299#32 x] : Fin 4 → BitVec 32) i

/-- The counter of superpixel `s` at pixel `p` of image `b`. -/
def position (b p s : ℕ) : BitVec 32 := BitVec.ofNat 32 ((50176 * b + p) * 196 + s)

end Cert.Proof

namespace Cert.KernelIdeal.Hand

open Cert.KernelIdeal.Gen Idealize.ShloMosaic Cert.Proof

/-- A pair of word arrays at a position. -/
def at2 (s : Words × Words) (y : S196x1792.Idx) : Pair := (s.1 y, s.2 y)

theorem at2_rot (l r : BitVec 32) (s : Words × Words) (y : S196x1792.Idx) : at2 (rotV l r s) y = rot l r (at2 s y) := rfl
theorem at2_inj (k l : BitVec 32) (s : Words × Words) (y : S196x1792.Idx) : at2 (injV k l s) y = inj k l (at2 s y) := rfl
theorem at2_mixA (s : Words × Words) (y : S196x1792.Idx) : at2 (mixA s) y = roundsA (at2 s y) := by
  unfold mixA roundsA; simp only [at2_rot]
theorem at2_mixB (s : Words × Words) (y : S196x1792.Idx) : at2 (mixB s) y = roundsB (at2 s y) := by
  unfold mixB roundsB; simp only [at2_rot]

/-- The cipher's word array holds at each position the word drawn at the counter there. -/
theorem cipherV_at (k0 k1 k2 l1 l2 l3 l4 l5 : BitVec 32) (x : Words) (y : S196x1792.Idx) :
    cipherV k0 k1 k2 l1 l2 l3 l4 l5 x y = draw k0 k1 k2 l1 l2 l3 l4 l5 (x y) := by
  have h : at2 (injV k2 l5 (mixA (injV k1 l4 (mixB (injV k0 l3 (mixA (injV k2 l2 (mixB (injV k1 l1 (mixA
      (broadcast S196x1792 k0, addi x (broadcast S196x1792 k1))))))))))))  y
      = cipherFrom k0 k1 k2 l1 l2 l3 l4 l5 (k0, IntOp.addi (x y) k1) := by
    unfold cipherFrom
    simp only [at2_inj, at2_mixA, at2_mixB]
    rfl
  unfold draw
  rw [← h]
  rfl

/-- The tile's counters. -/
theorem ctrV_at (i : grid0.Coords) (s : Fin 196) (j : Fin 1792) :
    ctrV i (ix2 s j) = position (i 0).val (1792 * (i 2).val + j.val) s.val := by
  unfold ctrV
  pointwise [k0_pay10]
  unfold position IntOp.addi IntOp.muli Scalar.addi Scalar.muli IntOp.addi IntOp.muli
  apply BitVec.eq_of_toNat_eq
  simp only [BitVec.toNat_add, BitVec.toNat_mul, BitVec.toNat_ofNat]
  have : (i 0).val < 4 := (i 0).isLt
  have : (i 2).val < 28 := (i 2).isLt
  omega

/-- The four samples' word arrays. -/
def wordsV (i : grid0.Coords) : Fin 4 → Words := ![wordsV0 i, wordsV1 i, wordsV2 i, wordsV3 i]

theorem wordsV_at (i : grid0.Coords) (n : Fin 4) (s : Fin 196) (j : Fin 1792) :
    wordsV i n (ix2 s j) = word n (position (i 0).val (1792 * (i 2).val + j.val) s.val) := by
  rw [← ctrV_at]
  match n with
  | 0 => exact cipherV_at ..
  | 1 => exact cipherV_at ..
  | 2 => exact cipherV_at ..
  | 3 => exact cipherV_at ..

theorem hots_at {F : FTy → Type} [FloatOps F] (i : grid0.Coords) (w : FVec F S196x1792 .f32) (n : Fin 4) : hots i w n = hotV w (wordsV i n) := by
  match n with
  | 0 => rfl
  | 1 => rfl
  | 2 => rfl
  | 3 => rfl

end Cert.KernelIdeal.Hand

end
-- ==== Proof.RefTerms.lean ====
/- The reference, step by step, as named terms, and that its run ends with their composite. -/
module

public import proofs.«01_k».proof.Defs
public import proofs.«01_k».proof.Proof.Cipher
public import proofs.«01_k».proof.Proof.Gen.ReferenceIdeal
public import proofs.«01_k».proof.Proof.Gen.ReferenceIdeal.Run

@[expose] public section

set_option maxRecDepth 16384

noncomputable section

namespace Cert.ReferenceIdeal.Hand

open Cert.ReferenceIdeal.Gen Cert.ReferenceIdeal.Value Idealize.ShloMosaic Cert.Proof

/-- One round on word arrays of any shape. -/
def rotH {T : Shape} (l r : IVec T 32) (s : IVec T 32 × IVec T 32) : IVec T 32 × IVec T 32 :=
  (addi s.1 s.2, xori (addi s.1 s.2) (ori (Host.shli s.2 l) (Host.shrui s.2 r)))

/-- A key injection, the second word in two steps. -/
def injH {T : Shape} (k l n : IVec T 32) (s : IVec T 32 × IVec T 32) : IVec T 32 × IVec T 32 :=
  (addi s.1 k, addi (addi s.2 l) n)

/-- Four rounds with the first set of rotations; `bc` fills an array with a word. -/
def mixHA {T : Shape} (bc : BitVec 32 → IVec T 32) (s : IVec T 32 × IVec T 32) : IVec T 32 × IVec T 32 :=
  rotH (bc 6#32) (bc 26#32) (rotH (bc 26#32) (bc 6#32) (rotH (bc 15#32) (bc 17#32) (rotH (bc 13#32) (bc 19#32) s)))
/-- Four rounds with the second set of rotations. -/
def mixHB {T : Shape} (bc : BitVec 32 → IVec T 32) (s : IVec T 32 × IVec T 32) : IVec T 32 × IVec T 32 :=
  rotH (bc 24#32) (bc 8#32) (rotH (bc 16#32) (bc 16#32) (rotH (bc 29#32) (bc 3#32) (rotH (bc 17#32) (bc 15#32) s)))

/-- The cipher from its first state on, under the key arrays. -/
def cipherH {T : Shape} (bc : BitVec 32 → IVec T 32) (k0 k1 k2 : IVec T 32) (s : IVec T 32 × IVec T 32) : IVec T 32 × IVec T 32 :=
  injH k2 k0 (bc 5#32) (mixHA bc (injH k1 k2 (bc 4#32) (mixHB bc (injH k0 k1 (bc 3#32) (mixHA bc
    (injH k2 k0 (bc 2#32) (mixHB bc (injH k1 k2 (bc 1#32) (mixHA bc s)))))))))

/-- A word over the four samples, and over all positions. -/
def bc4 (v : BitVec 32) : IVec S4 32 := broadcastInDim S4 ![] bcast_S_S4 (constantI S_ 32 v)
def bcAll (v : BitVec 32) : IVec S4x200704x196 32 := broadcastInDim S4x200704x196 ![] bcast_S_S4x200704x196 (constantI S_ 32 v)

/-- The samples' keys: the cipher under the key (0, 42) of the sample's number. -/
def keysH : IVec S4 32 × IVec S4 32 :=
  cipherH bc4 (bc4 0#32) (bc4 42#32) (broadcastInDim S4 ![] bcast_S_S4 (xori (xori (constantI S_ 32 0#32) (constantI S_ 32 42#32)) (constantI S_ 32 466688986#32)))
    (addi (bc4 0#32) (bc4 0#32), addi (iotaInDim S4 32 0) (bc4 42#32))

/-- The keys at every position. -/
def key0 : IVec S4x200704x196 32 := broadcastInDim S4x200704x196 ![0] bcast_S4_S4x200704x196_0 keysH.1
def key1 : IVec S4x200704x196 32 := broadcastInDim S4x200704x196 ![0] bcast_S4_S4x200704x196_0 keysH.2

/-- The words drawn, before the two are joined. -/
def pairH : IVec S4x200704x196 32 × IVec S4x200704x196 32 :=
  cipherH bcAll key0 key1 (xori (xori key0 key1) (bcAll 466688986#32))
    (addi (bcAll 0#32) key0, addi (id (addi (muli (iotaInDim S4x200704x196 32 1) (bcAll 196#32)) (iotaInDim S4x200704x196 32 2))) key1)

variable {F : FTy → Type} [FloatOps F]

/-- Pixel by superpixel: the scaled products of pixels and centroids. -/
def logitsH (x : FVec F S4x96x224x224 .f32) (c : FVec F S196x96 .f32) : FVec F S4x50176x196 .f32 :=
  Host.divf (Host.dotGeneral dot_S4x50176x96_S96x196_S4x50176x196_2_0_01_1_n_n none (transpose S4x50176x96 [0, 2, 1] (shapeCast _ x shapeCasts_S4x96x224x224_S4x96x50176) transposes_S4x96x50176_S4x50176x96_0_2_1) (transpose S96x196 [1, 0] c transposes_S196x96_S96x196_1_0))
    (broadcastInDim S4x50176x196 ![] bcast_S_S4x50176x196 (Host.sqrt (constant S_ .f32 0x42C00000#32)))

/-- The exponentials of the logits less their maximum. -/
def expsH (x : FVec F S4x96x224x224 .f32) (c : FVec F S196x96 .f32) : FVec F S4x50176x196 .f32 :=
  Host.exp (subf (logitsH x c) (broadcastInDim S4x50176x196 ![0, 1, 2] bcast_S4x50176x1_S4x50176x196_0_1_2 (broadcastInDim S4x50176x1 ![0, 1] bcast_S4x50176_S4x50176x1_0_1
    (maximumf (broadcastInDim S4x50176 ![] bcast_S_S4x50176 (constant S_ .f32 0xFF800000#32)) (Host.reduce FloatOps.maximumf (logitsH x c) (constant S_ .f32 0xFF800000#32) reducesTo_S4x50176x196_S4x50176_d2 h_S_)))))

/-- The logarithms of the shares, each raised by a constant. -/
def logsH (x : FVec F S4x96x224x224 .f32) (c : FVec F S196x96 .f32) : FVec F S200704x196 .f32 :=
  Host.log (addf (shapeCast _ (Host.divf (expsH x c) (broadcastInDim S4x50176x196 ![0, 1, 2] bcast_S4x50176x1_S4x50176x196_0_1_2 (broadcastInDim S4x50176x1 ![0, 1] bcast_S4x50176_S4x50176x1_0_1 (Host.reduceAdd (expsH x c) (constant S_ .f32 0x00000000#32) reducesTo_S4x50176x196_S4x50176_d2 h_S_)))) shapeCasts_S4x50176x196_S200704x196)
    (broadcastInDim S200704x196 ![] bcast_S_S200704x196 (constant S_ .f32 0x3089705F#32)))

/-- The uniform draws of the words. -/
def uniformH : FVec F S4x200704x196 .f32 :=
  maximumf (subf (bitcastToFloat (F := F) .f32 (ori (Host.shrui (xori pairH.1 pairH.2) (bcAll 9#32)) (bcAll 1065353216#32)))
    (broadcastInDim S4x200704x196 ![] bcast_S_S4x200704x196 (constant S_ .f32 0x3F800000#32))) (broadcastInDim S4x200704x196 ![] bcast_S_S4x200704x196 (constant S_ .f32 0x00800000#32))

/-- The scores: noise plus logarithm. -/
def scoresH (x : FVec F S4x96x224x224 .f32) (c : FVec F S196x96 .f32) : FVec F S4x200704x196 .f32 :=
  addf (Host.negf (Host.log (Host.negf (Host.log uniformH))))
    (broadcastInDim S4x200704x196 ![0, 1, 2] bcast_S1x200704x196_S4x200704x196_0_1_2 (broadcastInDim S1x200704x196 ![1, 2] bcast_S200704x196_S1x200704x196_1_2 (logsH x c)))

/-- Where the score is its draw's maximum. -/
def winsH (x : FVec F S4x96x224x224 .f32) (c : FVec F S196x96 .f32) : IVec S4x200704x196 1 :=
  cmpf .oeq (scoresH x c) (broadcastInDim S4x200704x196 ![0, 1, 2] bcast_S4x200704x1_S4x200704x196_0_1_2 (broadcastInDim S4x200704x1 ![0, 1] bcast_S4x200704_S4x200704x1_0_1
    (Host.reduce FloatOps.maximumf (scoresH x c) (constant S_ .f32 0xFF800000#32) reducesTo_S4x200704x196_S4x200704_d2 h_S_)))

/-- The labels: the least superpixel that wins. -/
def labelsH (x : FVec F S4x96x224x224 .f32) (c : FVec F S196x96 .f32) : IVec S4x200704 32 :=
  Host.reduce IntOp.minsi (select (winsH x c) (iotaInDim S4x200704x196 32 2) (broadcastInDim S4x200704x196 ![] bcast_S_S4x200704x196 (id (constantI S_ 32 196#32))))
    (constantI S_ 32 2147483647#32) reducesTo_S4x200704x196_S4x200704_d2 h_S_

open Idealize.SL.Sem in
/-- The reference's labels are these. -/
theorem labels_eq (V0 : Valuation τ sig (Elt F)) : res_main_v397 V0 = labelsH (F := F) (V0 (Proc.devRef .tc main_arg0)) (V0 (Proc.devRef .tc main_arg1)) := by
  sl_kernel_rfl

/-- The values: every pixel times the value matrix. -/
def valuesH (x : FVec F S4x96x224x224 .f32) (w : FVec F S96x96 .f32) : FVec F S200704x96 .f32 :=
  shapeCast _ (Host.dotGeneral dot_S4x50176x96_S96x96_S4x50176x96_2_0_01_1_n_n none (transpose S4x50176x96 [0, 2, 1] (shapeCast _ x shapeCasts_S4x96x224x224_S4x96x50176) transposes_S4x96x50176_S4x50176x96_0_2_1) w) shapeCasts_S4x50176x96_S200704x96

/-- A row of labels, each raised by its image's first superpixel number. -/
def flatH (row : IVec S1x200704 32) : IVec S200704 32 :=
  shapeCast _ (addi (shapeCast _ (shapeCast S200704 row shapeCasts_S1x200704_S200704) shapeCasts_S200704_S4x50176) (broadcastInDim S4x50176 ![0, 1] bcast_S4x1_S4x50176_0_1 (muli (broadcastInDim S4x1 ![0] bcast_S4_S4x1_0 (iotaInDim S4 32 0)) (broadcastInDim S4x1 ![] bcast_S_S4x1 (constantI S_ 32 196#32))))) shapeCasts_S4x50176_S200704

/-- The numbers as a column of places to read. -/
def placeH (flat : IVec S200704 32) : IVec S200704x1 32 :=
  broadcastInDim S200704x1 ![0] bcast_S200704_S200704x1_0 (select (cmpi .slt flat (broadcastInDim S200704 ![] bcast_S_S200704 (constantI S_ 32 0#32))) (addi flat (broadcastInDim S200704 ![] bcast_S_S200704 (constantI S_ 32 784#32))) flat)

/-- The sums of the values by number. -/
def sumsH (flat : IVec S200704 32) (v : FVec F S200704x96 .f32) : FVec F S784x96 .f32 :=
  Host.scatterAdd scatter_S784x96_S200704x1_S200704x96_1_0_0_1 (broadcastInDim S784x96 ![] bcast_S_S784x96 (constant S_ .f32 0x00000000#32)) (broadcastInDim S200704x1 ![0] bcast_S200704_S200704x1_0 flat) v

/-- How many pixels have each number. -/
def countsH (flat : IVec S200704 32) : FVec F S784x1 .f32 :=
  Host.scatterAdd scatter_S784x1_S200704x1_S200704x1_1_0_0_1 (broadcastInDim S784x1 ![] bcast_S_S784x1 (constant S_ .f32 0x00000000#32)) (broadcastInDim S200704x1 ![0] bcast_S200704_S200704x1_0 flat) (broadcastInDim S200704x1 ![] bcast_S_S200704x1 (constant S_ .f32 0x3F800000#32))

/-- The averages by number. -/
def meansH (flat : IVec S200704 32) (v : FVec F S200704x96 .f32) : FVec F S784x96 .f32 :=
  Host.divf (sumsH flat v) (broadcastInDim S784x96 ![0, 1] bcast_S784x1_S784x96_0_1 (maximumf (countsH flat) (broadcastInDim S784x1 ![] bcast_S_S784x1 (constant S_ .f32 0x3F800000#32))))

/-- The table read at every pixel's place. -/
def takeH (place : IVec S200704x1 32) (t : FVec F S784x96 .f32) : FVec F S200704x96 .f32 :=
  select (broadcastInDim S200704x96 ![0] bcast_S200704_S200704x96_0 (Host.reduce IntOp.andi (andi (cmpi .sge place (broadcastInDim S200704x1 ![] bcast_S_S200704x1 (constantI S_ 32 0#32))) (cmpi .sle place (broadcastInDim S200704x1 ![0, 1] bcast_S1x1_S200704x1_0_1 (broadcastInDim S1x1 ![1] bcast_S1_S1x1_1 (constantI S1 32 783#32))))) (constantI S_ 1 1#1) reducesTo_S200704x1_S200704_d1 h_S_))
    (Host.gather gather_S784x96_S200704x1_S200704x96_1_0_n_n_0_1_196 t place) (broadcastInDim S200704x96 ![] bcast_S_S200704x96 (constant S_ .f32 0x7FC00000#32))

/-- One sample's share of the result. -/
def termH (flat : IVec S200704 32) (v : FVec F S200704x96 .f32) : FVec F S4x96x50176 .f32 :=
  Host.divf (transpose S4x96x50176 [0, 2, 1] (shapeCast _ (takeH (placeH flat) (meansH flat v)) shapeCasts_S200704x96_S4x50176x96) transposes_S4x50176x96_S4x96x50176_0_2_1) (broadcastInDim S4x96x50176 ![] bcast_S_S4x96x50176 (constant S_ .f32 0x40800000#32))

/-- The four samples' flat labels. -/
def flatsH (l : IVec S4x200704 32) : Fin 4 → IVec S200704 32 :=
  ![flatH (extractStridedSlice S1x200704 ![0, 0] l slices_S4x200704_S1x200704_0_0), flatH (extractStridedSlice S1x200704 ![1, 0] l slices_S4x200704_S1x200704_1_0),
    flatH (extractStridedSlice S1x200704 ![2, 0] l slices_S4x200704_S1x200704_2_0), flatH (extractStridedSlice S1x200704 ![3, 0] l slices_S4x200704_S1x200704_3_0)]

/-- The reference's result. -/
def resultH (x : FVec F S4x96x224x224 .f32) (c : FVec F S196x96 .f32) (w : FVec F S96x96 .f32) : FVec F S4x96x50176 .f32 :=
  addf (addf (addf (termH (flatsH (labelsH x c) 0) (valuesH x w)) (termH (flatsH (labelsH x c) 1) (valuesH x w))) (termH (flatsH (labelsH x c) 2) (valuesH x w))) (termH (flatsH (labelsH x c) 3) (valuesH x w))

open Idealize.SL.Sem Idealize.ShloMosaic.TcCoe in
/-- The reference's run ends with this result and its arguments unchanged. -/
theorem run_result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v508) = resultH (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by sl_kernel_rfl), (h c).2⟩) (run m ρ)

end Cert.ReferenceIdeal.Hand

end
-- ==== Proof.RefWords.lean ====
/- The reference's words: sample `i` draws at its position the word that the kernel's sample `i` draws there. -/
module

public import proofs.«01_k».proof.Proof.RefTerms

@[expose] public section

set_option maxRecDepth 16384

noncomputable section

namespace Cert.ReferenceIdeal.Hand

open Cert.ReferenceIdeal.Gen Cert.ReferenceIdeal.Value Idealize.ShloMosaic Cert.Proof

variable {T : Shape}

/-- A pair of word arrays at a position. -/
def atH (s : IVec T 32 × IVec T 32) (y : T.Idx) : Pair := (s.1 y, s.2 y)

theorem atH_rot (l r : BitVec 32) (hl : l.toNat < 32) (hr : r.toNat < 32) {L R : IVec T 32} (s : IVec T 32 × IVec T 32) (y : T.Idx)
    (eL : L y = l) (eR : R y = r) : atH (rotH L R s) y = rot l r (atH s y) := by
  unfold atH rotH rot
  refine Prod.ext rfl ?_
  show IntOp.xori (IntOp.addi (s.1 y) (s.2 y)) (IntOp.ori (IntOp.shli _ (s.2 y) (L y)) (IntOp.shrui _ (s.2 y) (R y))) = _
  rw [eL, eR]
  unfold IntOp.shli IntOp.shrui
  rw [if_pos hl, if_pos hr, if_pos hl, if_pos hr]
  exact BitVec.xor_comm _ _

theorem atH_inj (k l n : BitVec 32) {K L N : IVec T 32} (s : IVec T 32 × IVec T 32) (y : T.Idx)
    (eK : K y = k) (eL : L y = l) (eN : N y = n) : atH (injH K L N s) y = inj k (IntOp.addi l n) (atH s y) := by
  unfold atH injH inj
  refine Prod.ext ?_ ?_
  · show IntOp.addi (s.1 y) (K y) = _; rw [eK]
  · show IntOp.addi (IntOp.addi (s.2 y) (L y)) (N y) = _; rw [eL, eN]; exact BitVec.add_assoc _ _ _

variable {bc : BitVec 32 → IVec T 32} {y : T.Idx} (hbc : ∀ v, bc v y = v)
include hbc

theorem atH_mixA (s : IVec T 32 × IVec T 32) : atH (mixHA bc s) y = roundsA (atH s y) := by
  unfold mixHA roundsA
  rw [atH_rot 6#32 26#32 (by decide) (by decide) _ _ (hbc _) (hbc _), atH_rot 26#32 6#32 (by decide) (by decide) _ _ (hbc _) (hbc _),
    atH_rot 15#32 17#32 (by decide) (by decide) _ _ (hbc _) (hbc _), atH_rot 13#32 19#32 (by decide) (by decide) _ _ (hbc _) (hbc _)]

theorem atH_mixB (s : IVec T 32 × IVec T 32) : atH (mixHB bc s) y = roundsB (atH s y) := by
  unfold mixHB roundsB
  rw [atH_rot 24#32 8#32 (by decide) (by decide) _ _ (hbc _) (hbc _), atH_rot 16#32 16#32 (by decide) (by decide) _ _ (hbc _) (hbc _),
    atH_rot 29#32 3#32 (by decide) (by decide) _ _ (hbc _) (hbc _), atH_rot 17#32 15#32 (by decide) (by decide) _ _ (hbc _) (hbc _)]

/-- The cipher of arrays at a position is the cipher of the words there. -/
theorem atH_cipher (k0 k1 k2 : BitVec 32) {K0 K1 K2 : IVec T 32} (s : IVec T 32 × IVec T 32) (e0 : K0 y = k0) (e1 : K1 y = k1) (e2 : K2 y = k2) :
    atH (cipherH bc K0 K1 K2 s) y
      = cipherFrom k0 k1 k2 (IntOp.addi k2 1#32) (IntOp.addi k0 2#32) (IntOp.addi k1 3#32) (IntOp.addi k2 4#32) (IntOp.addi k0 5#32) (atH s y) := by
  unfold cipherH cipherFrom
  rw [atH_inj k2 k0 5#32 _ _ e2 e0 (hbc _), atH_mixA hbc, atH_inj k1 k2 4#32 _ _ e1 e2 (hbc _), atH_mixB hbc,
    atH_inj k0 k1 3#32 _ _ e0 e1 (hbc _), atH_mixA hbc, atH_inj k2 k0 2#32 _ _ e2 e0 (hbc _), atH_mixB hbc,
    atH_inj k1 k2 1#32 _ _ e1 e2 (hbc _), atH_mixA hbc]

omit hbc

/-- The keys of the four samples. -/
def keyA : Fin 4 → BitVec 32 := ![1832780943#32, 64467757#32, 2465931498#32, 3134548294#32]
def keyB : Fin 4 → BitVec 32 := ![270669613#32, 2916123636#32, 255383827#32, 894150801#32]

theorem keys_at (i : Fin 4) : atH keysH (ix1 i) = (keyA i, keyB i) := by
  unfold keysH
  rw [atH_cipher (y := ix1 i) (fun v => rfl) 0#32 42#32 (IntOp.xori (IntOp.xori 0#32 42#32) 466688986#32) _ rfl rfl rfl]
  have e : atH (addi (bc4 0#32) (bc4 0#32), addi (iotaInDim S4 32 0) (bc4 42#32)) (ix1 i)
      = (IntOp.addi 0#32 0#32, IntOp.addi (BitVec.ofNat 32 i.val) 42#32) := rfl
  rw [e]
  match i with
  | 0 => rfl
  | 1 => rfl
  | 2 => rfl
  | 3 => rfl

theorem key0_at (i : Fin 4) (P : Fin 200704) (s : Fin 196) : key0 (ix3 i P s) = keyA i := by
  refine Eq.trans ?_ (congrArg Prod.fst (keys_at i))
  unfold key0 atH
  pointwise

theorem key1_at (i : Fin 4) (P : Fin 200704) (s : Fin 196) : key1 (ix3 i P s) = keyB i := by
  refine Eq.trans ?_ (congrArg Prod.snd (keys_at i))
  unfold key1 atH
  pointwise

theorem draw_congr {k0 k1 k2 l1 l2 l3 l4 l5 k0' k1' k2' l1' l2' l3' l4' l5' : BitVec 32} (x : BitVec 32) (e0 : k0 = k0') (e1 : k1 = k1') (e2 : k2 = k2')
    (f1 : l1 = l1') (f2 : l2 = l2') (f3 : l3 = l3') (f4 : l4 = l4') (f5 : l5 = l5') :
    draw k0 k1 k2 l1 l2 l3 l4 l5 x = draw k0' k1' k2' l1' l2' l3' l4' l5' x := by
  subst e0 e1 e2 f1 f2 f3 f4 f5; rfl

/-- A sample's draw in terms of its key alone. -/
theorem word_eq (i : Fin 4) (x : BitVec 32) : draw (keyA i) (keyB i) (IntOp.xori (IntOp.xori (keyA i) (keyB i)) 466688986#32) (IntOp.addi (IntOp.xori (IntOp.xori (keyA i) (keyB i)) 466688986#32) 1#32) (IntOp.addi (keyA i) 2#32) (IntOp.addi (keyB i) 3#32) (IntOp.addi (IntOp.xori (IntOp.xori (keyA i) (keyB i)) 466688986#32) 4#32) (IntOp.addi (keyA i) 5#32) x = word i x := by
  match i with
  | 0 => exact draw_congr x (by decide) (by decide) (by decide) (by decide) (by decide) (by decide) (by decide) (by decide)
  | 1 => exact draw_congr x (by decide) (by decide) (by decide) (by decide) (by decide) (by decide) (by decide) (by decide)
  | 2 => exact draw_congr x (by decide) (by decide) (by decide) (by decide) (by decide) (by decide) (by decide) (by decide)
  | 3 => exact draw_congr x (by decide) (by decide) (by decide) (by decide) (by decide) (by decide) (by decide) (by decide)

/-- The reference's word of sample `i` at a position is that sample's draw. -/
theorem pair_at (i : Fin 4) (P : Fin 200704) (s : Fin 196) :
    xori pairH.1 pairH.2 (ix3 i P s) = word i (BitVec.ofNat 32 (P.val * 196 + s.val)) := by
  have h : atH pairH (ix3 i P s) = cipherFrom (keyA i) (keyB i) (IntOp.xori (IntOp.xori (keyA i) (keyB i)) 466688986#32) (IntOp.addi (IntOp.xori (IntOp.xori (keyA i) (keyB i)) 466688986#32) 1#32) (IntOp.addi (keyA i) 2#32) (IntOp.addi (keyB i) 3#32) (IntOp.addi (IntOp.xori (IntOp.xori (keyA i) (keyB i)) 466688986#32) 4#32) (IntOp.addi (keyA i) 5#32)
      (keyA i, IntOp.addi (BitVec.ofNat 32 (P.val * 196 + s.val)) (keyB i)) := by
    unfold pairH
    rw [atH_cipher (y := ix3 i P s) (fun v => rfl) (keyA i) (keyB i) (IntOp.xori (IntOp.xori (keyA i) (keyB i)) 466688986#32) _ (key0_at i P s) (key1_at i P s)
      (by show IntOp.xori (IntOp.xori (key0 (ix3 i P s)) (key1 (ix3 i P s))) 466688986#32 = _; rw [key0_at, key1_at])]
    congr 1
    unfold atH
    refine Prod.ext ?_ ?_
    · show IntOp.addi 0#32 (key0 (ix3 i P s)) = _
      rw [key0_at]; exact BitVec.zero_add _
    · show IntOp.addi (IntOp.addi (IntOp.muli (BitVec.ofNat 32 P.val) 196#32) (BitVec.ofNat 32 s.val)) (key1 (ix3 i P s)) = _
      rw [key1_at]
      show IntOp.addi _ _ = IntOp.addi _ _
      congr 1
      unfold IntOp.addi IntOp.muli
      apply BitVec.eq_of_toNat_eq
      simp only [BitVec.toNat_add, BitVec.toNat_mul, BitVec.toNat_ofNat]
      have := P.isLt
      omega
  have h1 : xori pairH.1 pairH.2 (ix3 i P s) = IntOp.xori (atH pairH (ix3 i P s)).1 (atH pairH (ix3 i P s)).2 := rfl
  rw [h1, h]
  exact word_eq i _

end Cert.ReferenceIdeal.Hand

end
-- ==== Proof.Spec.lean ====
/- The quantities both programs compute, over the arguments: logits, values, and the words drawn. -/
module

public import proofs.«01_k».proof.Proof.Race
public import proofs.«01_k».proof.Proof.RefWords

@[expose] public section

set_option maxRecDepth 16384

noncomputable section

namespace Cert.Proof

open Cert.ReferenceIdeal Idealize.ShloMosaic

/-- The arguments: images, centroids and the value matrix. -/
abbrev Images := FVec Ideal S4x96x224x224 .f32
abbrev Centroids := FVec Ideal S196x96 .f32
abbrev Matrix := FVec Ideal S96x96 .f32

variable (x : Images) (c : Centroids) (w : Matrix) (b : Fin 4) (p : Fin 50176)

/-- Channel `k` of pixel `p` of image `b`. -/
def pix (k : Fin 96) : EReal := x (ix4 b k ⟨p.val / 224, by omega⟩ ⟨p.val % 224, by omega⟩)

/-- The pixel's logits. -/
def lgt (s : Fin 196) : EReal := Ideal.div (∑ k, pix x b p k * c (ix2 s k)) (Ideal.sqrt (Ideal.ofBits .f32 1119879168#32))

/-- The pixel's values. -/
def val (k : Fin 96) : EReal := ∑ a, pix x b p a * w (ix2 a k)

/-- The words that sample `i` draws at the pixel. -/
def drawn (i : Fin 4) (s : Fin 196) : BitVec 32 := word i (position b.val p.val s.val)

/-- The image and the pixel of a flat pixel number, and back. -/
def img (P : Fin 200704) : Fin 4 := ⟨P.val / 50176, by omega⟩
def loc (P : Fin 200704) : Fin 50176 := ⟨P.val % 50176, by omega⟩
def flatPix : Fin 200704 := ⟨b.val * 50176 + p.val, by omega⟩

theorem img_flatPix : img (flatPix b p) = b := Fin.ext (by show (b.val * 50176 + p.val) / 50176 = _; omega)
theorem loc_flatPix : loc (flatPix b p) = p := Fin.ext (by show (b.val * 50176 + p.val) % 50176 = _; omega)
theorem flatPix_img (P : Fin 200704) : flatPix (img P) (loc P) = P := Fin.ext (by show P.val / 50176 * 50176 + P.val % 50176 = _; omega)

end Cert.Proof

end
-- ==== Proof.RefPoint.lean ====
/- The reference read at an index: its logits, noise, scores and labels. -/
module

public import proofs.«01_k».proof.Proof.Spec

@[expose] public section

set_option maxRecDepth 16384

noncomputable section

namespace Cert.ReferenceIdeal.Hand

open Cert.ReferenceIdeal.Gen Cert.ReferenceIdeal.Value Idealize.ShloMosaic Cert.Proof

variable (x : FVec Ideal S4x96x224x224 .f32) (c : FVec Ideal S196x96 .f32) (w : FVec Ideal S96x96 .f32)

/-- The uniform draws of any words. -/
def uniformOf (d : IVec S4x200704x196 32) : FVec Ideal S4x200704x196 .f32 :=
  maximumf (subf (bitcastToFloat (F := Ideal) .f32 (ori (Host.shrui d (bcAll 9#32)) (bcAll 1065353216#32)))
    (broadcastInDim S4x200704x196 ![] bcast_S_S4x200704x196 (constant S_ .f32 0x3F800000#32))) (broadcastInDim S4x200704x196 ![] bcast_S_S4x200704x196 (constant S_ .f32 0x00800000#32))

theorem uniformOf_at (d : IVec S4x200704x196 32) (i : Fin 4) (P : Fin 200704) (s : Fin 196) :
    uniformOf d (ix3 i P s) = unif (d (ix3 i P s)) := by
  unfold unif
  pointwise [uniformOf, bcAll]
  rfl

/-- The scores of any draws and logarithms. -/
def scoresOf (u : FVec Ideal S4x200704x196 .f32) (l : FVec Ideal S200704x196 .f32) : FVec Ideal S4x200704x196 .f32 :=
  addf (Host.negf (Host.log (Host.negf (Host.log u))))
    (broadcastInDim S4x200704x196 ![0, 1, 2] bcast_S1x200704x196_S4x200704x196_0_1_2 (broadcastInDim S1x200704x196 ![1, 2] bcast_S200704x196_S1x200704x196_1_2 l))

theorem scoresOf_at (u : FVec Ideal S4x200704x196 .f32) (l : FVec Ideal S200704x196 .f32) (i : Fin 4) (P : Fin 200704) (s : Fin 196) :
    scoresOf u l (ix3 i P s) = -Ideal.log (-Ideal.log (u (ix3 i P s))) + l (ix2 P s) := by
  pointwise [scoresOf]

/-- The draws' greatest scores. -/
def maxOf (z : FVec Ideal S4x200704x196 .f32) : FVec Ideal S4x200704 .f32 :=
  Host.reduce FloatOps.maximumf z (constant S_ .f32 0xFF800000#32) reducesTo_S4x200704x196_S4x200704_d2 h_S_

theorem maxOf_at (z : FVec Ideal S4x200704x196 .f32) (i : Fin 4) (P : Fin 200704) :
    maxOf z (ix2 i P) = Finset.fold max (Ideal.ofBits .f32 4286578688#32) (fun a => z (ix3 i P a)) Finset.univ := by
  pointwise [maxOf]

/-- A value of every draw, at each of its superpixels. -/
def spreadOf (z : FVec Ideal S4x200704 .f32) : FVec Ideal S4x200704x196 .f32 :=
  broadcastInDim S4x200704x196 ![0, 1, 2] bcast_S4x200704x1_S4x200704x196_0_1_2 (broadcastInDim S4x200704x1 ![0, 1] bcast_S4x200704_S4x200704x1_0_1 z)

theorem spreadOf_at (z : FVec Ideal S4x200704 .f32) (i : Fin 4) (P : Fin 200704) (s : Fin 196) : spreadOf z (ix3 i P s) = z (ix2 i P) := by
  pointwise [spreadOf]

/-- Where two arrays agree. -/
theorem agree_at (z z' : FVec Ideal S4x200704x196 .f32) (i : Fin 4) (P : Fin 200704) (s : Fin 196) :
    cmpf .oeq z z' (ix3 i P s) = BitVec.ofBool (decide (z (ix3 i P s) = z' (ix3 i P s))) := rfl

theorem logits_at (b : Fin 4) (p : Fin 50176) (s : Fin 196) : logitsH x c (ix3 b p s) = lgt x c b p s := by
  unfold lgt pix
  pointwise [logitsH]

/-- The pixels' greatest logits. -/
def rowMax (l : FVec Ideal S4x50176x196 .f32) : FVec Ideal S4x50176 .f32 :=
  Host.reduce FloatOps.maximumf l (constant S_ .f32 0xFF800000#32) reducesTo_S4x50176x196_S4x50176_d2 h_S_

theorem rowMax_at (l : FVec Ideal S4x50176x196 .f32) (b : Fin 4) (p : Fin 50176) :
    rowMax l (ix2 b p) = Finset.fold max (Ideal.ofBits .f32 4286578688#32) (fun a => l (ix3 b p a)) Finset.univ := by
  pointwise [rowMax]

/-- The exponentials of logits less a value of every pixel. -/
def expsOf (l : FVec Ideal S4x50176x196 .f32) (t : FVec Ideal S4x50176 .f32) : FVec Ideal S4x50176x196 .f32 :=
  Host.exp (subf l (broadcastInDim S4x50176x196 ![0, 1, 2] bcast_S4x50176x1_S4x50176x196_0_1_2 (broadcastInDim S4x50176x1 ![0, 1] bcast_S4x50176_S4x50176x1_0_1
    (maximumf (broadcastInDim S4x50176 ![] bcast_S_S4x50176 (constant S_ .f32 0xFF800000#32)) t))))

theorem expsOf_at (l : FVec Ideal S4x50176x196 .f32) (t : FVec Ideal S4x50176 .f32) (b : Fin 4) (p : Fin 50176) (s : Fin 196) :
    expsOf l t (ix3 b p s) = Ideal.exp (l (ix3 b p s) - max (Ideal.ofBits .f32 4286578688#32) (t (ix2 b p))) := by
  pointwise [expsOf]

theorem exps_at (b : Fin 4) (p : Fin 50176) (s : Fin 196) : expsH x c (ix3 b p s) = Ideal.exp (lgt x c b p s - top (lgt x c b p)) := by
  have h : expsH x c = expsOf (logitsH x c) (rowMax (logitsH x c)) := rfl
  have e : (fun a => logitsH x c (ix3 b p a)) = lgt x c b p := funext fun a => logits_at x c b p a
  rw [h, expsOf_at, rowMax_at, e, logits_at]
  show Ideal.exp (lgt x c b p s - max _ (top (lgt x c b p))) = _
  rw [ofBits_bot, max_eq_right bot_le]

theorem logs_at (P : Fin 200704) (s : Fin 196) :
    logsH x c (ix2 P s) = Ideal.log (Ideal.div (Ideal.exp (lgt x c (img P) (loc P) s - top (lgt x c (img P) (loc P)))) (∑ a, Ideal.exp (lgt x c (img P) (loc P) a - top (lgt x c (img P) (loc P)))) + Ideal.ofBits .f32 814313567#32) := by
  simp only [← exps_at]
  pointwise [logsH]
  rfl

theorem scores_at (i : Fin 4) (P : Fin 200704) (s : Fin 196) :
    scoresH x c (ix3 i P s) = score (lgt x c (img P) (loc P)) (drawn (img P) (loc P) i) s := by
  have e : scoresH x c = scoresOf (uniformOf (xori pairH.1 pairH.2)) (logsH x c) := rfl
  have ew : xori pairH.1 pairH.2 (ix3 i P s) = drawn (img P) (loc P) i s := by
    rw [pair_at]
    unfold drawn position
    congr 2
    show P.val * 196 + s.val = (50176 * (P.val / 50176) + P.val % 50176) * 196 + s.val
    rw [Nat.div_add_mod]
  rw [e, scoresOf_at, uniformOf_at, ew, logs_at]
  rfl

theorem wins_at (i : Fin 4) (P : Fin 200704) (s : Fin 196) :
    winsH x c (ix3 i P s) = BitVec.ofBool (decide (score (lgt x c (img P) (loc P)) (drawn (img P) (loc P) i) s
      = Finset.fold max (Ideal.ofBits .f32 4286578688#32) (score (lgt x c (img P) (loc P)) (drawn (img P) (loc P) i)) Finset.univ)) := by
  have e : winsH x c = cmpf .oeq (scoresH x c) (spreadOf (maxOf (scoresH x c))) := rfl
  have e2 : (fun a => scoresH x c (ix3 i P a)) = score (lgt x c (img P) (loc P)) (drawn (img P) (loc P) i) := funext fun a => scores_at x c i P a
  rw [e, agree_at, spreadOf_at, maxOf_at, e2, scores_at]

theorem values_at (P : Fin 200704) (k : Fin 96) : valuesH x w (ix2 P k) = val x w (img P) (loc P) k := by
  unfold val pix
  pointwise [valuesH]
  rfl

end Cert.ReferenceIdeal.Hand

end
-- ==== Proof.PreTerms.lean ====
/- The precondition as a named term: one winner per draw. -/
module

public import proofs.«01_k».proof.Proof.RefTerms

@[expose] public section

set_option maxRecDepth 16384

noncomputable section

namespace Cert.Proof

open Idealize.ShloMosaic

/-- The side conditions of the precondition's operations. -/
instance pre_facts : Cert.Pre_no_tied_draw.Facts := by
  constructor <;> decide

end Cert.Proof

namespace Cert.ReferenceIdeal.Hand

open Cert.ReferenceIdeal.Gen Cert.ReferenceIdeal.Value Idealize.ShloMosaic Cert.Proof

variable {F : FTy → Type} [FloatOps F]

/-- How many superpixels win each draw. -/
def winnersH (x : FVec F S4x96x224x224 .f32) (c : FVec F S196x96 .f32) : IVec S4x200704 32 :=
  Host.reduce IntOp.addi (extui 32 (winsH x c) (by decide)) (constantI S_ 32 0#32) reducesTo_S4x200704x196_S4x200704_d2 h_S_

/-- The precondition's bit: every draw has one winner. -/
def preH (x : FVec F S4x96x224x224 .f32) (c : FVec F S196x96 .f32) : IVec S_ 1 :=
  Host.reduce IntOp.andi (cmpi .eq (winnersH x c) (broadcastInDim S4x200704 ![] pre_facts.bcast_S_S4x200704 (constantI S_ 32 1#32))) (constantI S_ 1 1#1) pre_facts.reducesTo_S4x200704_S_d0_1 h_S_

/-- The precondition is this bit. -/
theorem pre_eq (x : FVec F S4x96x224x224 .f32) (c : FVec F S196x96 .f32) (w : FVec F S96x96 .f32) :
    Cert.Pre_no_tied_draw.fn x c w = preH x c := by
  sl_kernel_rfl

end Cert.ReferenceIdeal.Hand

end
-- ==== Proof.Precond.lean ====
/- What the precondition says: every draw has one winner, which is the label. -/
module

public import proofs.«01_k».proof.Proof.RefPoint
public import proofs.«01_k».proof.Proof.PreTerms
public import Idealize.ShloMosaic.Lib.ReduceAll

@[expose] public section

set_option maxRecDepth 16384

noncomputable section

namespace Cert.Proof

open Idealize.ShloMosaic

/-- The sum of the bits of a property counts where it holds. -/
theorem fold_count {ι : Type} [DecidableEq ι] (q : ι → Prop) [DecidablePred q] (t : Finset ι) :
    Finset.fold IntOp.addi 0#32 (fun a => BitVec.setWidth 32 (BitVec.ofBool (decide (q a)))) t = BitVec.ofNat 32 (t.filter q).card := by
  induction t using Finset.induction_on with
  | empty => rfl
  | insert a t ha ih =>
    rw [Finset.fold_insert ha, ih, Finset.filter_insert]
    by_cases h : q a
    · rw [if_pos h, Finset.card_insert_of_notMem (fun hm => ha (Finset.mem_filter.1 hm).1), decide_eq_true h, Nat.add_comm]
      exact (BitVec.ofNat_add 1 _).symm
    · rw [if_neg h, decide_eq_false h]
      exact BitVec.zero_add _

/-- The least of a set's numbers that are 196 but for one is that one. -/
theorem fold_least (l : Fin 196) (f : Fin 196 → BitVec 32) (hl : f l = BitVec.ofNat 32 l.val) (ho : ∀ s, s ≠ l → f s = 196#32) :
    Finset.fold IntOp.minsi 2147483647#32 f Finset.univ = BitVec.ofNat 32 l.val := by
  have hrest : ∀ t : Finset (Fin 196), l ∉ t → Finset.fold IntOp.minsi 2147483647#32 f t = 2147483647#32 ∨ Finset.fold IntOp.minsi 2147483647#32 f t = 196#32 := by
    intro t
    induction t using Finset.induction_on with
    | empty => intro _; exact .inl rfl
    | insert a t ha ih =>
      intro hn
      rw [Finset.mem_insert, not_or] at hn
      rw [Finset.fold_insert ha, ho a (fun h => hn.1 h.symm)]
      rcases ih hn.2 with h | h
      · rw [h]; exact .inr (by decide)
      · rw [h]; exact .inr (by decide)
  have hsmall : ∀ l : Fin 196, IntOp.minsi (BitVec.ofNat 32 l.val) 2147483647#32 = BitVec.ofNat 32 l.val ∧ IntOp.minsi (BitVec.ofNat 32 l.val) 196#32 = BitVec.ofNat 32 l.val := by decide
  rw [← Finset.insert_erase (Finset.mem_univ l), Finset.fold_insert (Finset.notMem_erase _ _), hl]
  rcases hrest (Finset.univ.erase l) (Finset.notMem_erase _ _) with h | h
  · rw [h]; exact (hsmall l).1
  · rw [h]; exact (hsmall l).2

theorem ofBool_one {q : Prop} [Decidable q] : BitVec.ofBool (decide q) = 1#1 ↔ q := by
  by_cases h : q
  · simp [h]
  · simp [h]

theorem ofBool_zero {q : Prop} [Decidable q] : BitVec.ofBool (decide q) = 0#1 ↔ ¬q := by
  by_cases h : q
  · simp [h]
  · simp [h]

end Cert.Proof

namespace Cert.ReferenceIdeal.Hand

open Cert.ReferenceIdeal.Gen Cert.ReferenceIdeal.Value Idealize.ShloMosaic Cert.Proof

variable (x : Images) (c : Centroids)

/-- Superpixel `s` attains the greatest score of sample `i` at the pixel. -/
def wins (i : Fin 4) (b : Fin 4) (p : Fin 50176) (s : Fin 196) : Prop :=
  score (lgt x c b p) (drawn b p i) s = Finset.fold max (Ideal.ofBits .f32 4286578688#32) (score (lgt x c b p) (drawn b p i)) Finset.univ

/-- How often a mask holds along its last axis. -/
def countOf (q : IVec S4x200704x196 1) : IVec S4x200704 32 :=
  Host.reduce IntOp.addi (extui 32 q (by decide)) (constantI S_ 32 0#32) reducesTo_S4x200704x196_S4x200704_d2 h_S_

theorem countOf_at (q : IVec S4x200704x196 1) (i : Fin 4) (P : Fin 200704) :
    countOf q (ix2 i P) = Finset.fold IntOp.addi 0#32 (fun a => BitVec.setWidth 32 (q (ix3 i P a))) Finset.univ := by
  pointwise [countOf]

/-- The least superpixel of a mask. -/
def leastOf (q : IVec S4x200704x196 1) : IVec S4x200704 32 :=
  Host.reduce IntOp.minsi (select q (iotaInDim S4x200704x196 32 2) (broadcastInDim S4x200704x196 ![] bcast_S_S4x200704x196 (id (constantI S_ 32 196#32))))
    (constantI S_ 32 2147483647#32) reducesTo_S4x200704x196_S4x200704_d2 h_S_

theorem leastOf_at (q : IVec S4x200704x196 1) (i : Fin 4) (P : Fin 200704) :
    leastOf q (ix2 i P) = Finset.fold IntOp.minsi 2147483647#32 (fun a => Scalar.select (q (ix3 i P a)) (BitVec.ofNat 32 a.val) 196#32) Finset.univ := by
  pointwise [leastOf]
  rfl

/-- Every draw of every pixel has one winner. -/
structure Fine : Prop where
  winner : ∀ i b p, ∃ l, ∀ s, wins x c i b p s ↔ s = l

instance : Subsingleton S_.Idx := ⟨fun _ _ => funext fun a => a.elim0⟩

open Classical in
theorem fine_of_pre (h : preH x c = fun _ => 1#1) : Fine x c := by
  refine ⟨fun i b p => ?_⟩
  have e := Host.reduce_andi_all _ _ _ _ _ (congrFun h ix0) (ix2 i (flatPix b p))
  have e' : countOf (winsH x c) (ix2 i (flatPix b p)) = 1#32 := IntOp.cmpi_eq.1 e
  have hq : (fun a => BitVec.setWidth 32 (winsH x c (ix3 i (flatPix b p) a))) = fun a => BitVec.setWidth 32 (BitVec.ofBool (decide (wins x c i b p a))) := by
    funext a
    rw [wins_at, img_flatPix, loc_flatPix]
    unfold wins
    congr
  rw [countOf_at, hq, fold_count] at e'
  have hc : (Finset.univ.filter (wins x c i b p)).card ≤ 196 := (Finset.card_le_univ _).trans_eq (Fintype.card_fin _)
  have h1 : (Finset.univ.filter (wins x c i b p)).card = 1 := by
    have := congrArg BitVec.toNat e'
    rw [BitVec.toNat_ofNat, Nat.mod_eq_of_lt (by omega)] at this
    exact this
  obtain ⟨l, hl⟩ := Finset.card_eq_one.1 h1
  refine ⟨l, fun s => ?_⟩
  rw [← Finset.mem_singleton, ← hl, Finset.mem_filter]
  exact ⟨fun h => ⟨Finset.mem_univ _, h⟩, fun h => h.2⟩

variable {x c} (hf : Fine x c)

/-- The label of sample `i` at a pixel. -/
def lab (i : Fin 4) (b : Fin 4) (p : Fin 50176) : Fin 196 := (hf.winner i b p).choose

theorem lab_spec (i : Fin 4) (b : Fin 4) (p : Fin 50176) (s : Fin 196) : wins x c i b p s ↔ s = lab hf i b p := (hf.winner i b p).choose_spec s

/-- The race is won by the label alone. -/
theorem race_lab (i : Fin 4) (b : Fin 4) (p : Fin 50176) (s : Fin 196) :
    race (lgt x c b p) (drawn b p i) s = Finset.fold min (Ideal.ofBits .f32 2139095040#32) (race (lgt x c b p) (drawn b p i)) Finset.univ ↔ s = lab hf i b p :=
  (race_iff_score _ _ (hf.winner i b p) s).trans (lab_spec hf i b p s)

/-- The reference's labels. -/
theorem labels_at (i : Fin 4) (P : Fin 200704) : labelsH x c (ix2 i P) = BitVec.ofNat 32 (lab hf i (img P) (loc P)).val := by
  have e : labelsH x c = leastOf (winsH x c) := rfl
  rw [e, leastOf_at]
  apply fold_least
  · have hw : winsH x c (ix3 i P (lab hf i (img P) (loc P))) = 1#1 := by
      rw [wins_at]; exact ofBool_one.2 ((lab_spec hf i (img P) (loc P) _).2 rfl)
    rw [hw]; rfl
  · intro s hs
    have hw : winsH x c (ix3 i P s) = 0#1 := by
      rw [wins_at]
      exact ofBool_zero.2 fun h => hs ((lab_spec hf i (img P) (loc P) s).1 h)
    rw [hw]; rfl

end Cert.ReferenceIdeal.Hand

end
-- ==== Proof.RunFirst.lean ====
/- The body at the first tile of an image: the accumulator is stored. -/
module

public import proofs.«01_k».proof.Proof.Body

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first tile of the scatter phase: the pieces the body stores into the labels and into the accumulator,
    last first, with the proof that the body leaves those pieces written over what it found, and the output block as it was. -/
noncomputable def runFirst (c : Dev nD) (i : grid0.Coords) (arg3 : Memref sig .tc .vmem S1x96x1792 .f32) (harg3 : arg3.IsWhole)
    (arg4 : Memref sig .tc .vmem S196x96 .f32) (harg4 : arg4.IsWhole) (arg5 : Memref sig .tc .vmem S128x96 .f32) (harg5 : arg5.IsWhole)
    (arg6 : Memref sig .tc .vmem S1x96x1792 .f32) (harg6 : arg6.IsWhole) (arg7 : Memref sig .tc .vmem S4x50176 .i32) (harg7 : arg7.IsWhole)
    (arg8 : Memref sig .tc .vmem S4x196x128 .f32) (harg8 : arg8.IsWhole)
    (hc0 : cond0_0 i) (hc1 : cond0_1 i) (hc2 : ¬cond0_2 i) (hc3 : ¬cond0_3 i) (hc4 : ¬cond0_4 i)
    (x0 : Vec F S1x96x1792 .f32) (x1 : Vec F S196x96 .f32) (x2 : Vec F S128x96 .f32) (y : Vec F S1x96x1792 .f32)
    (l : Vec F S4x50176 .i32) (a : Vec F S4x196x128 .f32) :
    { L : List (View.Piece (Elt F) S4x50176 .i32) × List (View.Piece (Elt F) S4x196x128 .f32) //
      RunsTo c i arg3 harg3 arg4 harg4 arg5 harg5 arg6 harg6 arg7 harg7 arg8 harg8 x0 x1 x2 y y
        l (arg7.view.read (Elt F) (arg7.view.writes (Elt F) (harg7.unread l) L.1))
        a (arg8.view.read (Elt F) (arg8.view.writes (Elt F) (harg8.unread a) L.2)) } := by
  refine ⟨(?_, ?_), fun E K => ?run⟩
  case run =>
    simp only [cc0__fused_kernel_eq_skeleton]; unfold cc0__fused_kernel_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton, k0_part15_eq_skeleton,
      k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg7.eq_unread hfs0; obtain rfl := harg8.eq_unread hfs1
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact hf3
      iexact H3
    isplitl [HS0]
    · iexists _; isplitr; swap; · iexact HS0
      ipureintro; rfl
    iexists _; isplitr; swap; · iexact HS1
    ipureintro; rfl

end Cert.KernelIdeal.Hand

end
-- ==== Proof.RunMid.lean ====
/- The body at a tile between the first and the last: the accumulator is added to. -/
module

public import proofs.«01_k».proof.Proof.Body

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a tile of the scatter phase that is neither the first nor the last: the pieces the body stores into the labels and into the accumulator,
    last first, with the proof that the body leaves those pieces written over what it found, and the output block as it was. -/
noncomputable def runMid (c : Dev nD) (i : grid0.Coords) (arg3 : Memref sig .tc .vmem S1x96x1792 .f32) (harg3 : arg3.IsWhole)
    (arg4 : Memref sig .tc .vmem S196x96 .f32) (harg4 : arg4.IsWhole) (arg5 : Memref sig .tc .vmem S128x96 .f32) (harg5 : arg5.IsWhole)
    (arg6 : Memref sig .tc .vmem S1x96x1792 .f32) (harg6 : arg6.IsWhole) (arg7 : Memref sig .tc .vmem S4x50176 .i32) (harg7 : arg7.IsWhole)
    (arg8 : Memref sig .tc .vmem S4x196x128 .f32) (harg8 : arg8.IsWhole)
    (hc0 : cond0_0 i) (hc1 : ¬cond0_1 i) (hc2 : cond0_2 i) (hc3 : ¬cond0_3 i) (hc4 : ¬cond0_4 i)
    (x0 : Vec F S1x96x1792 .f32) (x1 : Vec F S196x96 .f32) (x2 : Vec F S128x96 .f32) (y : Vec F S1x96x1792 .f32)
    (l : Vec F S4x50176 .i32) (a : Vec F S4x196x128 .f32) :
    { L : List (View.Piece (Elt F) S4x50176 .i32) × List (View.Piece (Elt F) S4x196x128 .f32) //
      RunsTo c i arg3 harg3 arg4 harg4 arg5 harg5 arg6 harg6 arg7 harg7 arg8 harg8 x0 x1 x2 y y
        l (arg7.view.read (Elt F) (arg7.view.writes (Elt F) (harg7.unread l) L.1))
        a (arg8.view.read (Elt F) (arg8.view.writes (Elt F) (harg8.unread a) L.2)) } := by
  refine ⟨(?_, ?_), fun E K => ?run⟩
  case run =>
    simp only [cc0__fused_kernel_eq_skeleton]; unfold cc0__fused_kernel_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton, k0_part15_eq_skeleton,
      k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg7.eq_unread hfs0; obtain rfl := harg8.eq_unread hfs1
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact hf3
      iexact H3
    isplitl [HS0]
    · iexists _; isplitr; swap; · iexact HS0
      ipureintro; rfl
    iexists _; isplitr; swap; · iexact HS1
    ipureintro; rfl

end Cert.KernelIdeal.Hand

end
-- ==== Proof.RunLast.lean ====
/- The body at the last tile of an image: the accumulator is added to, then divided by the counts. -/
module

public import proofs.«01_k».proof.Proof.Body

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the last tile of the scatter phase: the pieces the body stores into the labels and into the accumulator,
    last first, with the proof that the body leaves those pieces written over what it found, and the output block as it was. -/
noncomputable def runLast (c : Dev nD) (i : grid0.Coords) (arg3 : Memref sig .tc .vmem S1x96x1792 .f32) (harg3 : arg3.IsWhole)
    (arg4 : Memref sig .tc .vmem S196x96 .f32) (harg4 : arg4.IsWhole) (arg5 : Memref sig .tc .vmem S128x96 .f32) (harg5 : arg5.IsWhole)
    (arg6 : Memref sig .tc .vmem S1x96x1792 .f32) (harg6 : arg6.IsWhole) (arg7 : Memref sig .tc .vmem S4x50176 .i32) (harg7 : arg7.IsWhole)
    (arg8 : Memref sig .tc .vmem S4x196x128 .f32) (harg8 : arg8.IsWhole)
    (hc0 : cond0_0 i) (hc1 : ¬cond0_1 i) (hc2 : cond0_2 i) (hc3 : cond0_3 i) (hc4 : ¬cond0_4 i)
    (x0 : Vec F S1x96x1792 .f32) (x1 : Vec F S196x96 .f32) (x2 : Vec F S128x96 .f32) (y : Vec F S1x96x1792 .f32)
    (l : Vec F S4x50176 .i32) (a : Vec F S4x196x128 .f32) :
    { L : List (View.Piece (Elt F) S4x50176 .i32) × List (View.Piece (Elt F) S4x196x128 .f32) //
      RunsTo c i arg3 harg3 arg4 harg4 arg5 harg5 arg6 harg6 arg7 harg7 arg8 harg8 x0 x1 x2 y y
        l (arg7.view.read (Elt F) (arg7.view.writes (Elt F) (harg7.unread l) L.1))
        a (arg8.view.read (Elt F) (arg8.view.writes (Elt F) (harg8.unread a) L.2)) } := by
  refine ⟨(?_, ?_), fun E K => ?run⟩
  case run =>
    simp only [cc0__fused_kernel_eq_skeleton]; unfold cc0__fused_kernel_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton, k0_part15_eq_skeleton,
      k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg7.eq_unread hfs0; obtain rfl := harg8.eq_unread hfs1
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact hf3
      iexact H3
    isplitl [HS0]
    · iexists _; isplitr; swap; · iexact HS0
      ipureintro; rfl
    iexists _; isplitr; swap; · iexact HS1
    ipureintro; rfl

end Cert.KernelIdeal.Hand

end
-- ==== Proof.RunGather.lean ====
/- The body in the gather phase: the output block is stored. -/
module

public import proofs.«01_k».proof.Proof.Body

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- In the gather phase: the pieces the body stores into the output block, last first, with the proof that the body leaves them
    written over what it found, and the labels and the accumulator as they were. -/
noncomputable def runGather (c : Dev nD) (i : grid0.Coords) (arg3 : Memref sig .tc .vmem S1x96x1792 .f32) (harg3 : arg3.IsWhole)
    (arg4 : Memref sig .tc .vmem S196x96 .f32) (harg4 : arg4.IsWhole) (arg5 : Memref sig .tc .vmem S128x96 .f32) (harg5 : arg5.IsWhole)
    (arg6 : Memref sig .tc .vmem S1x96x1792 .f32) (harg6 : arg6.IsWhole) (arg7 : Memref sig .tc .vmem S4x50176 .i32) (harg7 : arg7.IsWhole)
    (arg8 : Memref sig .tc .vmem S4x196x128 .f32) (harg8 : arg8.IsWhole)
    (hc0 : ¬cond0_0 i) (hc4 : cond0_4 i)
    (x0 : Vec F S1x96x1792 .f32) (x1 : Vec F S196x96 .f32) (x2 : Vec F S128x96 .f32) (y : Vec F S1x96x1792 .f32)
    (l : Vec F S4x50176 .i32) (a : Vec F S4x196x128 .f32) :
    { L : List (View.Piece (Elt F) S1x96x1792 .f32) //
      RunsTo c i arg3 harg3 arg4 harg4 arg5 harg5 arg6 harg6 arg7 harg7 arg8 harg8 x0 x1 x2
        y (arg6.view.read (Elt F) (arg6.view.writes (Elt F) (harg6.unread y) L)) l l a a } := by
  refine ⟨?_, fun E K => ?run⟩
  case run =>
    simp only [cc0__fused_kernel_eq_skeleton]; unfold cc0__fused_kernel_skel
    rw [dif_neg hc0]
    simp only [k0_part19_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hf3; obtain rfl := harg7.eq_unread hfs0; obtain rfl := harg8.eq_unread hfs1
    sl_exec (disch := first | sl_exact hc0 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; swap; · iexact H3
      ipureintro; rfl
    isplitl [HS0]
    · iexists _; isplitr; · ipureintro; exact harg7.read_unread _
      iexact HS0
    iexists _; isplitr; · ipureintro; exact harg8.read_unread _
    iexact HS1

end Cert.KernelIdeal.Hand

end
-- ==== Proof.RunValues.lean ====
/- What each run of the body stores, in closed form. -/
module

public import proofs.«01_k».proof.Proof.Vocab
public import proofs.«01_k».proof.Proof.RunFirst
public import proofs.«01_k».proof.Proof.RunMid
public import proofs.«01_k».proof.Proof.RunLast
public import proofs.«01_k».proof.Proof.RunGather

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section runs
variable (c : Dev nD) (i : grid0.Coords) (arg3 : Memref sig .tc .vmem S1x96x1792 .f32) (harg3 : arg3.IsWhole)
    (arg4 : Memref sig .tc .vmem S196x96 .f32) (harg4 : arg4.IsWhole) (arg5 : Memref sig .tc .vmem S128x96 .f32) (harg5 : arg5.IsWhole)
    (arg6 : Memref sig .tc .vmem S1x96x1792 .f32) (harg6 : arg6.IsWhole) (arg7 : Memref sig .tc .vmem S4x50176 .i32) (harg7 : arg7.IsWhole)
    (arg8 : Memref sig .tc .vmem S4x196x128 .f32) (harg8 : arg8.IsWhole)
    (x0 : Vec F S1x96x1792 .f32) (x1 : Vec F S196x96 .f32) (x2 : Vec F S128x96 .f32) (y : Vec F S1x96x1792 .f32)
    (l : Vec F S4x50176 .i32) (a : Vec F S4x196x128 .f32)

/-- The body's load of a whole memref reads its contents: the image block. -/
abbrev ld3 : Vec F S1x96x1792 .f32 := View.readAt (Elt F) arg3.view (Rect.unit ![0, 0, 0] S1x96x1792.size inb_S1x96x1792_S1x96x1792_0_0_0).toLoadRect (harg3.unread x0)
abbrev ld4 : Vec F S196x96 .f32 := View.readAt (Elt F) arg4.view (Rect.unit ![0, 0] S196x96.size inb_S196x96_S196x96_0_0).toLoadRect (harg4.unread x1)
abbrev ld5 : Vec F S128x96 .f32 := View.readAt (Elt F) arg5.view (Rect.unit ![0, 0] S128x96.size inb_S128x96_S128x96_0_0).toLoadRect (harg5.unread x2)
abbrev ld8 : Vec F S4x196x128 .f32 := View.readAt (Elt F) arg8.view (Rect.unit ![0, 0, 0] S4x196x128.size inb_S4x196x128_S4x196x128_0_0_0).toLoadRect (harg8.unread a)

theorem ld3_eq : ld3 arg3 harg3 x0 = x0 := by rw [ld3, View.readAt_full, harg3.read_unread]
theorem ld4_eq : ld4 arg4 harg4 x1 = x1 := by rw [ld4, View.readAt_full, harg4.read_unread]
theorem ld5_eq : ld5 arg5 harg5 x2 = x2 := by rw [ld5, View.readAt_full, harg5.read_unread]
theorem ld8_eq : ld8 arg8 harg8 a = a := by rw [ld8, View.readAt_full, harg8.read_unread]

/-- A tile's one-hot matrices, from the image block and the centroids. -/
def tileHots : Fin 4 → FVec F S196x1792 .f32 := hots i (k0_pay7 x0 x1)
/-- A tile's sums, from the image block, the centroids and the value matrix. -/
def tileSums : FVec F S4x196x128 .f32 := sums (tileHots i x0 x1) (k0_pay9 x0 x2)

theorem runFirst_labs (hc0 : cond0_0 i) (hc1 : cond0_1 i) (hc2 : ¬cond0_2 i) (hc3 : ¬cond0_3 i) (hc4 : ¬cond0_4 i) :
    (runFirst c i arg3 harg3 arg4 harg4 arg5 harg5 arg6 harg6 arg7 harg7 arg8 harg8 hc0 hc1 hc2 hc3 hc4 x0 x1 x2 y l a).1.1
      = [⟨Rect.unit (k0_off4 i) S1x1792.size (k0_off4_inb i hc0), labV ((tileHots i (ld3 arg3 harg3 x0) (ld4 arg4 harg4 x1)) 3)⟩, ⟨Rect.unit (k0_off3 i) S1x1792.size (k0_off3_inb i hc0), labV ((tileHots i (ld3 arg3 harg3 x0) (ld4 arg4 harg4 x1)) 2)⟩,
         ⟨Rect.unit (k0_off2 i) S1x1792.size (k0_off2_inb i hc0), labV ((tileHots i (ld3 arg3 harg3 x0) (ld4 arg4 harg4 x1)) 1)⟩, ⟨Rect.unit (k0_off1 i) S1x1792.size (k0_off1_inb i hc0), labV ((tileHots i (ld3 arg3 harg3 x0) (ld4 arg4 harg4 x1)) 0)⟩] := by
  sl_kernel_rfl

theorem runFirst_acc (hc0 : cond0_0 i) (hc1 : cond0_1 i) (hc2 : ¬cond0_2 i) (hc3 : ¬cond0_3 i) (hc4 : ¬cond0_4 i) :
    (runFirst c i arg3 harg3 arg4 harg4 arg5 harg5 arg6 harg6 arg7 harg7 arg8 harg8 hc0 hc1 hc2 hc3 hc4 x0 x1 x2 y l a).1.2 = [⟨Rect.unit ![0, 0, 0] S4x196x128.size inb_S4x196x128_S4x196x128_0_0_0, shapeCast S4x196x128 ((tileSums i (ld3 arg3 harg3 x0) (ld4 arg4 harg4 x1) (ld5 arg5 harg5 x2))) shapeCasts_S4x196x128_S4x196x128⟩] := by
  sl_kernel_rfl

theorem runMid_labs (hc0 : cond0_0 i) (hc1 : ¬cond0_1 i) (hc2 : cond0_2 i) (hc3 : ¬cond0_3 i) (hc4 : ¬cond0_4 i) :
    (runMid c i arg3 harg3 arg4 harg4 arg5 harg5 arg6 harg6 arg7 harg7 arg8 harg8 hc0 hc1 hc2 hc3 hc4 x0 x1 x2 y l a).1.1
      = [⟨Rect.unit (k0_off4 i) S1x1792.size (k0_off4_inb i hc0), labV ((tileHots i (ld3 arg3 harg3 x0) (ld4 arg4 harg4 x1)) 3)⟩, ⟨Rect.unit (k0_off3 i) S1x1792.size (k0_off3_inb i hc0), labV ((tileHots i (ld3 arg3 harg3 x0) (ld4 arg4 harg4 x1)) 2)⟩,
         ⟨Rect.unit (k0_off2 i) S1x1792.size (k0_off2_inb i hc0), labV ((tileHots i (ld3 arg3 harg3 x0) (ld4 arg4 harg4 x1)) 1)⟩, ⟨Rect.unit (k0_off1 i) S1x1792.size (k0_off1_inb i hc0), labV ((tileHots i (ld3 arg3 harg3 x0) (ld4 arg4 harg4 x1)) 0)⟩] := by
  sl_kernel_rfl

theorem runMid_acc (hc0 : cond0_0 i) (hc1 : ¬cond0_1 i) (hc2 : cond0_2 i) (hc3 : ¬cond0_3 i) (hc4 : ¬cond0_4 i) :
    (runMid c i arg3 harg3 arg4 harg4 arg5 harg5 arg6 harg6 arg7 harg7 arg8 harg8 hc0 hc1 hc2 hc3 hc4 x0 x1 x2 y l a).1.2 = [⟨Rect.unit ![0, 0, 0] S4x196x128.size inb_S4x196x128_S4x196x128_0_0_0, shapeCast S4x196x128 (addf (ld8 arg8 harg8 a) (tileSums i (ld3 arg3 harg3 x0) (ld4 arg4 harg4 x1) (ld5 arg5 harg5 x2))) shapeCasts_S4x196x128_S4x196x128⟩] := by
  sl_kernel_rfl

theorem runLast_labs (hc0 : cond0_0 i) (hc1 : ¬cond0_1 i) (hc2 : cond0_2 i) (hc3 : cond0_3 i) (hc4 : ¬cond0_4 i) :
    (runLast c i arg3 harg3 arg4 harg4 arg5 harg5 arg6 harg6 arg7 harg7 arg8 harg8 hc0 hc1 hc2 hc3 hc4 x0 x1 x2 y l a).1.1
      = [⟨Rect.unit (k0_off4 i) S1x1792.size (k0_off4_inb i hc0), labV ((tileHots i (ld3 arg3 harg3 x0) (ld4 arg4 harg4 x1)) 3)⟩, ⟨Rect.unit (k0_off3 i) S1x1792.size (k0_off3_inb i hc0), labV ((tileHots i (ld3 arg3 harg3 x0) (ld4 arg4 harg4 x1)) 2)⟩,
         ⟨Rect.unit (k0_off2 i) S1x1792.size (k0_off2_inb i hc0), labV ((tileHots i (ld3 arg3 harg3 x0) (ld4 arg4 harg4 x1)) 1)⟩, ⟨Rect.unit (k0_off1 i) S1x1792.size (k0_off1_inb i hc0), labV ((tileHots i (ld3 arg3 harg3 x0) (ld4 arg4 harg4 x1)) 0)⟩] := by
  sl_kernel_rfl

theorem runLast_acc (hc0 : cond0_0 i) (hc1 : ¬cond0_1 i) (hc2 : cond0_2 i) (hc3 : cond0_3 i) (hc4 : ¬cond0_4 i) :
    (runLast c i arg3 harg3 arg4 harg4 arg5 harg5 arg6 harg6 arg7 harg7 arg8 harg8 hc0 hc1 hc2 hc3 hc4 x0 x1 x2 y l a).1.2
      = [⟨Rect.unit ![0, 0, 0] S4x196x128.size inb_S4x196x128_S4x196x128_0_0_0, (k0_pay4 (arg8.view.readCov [⟨Rect.unit ![0, 0, 0] S4x196x128.size inb_S4x196x128_S4x196x128_0_0_0, shapeCast S4x196x128 (addf (ld8 arg8 harg8 a) (tileSums i (ld3 arg3 harg3 x0) (ld4 arg4 harg4 x1) (ld5 arg5 harg5 x2))) shapeCasts_S4x196x128_S4x196x128⟩] (Rect.unit ![0, 0, 0] S4x196x128.size inb_S4x196x128_S4x196x128_0_0_0).toLoadRect))⟩, ⟨Rect.unit ![0, 0, 0] S4x196x128.size inb_S4x196x128_S4x196x128_0_0_0, shapeCast S4x196x128 (addf (ld8 arg8 harg8 a) (tileSums i (ld3 arg3 harg3 x0) (ld4 arg4 harg4 x1) (ld5 arg5 harg5 x2))) shapeCasts_S4x196x128_S4x196x128⟩] := by
  sl_kernel_rfl

/-- A slice of the stored labels, and a slice of the accumulator, as the gather phase loads them. -/
abbrev ldL (o : Fin 2 → ℕ) (b : ∀ a, o a + S1x1792.size a ≤ S4x50176.size a) : Vec F S1x1792 .i32 :=
  View.readAt (Elt F) arg7.view (Rect.unit (s := S4x50176) o S1x1792.size b).toLoadRect (harg7.unread l)
abbrev ldA (o : Fin 3 → ℕ) (b : ∀ a, o a + S1x196x128.size a ≤ S4x196x128.size a) : Vec F S1x196x128 .f32 :=
  View.readAt (Elt F) arg8.view (Rect.unit (s := S4x196x128) o S1x196x128.size b).toLoadRect (harg8.unread a)

/-- The gather phase's output block, from the four slices of labels and the four of the accumulator. -/
def gathered (l0 l1 l2 l3 : Vec F S1x1792 .i32) (a0 a1 a2 a3 : Vec F S1x196x128 .f32) : FVec F S1x96x1792 .f32 :=
  k0_pay5 (iota .tc S196x1792 32 [0] iota_S196x1792_d0_w32) (k0_pay182 l0 a0 l1 a1 l2 a2) l3 a3

theorem runGather_out (hc0 : ¬cond0_0 i) (hc4 : cond0_4 i) :
    (runGather c i arg3 harg3 arg4 harg4 arg5 harg5 arg6 harg6 arg7 harg7 arg8 harg8 hc0 hc4 x0 x1 x2 y l a).1
      = [⟨Rect.unit ![0, 0, 0] S1x96x1792.size inb_S1x96x1792_S1x96x1792_0_0_0,
          gathered (ldL arg7 harg7 l (k0_off5 i) (k0_off5_inb i hc4)) (ldL arg7 harg7 l (k0_off6 i) (k0_off6_inb i hc4))
            (ldL arg7 harg7 l (k0_off7 i) (k0_off7_inb i hc4)) (ldL arg7 harg7 l (k0_off8 i) (k0_off8_inb i hc4))
            (ldA arg8 harg8 a ![0, 0, 0] inb_S4x196x128_S1x196x128_0_0_0) (ldA arg8 harg8 a ![1, 0, 0] inb_S4x196x128_S1x196x128_1_0_0)
            (ldA arg8 harg8 a ![2, 0, 0] inb_S4x196x128_S1x196x128_2_0_0) (ldA arg8 harg8 a ![3, 0, 0] inb_S4x196x128_S1x196x128_3_0_0)⟩] := by
  sl_kernel_rfl

/-- The first tile's run in closed form. -/
theorem runFirst_to (hc0 : cond0_0 i) (hc1 : cond0_1 i) (hc2 : ¬cond0_2 i) (hc3 : ¬cond0_3 i) (hc4 : ¬cond0_4 i) :
    RunsTo c i arg3 harg3 arg4 harg4 arg5 harg5 arg6 harg6 arg7 harg7 arg8 harg8 x0 x1 x2 y y l (labsAfter (i 2).val (tileHots i x0 x1) l) a (tileSums i x0 x1 x2) := by
  have key := (runFirst c i arg3 harg3 arg4 harg4 arg5 harg5 arg6 harg6 arg7 harg7 arg8 harg8 hc0 hc1 hc2 hc3 hc4 x0 x1 x2 y l a).2
  rw [runFirst_labs, labs_writes i _ l arg7 harg7 _ _ _ _ (k0_off1_eq i) (k0_off2_eq i) (k0_off3_eq i) (k0_off4_eq i), runFirst_acc, View.read_writes_full, shapeCast_self,
    ld3_eq, ld4_eq, ld5_eq] at key
  exact key

/-- The middle tile's run in closed form. -/
theorem runMid_to (hc0 : cond0_0 i) (hc1 : ¬cond0_1 i) (hc2 : cond0_2 i) (hc3 : ¬cond0_3 i) (hc4 : ¬cond0_4 i) :
    RunsTo c i arg3 harg3 arg4 harg4 arg5 harg5 arg6 harg6 arg7 harg7 arg8 harg8 x0 x1 x2 y y l (labsAfter (i 2).val (tileHots i x0 x1) l) a (addf a (tileSums i x0 x1 x2)) := by
  have key := (runMid c i arg3 harg3 arg4 harg4 arg5 harg5 arg6 harg6 arg7 harg7 arg8 harg8 hc0 hc1 hc2 hc3 hc4 x0 x1 x2 y l a).2
  rw [runMid_labs, labs_writes i _ l arg7 harg7 _ _ _ _ (k0_off1_eq i) (k0_off2_eq i) (k0_off3_eq i) (k0_off4_eq i), runMid_acc, View.read_writes_full, shapeCast_self, ld8_eq,
    ld3_eq, ld4_eq, ld5_eq] at key
  exact key

/-- The last tile's run in closed form. -/
theorem runLast_to (hc0 : cond0_0 i) (hc1 : ¬cond0_1 i) (hc2 : cond0_2 i) (hc3 : cond0_3 i) (hc4 : ¬cond0_4 i) :
    RunsTo c i arg3 harg3 arg4 harg4 arg5 harg5 arg6 harg6 arg7 harg7 arg8 harg8 x0 x1 x2 y y l (labsAfter (i 2).val (tileHots i x0 x1) l) a (k0_pay4 (addf a (tileSums i x0 x1 x2))) := by
  have key := (runLast c i arg3 harg3 arg4 harg4 arg5 harg5 arg6 harg6 arg7 harg7 arg8 harg8 hc0 hc1 hc2 hc3 hc4 x0 x1 x2 y l a).2
  rw [runLast_labs, labs_writes i _ l arg7 harg7 _ _ _ _ (k0_off1_eq i) (k0_off2_eq i) (k0_off3_eq i) (k0_off4_eq i), runLast_acc, View.read_writes_full, View.readCov_full, shapeCast_self, ld8_eq,
    ld3_eq, ld4_eq, ld5_eq] at key
  exact key

/-- The gather run in closed form. -/
theorem runGather_to (hc0 : ¬cond0_0 i) (hc4 : cond0_4 i) :
    RunsTo c i arg3 harg3 arg4 harg4 arg5 harg5 arg6 harg6 arg7 harg7 arg8 harg8 x0 x1 x2 y
      (gathered (VecWindow.window l ![0, 1792 * (i 2).val] S1x1792.size (k0_off5_eq i ▸ k0_off5_inb i hc4))
        (VecWindow.window l ![1, 1792 * (i 2).val] S1x1792.size (k0_off6_eq i ▸ k0_off6_inb i hc4))
        (VecWindow.window l ![2, 1792 * (i 2).val] S1x1792.size (k0_off7_eq i ▸ k0_off7_inb i hc4))
        (VecWindow.window l ![3, 1792 * (i 2).val] S1x1792.size (k0_off8_eq i ▸ k0_off8_inb i hc4))
        (VecWindow.window a ![0, 0, 0] S1x196x128.size inb_S4x196x128_S1x196x128_0_0_0) (VecWindow.window a ![1, 0, 0] S1x196x128.size inb_S4x196x128_S1x196x128_1_0_0)
        (VecWindow.window a ![2, 0, 0] S1x196x128.size inb_S4x196x128_S1x196x128_2_0_0) (VecWindow.window a ![3, 0, 0] S1x196x128.size inb_S4x196x128_S1x196x128_3_0_0))
      l l a a := by
  have key := (runGather c i arg3 harg3 arg4 harg4 arg5 harg5 arg6 harg6 arg7 harg7 arg8 harg8 hc0 hc4 x0 x1 x2 y l a).2
  rw [runGather_out, View.read_writes_full] at key
  have eL : ∀ (o o' : Fin 2 → ℕ) (b : ∀ a, o a + S1x1792.size a ≤ S4x50176.size a) (e : o = o') (b' : ∀ a, o' a + S1x1792.size a ≤ S4x50176.size a),
      ldL arg7 harg7 l o b = VecWindow.window l o' S1x1792.size b' := fun o o' b e b' => by
    rw [ldL, View.readAt_unit _ _ b e b', harg7.read_unread]
  have eA : ∀ (o : Fin 3 → ℕ) (b : ∀ a, o a + S1x196x128.size a ≤ S4x196x128.size a),
      ldA arg8 harg8 a o b = VecWindow.window a o S1x196x128.size b := fun o b => by
    rw [ldA, View.readAt_unit _ _ b rfl b, harg8.read_unread]
  rw [eL _ _ _ (k0_off5_eq i), eL _ _ _ (k0_off6_eq i), eL _ _ _ (k0_off7_eq i), eL _ _ _ (k0_off8_eq i), eA, eA, eA, eA] at key
  exact key

end runs

end Cert.KernelIdeal.Hand

end
-- ==== Proof.Invariant.lean ====
/- What the stored labels and the accumulator hold before each grid point, and that each point's body carries this on. -/
module

public import proofs.«01_k».proof.Proof.RunValues

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD)

/-- Grid point number `n`. -/
def pt (n : ℕ) : Fin cfg0.N := ⟨n % 224, lt_of_lt_of_eq (Nat.mod_lt _ (by decide)) N_0.symm⟩

theorem pt_val (t : Fin cfg0.N) : pt t.val = t :=
  Fin.ext (Nat.mod_eq_of_lt (lt_of_lt_of_eq t.isLt N_0))

theorem coord2 (t : Fin cfg0.N) : (grid0.coords t 2).val = t.val % 28 := by
  have e2 : (grid0.coords t 2).val = t.val / 1 % 28 := Pipeline.Grid.coords_val t 2 (by decide) rfl
  rw [e2, Nat.div_one]

/-- The image block, the centroids and the value matrix a point's body is handed. -/
abbrev blk0 (t : Fin cfg0.N) : Vec F S1x96x1792 .f32 := iblk m c 0 t
abbrev blk1 (t : Fin cfg0.N) : Vec F S196x96 .f32 := iblk m c 1 t
abbrev blk2 (t : Fin cfg0.N) : Vec F S128x96 .f32 := iblk m c 2 t

/-- A point's one-hot matrices and sums. -/
def hotsAt (t : Fin cfg0.N) : Fin 4 → FVec F S196x1792 .f32 := tileHots (grid0.coords t) (blk0 m c t) (blk1 m c t)
def sumsAt (t : Fin cfg0.N) : FVec F S4x196x128 .f32 := tileSums (grid0.coords t) (blk0 m c t) (blk1 m c t) (blk2 m c t)

/-- The labels of image `b`: column `p` holds what the tile of `p` computes. -/
def labsOf (b : ℕ) : Vec F S4x50176 .i32 := fun y =>
  labV (hotsAt m c (pt (56 * b + (y 1).val / 1792)) (y 0)) (colIdx ⟨(y 1).val % 1792, Nat.mod_lt _ (by decide)⟩)

/-- The sums of image `b` over its tiles up to tile `r`. -/
def accOf (b : ℕ) : ℕ → FVec F S4x196x128 .f32
  | 0 => sumsAt m c (pt (56 * b))
  | r + 1 => addf (accOf b r) (sumsAt m c (pt (56 * b + (r + 1))))

/-- The averages of image `b`. -/
def meansOf (b : ℕ) : FVec F S4x196x128 .f32 := k0_pay4 (accOf m c b 27)

/-- Before point `n`: the labels of the image's tiles done so far, and the accumulator at their sums, or at the averages once all
    tiles are done. -/
def Inv (n : ℕ) (l : Vec F S4x50176 .i32) (a : Vec F S4x196x128 .f32) : Prop :=
  (∀ y, (y 1).val < 1792 * min (n % 56) 28 → l y = labsOf m c (n / 56) y)
  ∧ (∀ r, n % 56 = r + 1 → r + 1 < 28 → a = accOf m c (n / 56) r)
  ∧ (28 ≤ n % 56 → a = meansOf m c (n / 56))

theorem inv_labs {n : ℕ} {l : Vec F S4x50176 .i32} {a : Vec F S4x196x128 .f32} (h : Inv m c n l a) (hn : 28 ≤ n % 56) :
    l = labsOf m c (n / 56) := funext fun y => h.1 y (by
  have : (y 1).val < 50176 := (y 1).isLt
  rw [Nat.min_eq_right hn]; omega)

/-- A scatter point adds its tile's labels. -/
theorem labs_step (t : Fin cfg0.N) (hp : t.val % 56 < 28) {l : Vec F S4x50176 .i32} {a : Vec F S4x196x128 .f32} (h : Inv m c t.val l a)
    (y : S4x50176.Idx) (hy : (y 1).val < 1792 * (t.val % 56 + 1)) :
    labsAfter (grid0.coords t 2).val (hotsAt m c t) l y = labsOf m c (t.val / 56) y := by
  have e2 : (grid0.coords t 2).val = t.val % 56 := by rw [coord2]; omega
  rw [e2]
  by_cases hh : 1792 * (t.val % 56) ≤ (y 1).val
  · refine (dif_pos ⟨hh, by omega⟩).trans ?_
    have ed : (y 1).val / 1792 = t.val % 56 := by omega
    have em : (y 1).val % 1792 = (y 1).val - 1792 * (t.val % 56) := by omega
    unfold labsOf
    have ept : pt (56 * (t.val / 56) + (y 1).val / 1792) = t := by
      rw [ed, Nat.div_add_mod, pt_val]
    rw [ept]
    exact congrArg _ (congrArg colIdx (Fin.ext em.symm))
  · refine (dif_neg (fun hc => hh hc.1)).trans ?_
    exact h.1 y (by rw [Nat.min_eq_left (by omega)]; omega)

/-- The first tile of an image. -/
theorem inv_first (t : Fin cfg0.N) (hp : t.val % 56 = 0) {l : Vec F S4x50176 .i32} {a : Vec F S4x196x128 .f32} (h : Inv m c t.val l a) :
    Inv m c (t.val + 1) (labsAfter (grid0.coords t 2).val (hotsAt m c t) l) (sumsAt m c t) := by
  have e1 : (t.val + 1) % 56 = t.val % 56 + 1 := by omega
  have e2 : (t.val + 1) / 56 = t.val / 56 := by omega
  refine ⟨fun y hy => ?_, fun r hr _ => ?_, fun h28 => ?_⟩
  · rw [e1, Nat.min_eq_left (by omega)] at hy
    rw [e2]; exact labs_step m c t (by omega) h y hy
  · have hr0 : r = 0 := by omega
    subst hr0
    rw [e2]
    show sumsAt m c t = sumsAt m c (pt (56 * (t.val / 56)))
    rw [show 56 * (t.val / 56) = t.val by omega, pt_val]
  · omega

/-- The sums over one tile more. -/
theorem acc_step (t : Fin cfg0.N) (hp : 0 < t.val % 56) (hp' : t.val % 56 < 28) {l : Vec F S4x50176 .i32} {a : Vec F S4x196x128 .f32} (h : Inv m c t.val l a) :
    addf a (sumsAt m c t) = accOf m c (t.val / 56) (t.val % 56) := by
  obtain ⟨r, hr⟩ : ∃ r, t.val % 56 = r + 1 := ⟨t.val % 56 - 1, by omega⟩
  rw [h.2.1 r hr (by omega), hr]
  show _ = addf (accOf m c (t.val / 56) r) (sumsAt m c (pt (56 * (t.val / 56) + (r + 1))))
  rw [show 56 * (t.val / 56) + (r + 1) = t.val by omega, pt_val]

/-- A tile between the first and the last. -/
theorem inv_mid (t : Fin cfg0.N) (hp : 0 < t.val % 56) (hp' : t.val % 56 < 27) {l : Vec F S4x50176 .i32} {a : Vec F S4x196x128 .f32} (h : Inv m c t.val l a) :
    Inv m c (t.val + 1) (labsAfter (grid0.coords t 2).val (hotsAt m c t) l) (addf a (sumsAt m c t)) := by
  have e1 : (t.val + 1) % 56 = t.val % 56 + 1 := by omega
  have e2 : (t.val + 1) / 56 = t.val / 56 := by omega
  refine ⟨fun y hy => ?_, fun r hr _ => ?_, fun h28 => ?_⟩
  · rw [e1, Nat.min_eq_left (by omega)] at hy
    rw [e2]; exact labs_step m c t (by omega) h y hy
  · rw [acc_step m c t hp (by omega) h, e2]
    exact congrArg _ (by omega)
  · omega

/-- The last tile. -/
theorem inv_last (t : Fin cfg0.N) (hp : t.val % 56 = 27) {l : Vec F S4x50176 .i32} {a : Vec F S4x196x128 .f32} (h : Inv m c t.val l a) :
    Inv m c (t.val + 1) (labsAfter (grid0.coords t 2).val (hotsAt m c t) l) (k0_pay4 (addf a (sumsAt m c t))) := by
  have e1 : (t.val + 1) % 56 = t.val % 56 + 1 := by omega
  have e2 : (t.val + 1) / 56 = t.val / 56 := by omega
  refine ⟨fun y hy => ?_, fun r hr _ => ?_, fun h28 => ?_⟩
  · rw [e1, Nat.min_eq_left (by omega)] at hy
    rw [e2]; exact labs_step m c t (by omega) h y hy
  · omega
  · rw [acc_step m c t (by omega) (by omega) h, e2, hp]; rfl

/-- A gather point leaves both as they were. -/
theorem inv_gather (t : Fin cfg0.N) (hp : 28 ≤ t.val % 56) {l : Vec F S4x50176 .i32} {a : Vec F S4x196x128 .f32} (h : Inv m c t.val l a) :
    Inv m c (t.val + 1) l a := by
  by_cases hl : t.val % 56 = 55
  · refine ⟨fun y hy => ?_, fun r hr _ => ?_, fun h28 => ?_⟩
    · rw [show (t.val + 1) % 56 = 0 by omega] at hy
      exact absurd hy (by simp)
    · omega
    · omega
  · have e1 : (t.val + 1) % 56 = t.val % 56 + 1 := by omega
    have e2 : (t.val + 1) / 56 = t.val / 56 := by omega
    refine ⟨fun y hy => ?_, fun r hr _ => ?_, fun h28 => ?_⟩
    · rw [e2]; exact h.1 y (by rw [e1] at hy; rw [Nat.min_eq_right hp]; rw [Nat.min_eq_right (by omega)] at hy; exact hy)
    · omega
    · rw [e2]; exact h.2.2 hp

theorem inv_zero (l : Vec F S4x50176 .i32) (a : Vec F S4x196x128 .f32) : Inv m c 0 l a :=
  ⟨fun y hy => absurd hy (by simp), fun r hr => absurd hr (by omega), fun h => absurd h (by omega)⟩

theorem win_inb (i : grid0.Coords) (s : ℕ) (hs : s < 4) : ∀ a, (![s, 1792 * (i 2).val] : Fin 2 → ℕ) a + S1x1792.size a ≤ S4x50176.size a := by
  have h2 : (i 2).val < 28 := (i 2).isLt
  intro a
  match a with
  | ⟨0, _⟩ => show s + 1 ≤ 4; omega
  | ⟨1, _⟩ => show 1792 * (i 2).val + 1792 ≤ 50176; omega

/-- The output block a gather point stores, from the labels and the averages. -/
def gatherBlk (i : grid0.Coords) (l : Vec F S4x50176 .i32) (a : Vec F S4x196x128 .f32) : FVec F S1x96x1792 .f32 :=
  gathered (VecWindow.window l ![0, 1792 * (i 2).val] S1x1792.size (win_inb i 0 (by decide)))
    (VecWindow.window l ![1, 1792 * (i 2).val] S1x1792.size (win_inb i 1 (by decide)))
    (VecWindow.window l ![2, 1792 * (i 2).val] S1x1792.size (win_inb i 2 (by decide)))
    (VecWindow.window l ![3, 1792 * (i 2).val] S1x1792.size (win_inb i 3 (by decide)))
    (VecWindow.window a ![0, 0, 0] S1x196x128.size inb_S4x196x128_S1x196x128_0_0_0) (VecWindow.window a ![1, 0, 0] S1x196x128.size inb_S4x196x128_S1x196x128_1_0_0)
    (VecWindow.window a ![2, 0, 0] S1x196x128.size inb_S4x196x128_S1x196x128_2_0_0) (VecWindow.window a ![3, 0, 0] S1x196x128.size inb_S4x196x128_S1x196x128_3_0_0)

/-- What the output window holds after a gather point. -/
def outAt (t : Fin cfg0.N) : FVec F S1x96x1792 .f32 := gatherBlk (grid0.coords t) (labsOf m c (t.val / 56)) (meansOf m c (t.val / 56))

/-- The region's invariant before position `n`. -/
def PhiI (n : ℕ) : sProp 𝕄 :=
  iprop(∃ l a, ⌜Inv m c n l a⌝ ∗ ((owns (c : Thread nD τ) scM0_0 fullShare l ∗ owns (c : Thread nD τ) scM0_1 fullShare a) ∗ (∃ r, prngReg c r)))

end Cert.KernelIdeal.Hand

end
-- ==== Proof.TilePoint.lean ====
/- The kernel's vectors read at an index: weights, one-hot matrices, labels, sums, averages and the gathered block. -/
module

public import proofs.«01_k».proof.Proof.Precond
public import proofs.«01_k».proof.Proof.Invariant

@[expose] public section

set_option maxRecDepth 16384

noncomputable section

namespace Cert.KernelIdeal.Hand

open Cert.KernelIdeal.Gen Idealize.ShloMosaic Cert.Proof
open Cert.ReferenceIdeal.Hand (Fine lab race_lab)

/-- The scaled products of a tile. -/
def tileLogits (x0 : Vec Ideal S1x96x1792 .f32) (x1 : Vec Ideal S196x96 .f32) (j : Fin 1792) (s : Fin 196) : EReal :=
  Ideal.div (∑ a, x1 (ix2 s a) * x0 (ix3 0 a j)) (Ideal.sqrt (Ideal.ofBits .f32 1119879168#32))

theorem weights_at (x0 : Vec Ideal S1x96x1792 .f32) (x1 : Vec Ideal S196x96 .f32) (s : Fin 196) (j : Fin 1792) :
    k0_pay7 x0 x1 (ix2 s j) = weight (tileLogits x0 x1 j) s := by
  pointwise [k0_pay7, k0_pay6]
  rfl

theorem values_at (x0 : Vec Ideal S1x96x1792 .f32) (x2 : Vec Ideal S128x96 .f32) (k : Fin 128) (j : Fin 1792) :
    k0_pay9 x0 x2 (ix2 k j) = if k.val = 96 then 1 else ∑ a, x2 (ix2 k a) * x0 (ix3 0 a j) := by
  pointwise [k0_pay9, k0_pay6]
  have h : ∀ k : Fin 128, IntOp.cmpi .eq (BitVec.ofNat 32 k.val) 96#32 = BitVec.ofBool (decide (k.val = 96)) := by decide
  rw [h]
  by_cases hk : k.val = 96
  · rw [if_pos hk, decide_eq_true hk]; rfl
  · rw [if_neg hk, decide_eq_false hk]; rfl

theorem race_at (w : FVec Ideal S196x1792 .f32) (d : Words) (s : Fin 196) (j : Fin 1792) :
    raceV w d (ix2 s j) = (0 - Ideal.log (unif (d (ix2 s j)))) * w (ix2 s j) := by
  pointwise [raceV]
  rfl

/-- The columns' least entries. -/
def minOf (r : FVec Ideal S196x1792 .f32) : FVec Ideal S1792 .f32 :=
  multiReduction .minimumf [0] S1792 r 0x7F800000#32 reduces_S196x1792_S1792 (.inl rfl) rfl

theorem minOf_at (r : FVec Ideal S196x1792 .f32) (j : Fin 1792) :
    minOf r (ix1 j) = Finset.fold min (Ideal.ofBits .f32 2139095040#32) (fun a => r (ix2 a j)) Finset.univ := by
  pointwise [minOf]

/-- Where an array equals its column's value, as the number one. -/
def hotOf (r : FVec Ideal S196x1792 .f32) (t : FVec Ideal S1792 .f32) : FVec Ideal S196x1792 .f32 :=
  sitofp .f32 (extui 32 (cmpf .oeq r (broadcastTo S196x1792 (shapeCast S1x1792 t shapeCasts_S1792_S1x1792) broadcasts_S1x1792_S196x1792)) natLt_1_32)

theorem sitofp_bit (q : Prop) [Decidable q] :
    FloatOps.sitofp (F := Ideal) .f32 (BitVec.setWidth 32 (BitVec.ofBool (decide q))) = if q then (1 : EReal) else 0 := by
  by_cases h : q
  · rw [if_pos h, decide_eq_true h]
    show (((BitVec.setWidth 32 (BitVec.ofBool true)).toInt : ℝ) : EReal) = 1
    rw [show (BitVec.setWidth 32 (BitVec.ofBool true)).toInt = 1 by decide]; simp
  · rw [if_neg h, decide_eq_false h]
    show (((BitVec.setWidth 32 (BitVec.ofBool false)).toInt : ℝ) : EReal) = 0
    rw [show (BitVec.setWidth 32 (BitVec.ofBool false)).toInt = 0 by decide]; simp

open Classical in
theorem hotOf_at (r : FVec Ideal S196x1792 .f32) (t : FVec Ideal S1792 .f32) (s : Fin 196) (j : Fin 1792) :
    hotOf r t (ix2 s j) = if r (ix2 s j) = t (ix1 j) then (1 : EReal) else 0 := by
  rw [← sitofp_bit]
  pointwise [hotOf]

theorem labV_at (h : FVec Ideal S196x1792 .f32) (j : Fin 1792) :
    labV h (ix2 0 j) = Ideal.fptosi 32 (∑ a : Fin 196, FloatOps.sitofp (F := Ideal) .f32 (BitVec.ofNat 32 a.val) * h (ix2 a j)) := by
  pointwise [labV, k0_pay8]
  rfl

theorem partV_at (h : FVec Ideal S196x1792 .f32) (v : FVec Ideal S128x1792 .f32) (s : Fin 196) (k : Fin 128) :
    partV h v (ix2 s k) = ∑ j, h (ix2 s j) * v (ix2 k j) := by
  pointwise [partV]

theorem sums_at (h : Fin 4 → FVec Ideal S196x1792 .f32) (v : FVec Ideal S128x1792 .f32) (n : Fin 4) (s : Fin 196) (k : Fin 128) :
    sums h v (ix3 n s k) = partV (h n) v (ix2 s k) := by
  unfold sums
  match n with
  | 0 => pointwise [k0_pay1, k0_pay181]
  | 1 => pointwise [k0_pay1, k0_pay181]
  | 2 => pointwise [k0_pay1, k0_pay181]
  | 3 => pointwise [k0_pay1, k0_pay181]

theorem means_at (a : Vec Ideal S4x196x128 .f32) (n : Fin 4) (s : Fin 196) (k : Fin 128) :
    k0_pay4 a (ix3 n s k) = Ideal.div (a (ix3 n s k)) (max (a (ix3 n s 96)) 1) := by
  pointwise [k0_pay4]

/-- A sum against a one-hot column takes the entry at the label. -/
theorem pick (f : Fin 196 → EReal) (l : Fin 196) :
    (∑ a : Fin 196, f a * FloatOps.sitofp (F := Ideal) .f32 (BitVec.setWidth 32 (IntOp.cmpi .eq (BitVec.ofNat 32 a.val) (BitVec.ofNat 32 l.val)))) = f l := by
  have h : ∀ a l : Fin 196, IntOp.cmpi .eq (BitVec.ofNat 32 a.val) (BitVec.ofNat 32 l.val) = BitVec.ofBool (decide (a = l)) := fun a l => by
    show BitVec.ofBool (BitVec.ofNat 32 a.val == BitVec.ofNat 32 l.val) = _
    congr 1
    rw [Bool.eq_iff_iff, beq_iff_eq, decide_eq_true_iff, ← BitVec.toNat_inj, BitVec.toNat_ofNat, BitVec.toNat_ofNat, Nat.mod_eq_of_lt (by omega), Nat.mod_eq_of_lt (by omega), Fin.ext_iff]
  rw [Finset.sum_eq_single l]
  · rw [h, sitofp_bit, if_pos rfl, mul_one]
  · intro a _ ha
    rw [h, sitofp_bit, if_neg ha, mul_zero]
  · intro ha; exact absurd (Finset.mem_univ _) ha

theorem gathered_at (l0 l1 l2 l3 : Vec Ideal S1x1792 .i32) (a0 a1 a2 a3 : Vec Ideal S1x196x128 .f32) (k : Fin 96) (j : Fin 1792)
    (n0 n1 n2 n3 : Fin 196) (h0 : l0 (ix2 0 j) = BitVec.ofNat 32 n0.val) (h1 : l1 (ix2 0 j) = BitVec.ofNat 32 n1.val)
    (h2 : l2 (ix2 0 j) = BitVec.ofNat 32 n2.val) (h3 : l3 (ix2 0 j) = BitVec.ofNat 32 n3.val) :
    gathered l0 l1 l2 l3 a0 a1 a2 a3 (ix3 0 k j)
      = (a0 (ix3 0 n0 ⟨k.val, by omega⟩) + a1 (ix3 0 n1 ⟨k.val, by omega⟩) + a2 (ix3 0 n2 ⟨k.val, by omega⟩) + a3 (ix3 0 n3 ⟨k.val, by omega⟩)) * ((1 / 4 : ℝ) : EReal) := by
  pointwise [gathered, k0_pay5, k0_pay182]
  rw [h0, h1, h2, h3, pick (fun a => a0 (ix3 0 a ⟨k.val, _⟩)), pick (fun a => a1 (ix3 0 a ⟨k.val, _⟩)), pick (fun a => a2 (ix3 0 a ⟨k.val, _⟩)),
    pick (fun a => a3 (ix3 0 a ⟨k.val, _⟩)), ofBits_quarter]

/-- The label stored is the number of the column's one. -/
theorem label_of_hot (h : FVec Ideal S196x1792 .f32) (j : Fin 1792) (l : Fin 196) (hh : ∀ s, h (ix2 s j) = if s = l then (1 : EReal) else 0) :
    labV h (ix2 0 j) = BitVec.ofNat 32 l.val := by
  have e : ∀ l : Fin 196, (BitVec.ofNat 32 l.val).toInt = (l.val : ℤ) := by decide
  rw [labV_at, Finset.sum_eq_single l]
  · rw [hh, if_pos rfl, mul_one]
    show Ideal.fptosi 32 ((((BitVec.ofNat 32 l.val).toInt : ℝ)) : EReal) = _
    rw [e]
    unfold Ideal.fptosi
    show BitVec.ofInt 32 (max _ (min _ (if (0 : ℝ) ≤ (((l.val : ℤ)) : ℝ) then ⌊(((l.val : ℤ)) : ℝ)⌋ else ⌈(((l.val : ℤ)) : ℝ)⌉))) = _
    rw [if_pos (by exact_mod_cast Nat.zero_le _), Int.floor_intCast, min_eq_right (by have := l.isLt; norm_num; omega), max_eq_right (by norm_num)]
    exact BitVec.ofInt_natCast ..
  · intro a _ ha
    rw [hh, if_neg ha, mul_zero]
  · intro ha; exact absurd (Finset.mem_univ _) ha

section tile

variable {x : Images} {c : Centroids} {w : Matrix} (hf : Fine x c)

/-- Pixel `j` of tile `r`. -/
def tilePix (r : Fin 28) (j : Fin 1792) : Fin 50176 := ⟨1792 * r.val + j.val, by omega⟩

variable (i : grid0.Coords) {x0 : Vec Ideal S1x96x1792 .f32} {x1 : Vec Ideal S196x96 .f32} {x2 : Vec Ideal S128x96 .f32}
  (h0 : ∀ k j, x0 (ix3 0 k j) = pix x (i 0) (tilePix (i 2) j) k) (h1 : ∀ s k, x1 (ix2 s k) = c (ix2 s k))
  (h2 : ∀ (k : Fin 96) a, x2 (ix2 ⟨k.val, by omega⟩ a) = w (ix2 a k))

include h0 h1 in
theorem tileLogits_eq (j : Fin 1792) : tileLogits x0 x1 j = lgt x c (i 0) (tilePix (i 2) j) := by
  funext s
  unfold tileLogits lgt
  congr 1
  exact Finset.sum_congr rfl fun a _ => by rw [h0, h1, mul_comm]

include h0 h1 in
/-- A tile's one-hot matrix has its one at the label. -/
theorem tileHots_at (n : Fin 4) (s : Fin 196) (j : Fin 1792) :
    tileHots i x0 x1 n (ix2 s j) = if s = lab hf n (i 0) (tilePix (i 2) j) then (1 : EReal) else 0 := by
  classical
  have hr : ∀ a, raceV (k0_pay7 x0 x1) (wordsV i n) (ix2 a j) = race (lgt x c (i 0) (tilePix (i 2) j)) (drawn (i 0) (tilePix (i 2) j) n) a := fun a => by
    rw [race_at, weights_at, tileLogits_eq i h0 h1, wordsV_at]
    rfl
  have eh : tileHots i x0 x1 n = hotOf (raceV (k0_pay7 x0 x1) (wordsV i n)) (minOf (raceV (k0_pay7 x0 x1) (wordsV i n))) := by
    show hots i (k0_pay7 x0 x1) n = _
    rw [hots_at]; rfl
  rw [eh, hotOf_at, minOf_at, hr, funext hr]
  exact if_congr (race_lab hf n (i 0) (tilePix (i 2) j) s) rfl rfl

include h0 h1 in
theorem tileLabel_at (n : Fin 4) (j : Fin 1792) :
    labV (tileHots i x0 x1 n) (ix2 0 j) = BitVec.ofNat 32 (lab hf n (i 0) (tilePix (i 2) j)).val :=
  label_of_hot _ j _ fun s => tileHots_at hf i h0 h1 n s j

include h0 h2 in
theorem tileValues_at (k : Fin 96) (j : Fin 1792) : k0_pay9 x0 x2 (ix2 ⟨k.val, by omega⟩ j) = val x w (i 0) (tilePix (i 2) j) k := by
  rw [values_at, if_neg (by show ¬ k.val = 96; omega)]
  unfold val
  exact Finset.sum_congr rfl fun a _ => by rw [h0, h2, mul_comm]

include h0 h1 h2 in
/-- A tile's sums of the values by label. -/
theorem tileSums_at (n : Fin 4) (s : Fin 196) (k : Fin 96) :
    tileSums i x0 x1 x2 (ix3 n s ⟨k.val, by omega⟩)
      = ∑ j, (if s = lab hf n (i 0) (tilePix (i 2) j) then (1 : EReal) else 0) * val x w (i 0) (tilePix (i 2) j) k := by
  show sums (tileHots i x0 x1) (k0_pay9 x0 x2) _ = _
  rw [sums_at, partV_at]
  exact Finset.sum_congr rfl fun j _ => by rw [tileHots_at hf i h0 h1, tileValues_at i h0 h2]

include h0 h1 in
/-- A tile's counts of the labels. -/
theorem tileCounts_at (n : Fin 4) (s : Fin 196) :
    tileSums i x0 x1 x2 (ix3 n s 96) = ∑ j, (if s = lab hf n (i 0) (tilePix (i 2) j) then (1 : EReal) else 0) := by
  show sums (tileHots i x0 x1) (k0_pay9 x0 x2) _ = _
  rw [sums_at, partV_at]
  exact Finset.sum_congr rfl fun j _ => by rw [tileHots_at hf i h0 h1, values_at, if_pos (show (96 : Fin 128).val = 96 from rfl), mul_one]

end tile

end Cert.KernelIdeal.Hand

end
-- ==== Proof.KernelRun.lean ====
/- The kernel's run: every point's body carries the invariant on, so the launch ends with the output array written block by block
   with what the gather points store. -/
module

public import proofs.«01_k».proof.Proof.Invariant
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's proof data: the arrays as the region finds them; each input's buffer at its block, the output's at the gathered
    block; the invariant on the labels and the accumulator. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiI m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The inputs' buffers are left at their blocks. -/
theorem leaves0 (c : Dev nD) (t : Fin cfg0.N) : (dats m 0 c).leavesExact 0 t = owns (c : Thread nD τ) (ms0_0 t) fullShare (iblk m c 0 t) := by
  unfold Dat.leavesExact; rw [liveAt0_0 t, after0_0]
theorem leaves1 (c : Dev nD) (t : Fin cfg0.N) : (dats m 0 c).leavesExact 1 t = owns (c : Thread nD τ) (ms0_1 t) fullShare (iblk m c 1 t) := by
  unfold Dat.leavesExact; rw [liveAt0_1 t, after0_1]
theorem leaves2 (c : Dev nD) (t : Fin cfg0.N) : (dats m 0 c).leavesExact 2 t = owns (c : Thread nD τ) (ms0_2 t) fullShare (iblk m c 2 t) := by
  unfold Dat.leavesExact; rw [liveAt0_2 t, after0_2]

/-- In the scatter phase the output window is idle and not written back. -/
theorem idle3 (t : Fin cfg0.N) (h : ¬cond0_4 (grid0.coords t)) : cfg0.idle 3 (grid0.coords t) = true := by
  show (!(k0_cond5 (grid0.coords t) == 1#1)) = true
  simpa using h
theorem live3 (t : Fin cfg0.N) (h : cond0_4 (grid0.coords t)) : cfg0.idle 3 (grid0.coords t) = false := by
  show (!(k0_cond5 (grid0.coords t) == 1#1)) = false
  simpa using h
theorem noflush3 : ∀ t : Fin cfg0.N, ¬ t.val / 28 % 2 = 1 → (cfg0.win 3).flush t = false :=
  (by decide +kernel : ∀ t : Fin grid0.N, ¬ t.val / 28 % 2 = 1 → (cfg0.win 3).flush t = false)

theorem leaves3_idle (c : Dev nD) (t : Fin cfg0.N) (h : ¬ t.val / 28 % 2 = 1) :
    (dats m 0 c).leavesExact 3 t = iprop(∃ d, owns (c : Thread nD τ) (ms0_3 t) fullShare ((dats m 0 c).before 3 t d)) :=
  (dats m 0 c).leavesExact_idle 3 t (idle3 t (fun h4 => h ((hcond0_4 t).mp h4))) (noflush3 t h)

theorem leaves3_live (c : Dev nD) (t : Fin cfg0.N) (h : t.val / 28 % 2 = 1) :
    (dats m 0 c).leavesExact 3 t = owns (c : Thread nD τ) (ms0_3 t) fullShare (outAt m c t) := by
  unfold Dat.leavesExact; rw [live3 t ((hcond0_4 t).mpr h), after0_3]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

/-- One run of the body, whatever it does to the labels and the accumulator, as long as the invariant holds after it and the output
    buffer is left as the obligation has it, is the body obligation at its point. -/
theorem body_of_run (c : Dev nD) (t : Fin cfg0.N)
    (y' : Vec F S1x96x1792 .f32 → Vec F S4x50176 .i32 → Vec F S4x196x128 .f32 → Vec F S1x96x1792 .f32) (l' : Vec F S4x50176 .i32 → Vec F S4x50176 .i32) (a' : Vec F S4x196x128 .f32 → Vec F S4x196x128 .f32)
    (hrun : ∀ y l a, RunsTo c (grid0.coords t) (ms0_0 t) (hs0_0 t) (ms0_1 t) (hs0_1 t) (ms0_2 t) (hs0_2 t) (ms0_3 t) (hs0_3 t)
      scM0_0 (Memref.isWhole_whole _) scM0_1 (Memref.isWhole_whole _) (blk0 m c t) (blk1 m c t) (blk2 m c t) y (y' y l a) l (l' l) a (a' a))
    (hinv : ∀ l a, Inv m c t.val l a → Inv m c (t.val + 1) (l' l) (a' a))
    (hout : ∀ l a, Inv m c t.val l a → ∀ d, owns (c : Thread nD τ) (ms0_3 t) fullShare (y' ((dats m 0 c).before 3 t d) l a) ⊢ (dats m 0 c).leavesExact 3 t) :
    bodyPre m c t ⊢ wp frame (wpE (defs₀ (F := F)) Variants.none c none) Set.univ (bodyAt0 t) (fun _ => bodyPost m c t) := by
  unfold bodyPre bodyPost bodyAt0
  simp only [before0_0, before0_1, before0_2, leaves0, leaves1, leaves2]
  rw [show (dats m 0 c).owesAt () t.succ = (dats m 0 c).owesAt () t.castSucc from rfl]
  rw [show (dats m 0 c).Φ t.succ = PhiI m c (t.val + 1) from rfl, show (dats m 0 c).Φ t.castSucc = PhiI m c t.val from rfl]
  unfold PhiI
  iintro ⟨⟨%l, %a, %hI, ⟨HS0, HS1⟩, Hg⟩, Ho, ⟨%d0, H0⟩, ⟨%d1, H1⟩, ⟨%d2, H2⟩, ⟨%d3, H3⟩⟩
  iapply (hrun ((dats m 0 c).before 3 t d3) l a Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, HS0, HS1⟩
  isplitl [HS0 HS1 Hg]
  · iexists _; iexists _; isplitr
    swap
    · isplitl [HS0 HS1]
      · isplitl [HS0]
        · iexact HS0
        iexact HS1
      iexact Hg
    ipureintro; exact hinv l a hI
  isplitl [Ho]; · iexact Ho
  isplitl [H0]; · iexact H0
  isplitl [H1]; · iexact H1
  isplitl [H2]; · iexact H2
  iapply (hout l a hI d3)
  iexact H3

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 224 := lt_of_lt_of_eq t.isLt (show cfg0.N = 224 from N_0)
  have keep : ¬ t.val / 28 % 2 = 1 → ∀ d, owns (c : Thread nD τ) (ms0_3 t) fullShare ((dats m 0 c).before 3 t d) ⊢ (dats m 0 c).leavesExact 3 t := by
    intro h d
    rw [leaves3_idle m c t h]
    iintro H
    iexists _; iexact H
  by_cases h4 : t.val / 28 % 2 = 1
  · refine body_of_run m c t (fun _ l a => gatherBlk (grid0.coords t) l a) (fun l => l) (fun a => a) (fun y l a => ?_) (fun l a h => inv_gather m c t (by omega) h) (fun l a h d => ?_)
    · exact runGather_to c (grid0.coords t) _ _ _ _ _ _ _ _ _ _ _ _ _ _ _ y l a (fun h => absurd ((hcond0_0 t).mp h) (by omega)) ((hcond0_4 t).mpr h4)
    · rw [leaves3_live m c t h4]
      have e : gatherBlk (grid0.coords t) l a = outAt m c t := by
        unfold outAt
        rw [inv_labs m c h (by omega), h.2.2 (by omega)]
      simp only [e]
      exact .rfl
  have h0 : cond0_0 (grid0.coords t) := (hcond0_0 t).mpr (by omega)
  have h4' : ¬cond0_4 (grid0.coords t) := fun h => h4 ((hcond0_4 t).mp h)
  by_cases h1 : t.val % 28 = 0
  · exact body_of_run m c t (fun y _ _ => y) (fun l => labsAfter (grid0.coords t 2).val (hotsAt m c t) l) (fun _ => sumsAt m c t)
      (fun y l a => runFirst_to c (grid0.coords t) _ _ _ _ _ _ _ _ _ _ _ _ _ _ _ y l a h0 ((hcond0_1 t).mpr h1)
        (fun h => absurd ((hcond0_2 t).mp h) (by omega)) (fun h => absurd ((hcond0_3 t).mp h) (by omega)) h4')
      (fun l a h => inv_first m c t (by omega) h) (fun _ _ _ d => keep h4 d)
  by_cases h3 : t.val % 28 = 27
  · exact body_of_run m c t (fun y _ _ => y) (fun l => labsAfter (grid0.coords t 2).val (hotsAt m c t) l) (fun a => k0_pay4 (addf a (sumsAt m c t)))
      (fun y l a => runLast_to c (grid0.coords t) _ _ _ _ _ _ _ _ _ _ _ _ _ _ _ y l a h0 (fun h => h1 ((hcond0_1 t).mp h))
        ((hcond0_2 t).mpr (by omega)) ((hcond0_3 t).mpr h3) h4')
      (fun l a h => inv_last m c t (by omega) h) (fun _ _ _ d => keep h4 d)
  · exact body_of_run m c t (fun y _ _ => y) (fun l => labsAfter (grid0.coords t 2).val (hotsAt m c t) l) (fun a => addf a (sumsAt m c t))
      (fun y l a => runMid_to c (grid0.coords t) _ _ _ _ _ _ _ _ _ _ _ _ _ _ _ y l a h0 (fun h => h1 ((hcond0_1 t).mp h))
        ((hcond0_2 t).mpr (by omega)) (fun h => h3 ((hcond0_3 t).mp h)) h4')
      (fun l a h => inv_mid m c t (by omega) (by omega) h) (fun _ _ _ d => keep h4 d)

theorem defs₀_row (t : Fin cfg0.N) :
    defs₀ (F := F) .tc cfg0.body (cfg0.bodyArgs t (cfg0.slots t)) = bodyAt0 t := by
  unfold defs₀; rw [Defs.onTc_tc]

/-- The body obligation of the pipeline. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point nothing is claimed of the scratch; after the last it is forgotten. -/
theorem hin (c : Dev nD) : Pipeline.ΦA spec0 c ⊢ (dats m 0 c).Φ 0 := by
  rw [show (dats m 0 c).Φ 0 = PhiI m c 0 from rfl, PhiA0_eq]
  unfold PhiI
  iintro ⟨⟨⟨%l, HS0⟩, ⟨%a, HS1⟩⟩, Hg⟩
  iexists l; iexists a; isplitr
  · ipureintro; exact inv_zero m c l a
  isplitl [HS0 HS1]
  · isplitl [HS0]
    · iexact HS0
    iexact HS1
  iexact Hg
theorem hout (c : Dev nD) : (dats m 0 c).Φ (Fin.last cfg0.N) ⊢ Pipeline.ΦA spec0 c := by
  rw [show (dats m 0 c).Φ (Fin.last cfg0.N) = PhiI m c (Fin.last cfg0.N).val from rfl, PhiA0_eq]
  unfold PhiI
  iintro ⟨%l, %a, %hI, ⟨HS0, HS1⟩, Hg⟩
  isplitl [HS0 HS1]
  · isplitl [HS0]
    · iexists _; iexact HS0
    iexists _; iexact HS1
  iexact Hg

set_option backward.isDefEq.respectTransparency.types false in
/-- The launch: every array at its contents under the proof data, and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The kernel's frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

/-- The kernel's result: the array of the output window after the last write-back. -/
theorem run_result : θ_run defs (onTc (τ := τ) (main (F := F))) ⟨m, fun _ => 0, ρ⟩ (fun r => ∀ c : Dev nD,
      r.2.mem ((c.tc : Thread nD τ).loc main_v5) = (dats m 0 c).arrAt 3 cfg0.N) :=
  (θ_run defs _ _).mono (fun _ h c => (h.1 c).1 3) (run_quiescent m ρ)

end Cert.KernelIdeal.Hand

end
-- ==== Proof.Entry.lean ====
/- The kernel's operands as the pipeline finds them. -/
module

public import proofs.«01_k».proof.Proof.Spec
public import proofs.«01_k».proof.Proof.KernelRun
public import Idealize.ShloMosaic.Lib.Routing.OpsSet

@[expose] public section

set_option maxRecDepth 16384

noncomputable section

namespace Cert.KernelIdeal.Hand

open Cert.KernelIdeal.Gen Idealize.ShloMosaic Cert.Proof Idealize.ShloMosaic.TcCoe
open Idealize.ShloMosaic.Tactic Idealize.ShloMosaic.Pipeline

variable (m : (ℓ : Loc nD τ sig) → Buf (Elt Ideal) ℓ) (c : Dev nD)

/-- The arguments. -/
abbrev argX : Images := m ((c : Thread nD τ).loc main_arg0)
abbrev argC : Centroids := m ((c : Thread nD τ).loc main_arg1)
abbrev argW : Matrix := m ((c : Thread nD τ).loc main_arg2)

theorem V_v0 : (V m c main_v0 : FVec Ideal S4x96x50176 .f32) = shapeCast S4x96x50176 (argX m c) shapeCasts_S4x96x224x224_S4x96x50176 := by
  sl_kernel_rfl

/-- A matrix's transpose in the first rows of a taller matrix of zeros. -/
def padded (w : Matrix) : FVec Ideal S128x96 .f32 :=
  Host.scatter scatter_S128x96_S1_S96x96_01_n_0_0 (fun _ b => b) (broadcastInDim S128x96 ![] bcast_S_S128x96 (constant (F := Ideal) S_ .f32 0x00000000#32))
    (broadcastInDim S1 ![] bcast_S_S1 (constantI S_ 32 0#32)) (transpose S96x96 [1, 0] w transposes_S96x96_S96x96_1_0)

theorem V_v4 : (V m c main_v4 : FVec Ideal S128x96 .f32) = padded (argW m c) := by
  sl_kernel_rfl

theorem padded_at (w : Matrix) (k a : Fin 96) : padded w (ix2 ⟨k.val, by omega⟩ a) = w (ix2 a k) := by
  have et : ∀ k a : Fin 96, transpose S96x96 [1, 0] w transposes_S96x96_S96x96_1_0 (ix2 k a) = w (ix2 a k) := fun k a => by pointwise
  refine Routing.scatter_set_hit _ _ _ _ _ _ (fun j hj => ?_) (ix2 k a) ?_
  · obtain ⟨k', a', rfl⟩ : ∃ (k' : Fin 96) (a' : Fin 96), j = ix2 k' a' := ⟨j 0, j 1, eq_ix2 j⟩
    rw [Routing.resultIdx?_eq_some] at hj
    have e0 : (0 : ℤ) + (k'.val : ℤ) = (k.val : ℤ) := hj 0
    have e1 : (0 : ℤ) + (a'.val : ℤ) = (a.val : ℤ) := hj 1
    have ek : k' = k := Fin.ext (by omega)
    have ea : a' = a := Fin.ext (by omega)
    rw [ek, ea, et]
  · rw [Routing.resultIdx?_eq_some]
    intro ax
    match ax with
    | ⟨0, _⟩ => show (0 : ℤ) + (k.val : ℤ) = (k.val : ℤ); omega
    | ⟨1, _⟩ => show (0 : ℤ) + (a.val : ℤ) = (a.val : ℤ); omega

end Cert.KernelIdeal.Hand

end
-- ==== Proof.Blocks.lean ====
/- The blocks the pipeline cuts from the operands, over the arguments. -/
module

public import proofs.«01_k».proof.Proof.TilePoint
public import proofs.«01_k».proof.Proof.Entry

@[expose] public section

set_option maxRecDepth 16384

noncomputable section

namespace Cert.KernelIdeal.Hand

open Cert.KernelIdeal.Gen Idealize.ShloMosaic Cert.Proof Idealize.ShloMosaic.TcCoe
open Idealize.ShloMosaic.Tactic Idealize.ShloMosaic.Pipeline

variable (m : (ℓ : Loc nD τ sig) → Buf (Elt Ideal) ℓ) (c : Dev nD)

theorem coords_vals (t : Fin cfg0.N) :
    (grid0.coords t 0).val = t.val / 56 ∧ (grid0.coords t 1).val = t.val / 28 % 2 ∧ (grid0.coords t 2).val = t.val % 28 := by
  have ht : t.val < 224 := Nat.lt_of_lt_of_eq t.isLt N_0
  have e0 : (grid0.coords t 0).val = t.val / 56 % 4 := Pipeline.Grid.coords_val t 0 (by decide) rfl
  have e1 : (grid0.coords t 1).val = t.val / 28 % 2 := Pipeline.Grid.coords_val t 1 (by decide) rfl
  have e2 : (grid0.coords t 2).val = t.val / 1 % 28 := Pipeline.Grid.coords_val t 2 (by decide) rfl
  omega

theorem idx0 (t : Fin cfg0.N) (h : t.val / 28 % 2 = 0) : win0_0.index t = ![t.val / 56, 0, t.val % 28] := by
  obtain ⟨e0, e1, e2⟩ := coords_vals t
  have ht : t.val < 224 := Nat.lt_of_lt_of_eq t.isLt N_0
  show cc0_transform_0 (grid0.coords t) = _
  unfold cc0_transform_0
  rw [e0, e1, e2, h]
  simp [Scalar.subi, Scalar.muli, IntOp.subi, IntOp.muli]
  omega

theorem idx1 (t : Fin cfg0.N) : win0_1.index t = ![0, 0] := rfl
theorem idx2 (t : Fin cfg0.N) : win0_2.index t = ![0, 0] := rfl

theorem idx3 (t : Fin cfg0.N) (h : t.val / 28 % 2 = 1) : win0_3.index t = ![t.val / 56, 0, t.val % 28] := by
  obtain ⟨e0, e1, e2⟩ := coords_vals t
  have ht : t.val < 224 := Nat.lt_of_lt_of_eq t.isLt N_0
  show cc0_transform_3 (grid0.coords t) = _
  unfold cc0_transform_3
  rw [e0, e1, e2, h]
  simp [Scalar.subi, Scalar.muli, IntOp.subi, IntOp.muli]
  omega

theorem blk0_read (t : Fin cfg0.N) (ht : t.val / 28 % 2 = 0) (b : Fin 4) (r : Fin 28) (hb : t.val / 56 = b.val) (hr : t.val % 28 = r.val)
    (k : Fin 96) (j : Fin 1792) :
    blk0 m c t (ix3 0 k j) = (V m c main_v0 : FVec Ideal S4x96x50176 .f32) (ix3 b k (tilePix r j)) := by
  unfold tilePix
  blk_ext [blk0, iblk, idx0 t ht]

theorem blk1_read (t : Fin cfg0.N) (s : Fin 196) (k : Fin 96) :
    blk1 m c t (ix2 s k) = (V m c main_arg1 : FVec Ideal S196x96 .f32) (ix2 s k) := by
  blk_ext [blk1, iblk, idx1 t]

theorem blk2_read (t : Fin cfg0.N) (s : Fin 128) (k : Fin 96) :
    blk2 m c t (ix2 s k) = (V m c main_v4 : FVec Ideal S128x96 .f32) (ix2 s k) := by
  blk_ext [blk2, iblk, idx2 t]

theorem pix_at (x : Images) (b : Fin 4) (k : Fin 96) (p : Fin 50176) :
    shapeCast S4x96x50176 x shapeCasts_S4x96x224x224_S4x96x50176 (ix3 b k p) = pix x b p k := by
  unfold pix
  pointwise

/-- A scatter point's image block holds its tile's pixels. -/
theorem blk0_at (t : Fin cfg0.N) (ht : t.val / 28 % 2 = 0) (k : Fin 96) (j : Fin 1792) :
    blk0 m c t (ix3 0 k j) = pix (argX m c) (grid0.coords t 0) (tilePix (grid0.coords t 2) j) k := by
  obtain ⟨e0, e1, e2⟩ := coords_vals t
  rw [blk0_read m c t ht (grid0.coords t 0) (grid0.coords t 2) e0.symm e2.symm, V_v0]
  exact pix_at _ _ _ _

/-- Every point's centroid block is the centroids. -/
theorem blk1_at (t : Fin cfg0.N) (s : Fin 196) (k : Fin 96) : blk1 m c t (ix2 s k) = argC m c (ix2 s k) := by
  rw [blk1_read, V_main_arg1]

/-- Every point's matrix block holds the value matrix, transposed, in its first rows. -/
theorem blk2_at (t : Fin cfg0.N) (k a : Fin 96) : blk2 m c t (ix2 ⟨k.val, by omega⟩ a) = argW m c (ix2 a k) := by
  rw [blk2_read, V_v4, padded_at]

end Cert.KernelIdeal.Hand

end
-- ==== Proof.Mean.lean ====
/- The result both programs compute: at each pixel, the mean over the samples of the average value at the pixel's label. -/
module

public import proofs.«01_k».proof.Proof.Precond

@[expose] public section

noncomputable section

namespace Cert.Proof

open Idealize.ShloMosaic Cert.ReferenceIdeal.Hand

variable {x : Images} {c : Centroids} (hf : Fine x c) (w : Matrix)

/-- The average, over the pixels of image `b` that sample `n` labels `s`, of the values' channel `k`. -/
def mean (n b : Fin 4) (s : Fin 196) (k : Fin 96) : EReal :=
  Ideal.div (∑ p, (if s = lab hf n b p then (1 : EReal) else 0) * val x w b p k) (max (∑ p, if s = lab hf n b p then (1 : EReal) else 0) 1)

/-- The result at pixel `p`, channel `k` of image `b`. -/
def average (b : Fin 4) (k : Fin 96) (p : Fin 50176) : EReal :=
  (mean hf w 0 b (lab hf 0 b p) k + mean hf w 1 b (lab hf 1 b p) k + mean hf w 2 b (lab hf 2 b p) k + mean hf w 3 b (lab hf 3 b p) k) * ((1 / 4 : ℝ) : EReal)

/-- Division by four is the product with a quarter. -/
theorem div_four (y : EReal) : Ideal.div y (Ideal.ofBits .f32 1082130432#32) = y * ((1 / 4 : ℝ) : EReal) := by
  rw [ofBits_four]
  refine (if_neg ?_).trans ?_
  · exact_mod_cast (by norm_num : (4 : ℝ) ≠ 0)
  · rw [← EReal.coe_inv, one_div]

/-- Averaging the samples' shares one by one. -/
theorem average_eq (b : Fin 4) (k : Fin 96) (p : Fin 50176) :
    mean hf w 0 b (lab hf 0 b p) k * ((1 / 4 : ℝ) : EReal) + mean hf w 1 b (lab hf 1 b p) k * ((1 / 4 : ℝ) : EReal)
      + mean hf w 2 b (lab hf 2 b p) k * ((1 / 4 : ℝ) : EReal) + mean hf w 3 b (lab hf 3 b p) k * ((1 / 4 : ℝ) : EReal) = average hf w b k p := by
  have hd : ∀ y z : EReal, (y + z) * ((1 / 4 : ℝ) : EReal) = y * ((1 / 4 : ℝ) : EReal) + z * ((1 / 4 : ℝ) : EReal) := fun y z =>
    EReal.right_distrib_of_nonneg_of_ne_top (by exact_mod_cast (by norm_num : (0 : ℝ) ≤ 1 / 4)) (EReal.coe_ne_top _) y z
  unfold average
  rw [hd, hd, hd]

end Cert.Proof

end
-- ==== Proof.ImageSums.lean ====
/- Image by image: the kernel's labels, its sums over all tiles, its averages and its result block. -/
module

public import proofs.«01_k».proof.Proof.Blocks
public import proofs.«01_k».proof.Proof.Mean

@[expose] public section

set_option maxRecDepth 16384

noncomputable section

namespace Cert.KernelIdeal.Hand

open Cert.KernelIdeal.Gen Idealize.ShloMosaic Cert.Proof Cert.ReferenceIdeal.Hand

/-- The pixels of an image, tile by tile. -/
theorem sum_tiles (F : Fin 50176 → EReal) : ∑ r, ∑ j, F (tilePix r j) = ∑ p, F p := by
  rw [← Fintype.sum_prod_type' (fun r j => F (tilePix r j))]
  exact Fintype.sum_equiv (finProdFinEquiv (m := 28) (n := 1792)) _ _ fun q =>
    congrArg F (Fin.ext (Nat.add_comm _ _))

variable (m : (ℓ : Loc nD τ sig) → Buf (Elt Ideal) ℓ) (c : Dev nD) (hf : Fine (argX m c) (argC m c))

/-- Point `r` of image `b` is a scatter point of tile `r`. -/
theorem point (b : Fin 4) (r : Fin 28) :
    (pt (56 * b.val + r.val)).val / 28 % 2 = 0 ∧ (grid0.coords (pt (56 * b.val + r.val)) 0 : Fin 4) = b ∧ (grid0.coords (pt (56 * b.val + r.val)) 2 : Fin 28) = r := by
  obtain ⟨e0, e1, e2⟩ := coords_vals (pt (56 * b.val + r.val))
  have ev : (pt (56 * b.val + r.val)).val = (56 * b.val + r.val) % 224 := rfl
  refine ⟨by omega, Fin.ext ?_, Fin.ext ?_⟩
  · omega
  · omega

theorem sumsAt_at (b : Fin 4) (r : Fin 28) (n : Fin 4) (s : Fin 196) (k : Fin 96) :
    sumsAt m c (pt (56 * b.val + r.val)) (ix3 n s ⟨k.val, by omega⟩)
      = ∑ j, (if s = lab hf n b (tilePix r j) then (1 : EReal) else 0) * val (argX m c) (argW m c) b (tilePix r j) k := by
  obtain ⟨hp, hb, hr⟩ := point b r
  have h := tileSums_at hf (grid0.coords (pt (56 * b.val + r.val))) (blk0_at m c (pt (56 * b.val + r.val)) hp) (blk1_at m c (pt (56 * b.val + r.val))) (blk2_at m c (pt (56 * b.val + r.val))) n s k
  rw [hb, hr] at h
  exact h

theorem countsAt_at (b : Fin 4) (r : Fin 28) (n : Fin 4) (s : Fin 196) :
    sumsAt m c (pt (56 * b.val + r.val)) (ix3 n s 96) = ∑ j, (if s = lab hf n b (tilePix r j) then (1 : EReal) else 0) := by
  obtain ⟨hp, hb, hr⟩ := point b r
  have h := tileCounts_at (x2 := blk2 m c (pt (56 * b.val + r.val))) hf (grid0.coords (pt (56 * b.val + r.val))) (blk0_at m c (pt (56 * b.val + r.val)) hp) (blk1_at m c (pt (56 * b.val + r.val))) n s
  rw [hb, hr] at h
  exact h

/-- The accumulator is the sum over the tiles so far. -/
theorem acc_at (b R : ℕ) (y : S4x196x128.Idx) : accOf m c b R y = ∑ r ∈ Finset.range (R + 1), sumsAt m c (pt (56 * b + r)) y := by
  induction R with
  | zero => rw [Finset.sum_range_one]; rfl
  | succ R ih =>
    rw [Finset.sum_range_succ, ← ih]
    rfl

theorem acc_all (b : ℕ) (y : S4x196x128.Idx) : accOf m c b 27 y = ∑ r : Fin 28, sumsAt m c (pt (56 * b + r.val)) y := by
  rw [acc_at, Finset.sum_range]

/-- The averages. -/
theorem means_eq (b n : Fin 4) (s : Fin 196) (k : Fin 96) :
    meansOf m c b.val (ix3 n s ⟨k.val, by omega⟩) = mean hf (argW m c) n b s k := by
  unfold meansOf mean
  rw [means_at, acc_all, acc_all, Finset.sum_congr rfl fun r _ => sumsAt_at m c hf b r n s k, Finset.sum_congr rfl fun r _ => countsAt_at m c hf b r n s,
    sum_tiles fun p => (if s = lab hf n b p then (1 : EReal) else 0) * val (argX m c) (argW m c) b p k, sum_tiles fun p => if s = lab hf n b p then (1 : EReal) else 0]

/-- The labels. -/
theorem labs_eq (b n : Fin 4) (r : Fin 28) (j : Fin 1792) :
    labsOf m c b.val (ix2 n (tilePix r j)) = BitVec.ofNat 32 (lab hf n b (tilePix r j)).val := by
  obtain ⟨hp, hb, hr⟩ := point b r
  have h := tileLabel_at hf (grid0.coords (pt (56 * b.val + r.val))) (blk0_at m c (pt (56 * b.val + r.val)) hp) (blk1_at m c (pt (56 * b.val + r.val))) n j
  rw [hb, hr] at h
  rw [← h]
  have e1 : (tilePix r j).val / 1792 = r.val := by show (1792 * r.val + j.val) / 1792 = _; omega
  have e2 : (tilePix r j).val % 1792 = j.val := by show (1792 * r.val + j.val) % 1792 = _; omega
  have ec : (colIdx ⟨(tilePix r j).val % 1792, Nat.mod_lt _ (by decide)⟩) = ix2 0 j := by
    rw [show (⟨(tilePix r j).val % 1792, Nat.mod_lt _ (by decide)⟩ : Fin 1792) = j from Fin.ext e2]
    funext a
    match a with
    | ⟨0, _⟩ => rfl
    | ⟨1, _⟩ => rfl
  show labV (hotsAt m c (pt (56 * b.val + (tilePix r j).val / 1792)) n) (colIdx ⟨(tilePix r j).val % 1792, _⟩) = _
  rw [e1, ec]
  rfl

/-- A gather point's result block: the samples' averages at the pixels' labels, averaged. -/
theorem out_at (t : Fin cfg0.N) (b : Fin 4) (r : Fin 28) (hb : t.val / 56 = b.val) (hr : t.val % 28 = r.val) (k : Fin 96) (j : Fin 1792) :
    outAt m c t (ix3 0 k j) = average hf (argW m c) b k (tilePix r j) := by
  have e2 : (grid0.coords t 2).val = r.val := by rw [coord2, hr]
  unfold outAt gatherBlk
  rw [hb]
  have hl : ∀ n : Fin 4, ∀ inb, VecWindow.window (labsOf m c b.val) ![n.val, 1792 * (grid0.coords t 2).val] S1x1792.size inb (ix2 0 j)
      = BitVec.ofNat 32 (lab hf n b (tilePix r j)).val := fun n inb => by
    rw [← labs_eq]
    refine congrArg (labsOf m c b.val) (funext fun a => Fin.ext ?_)
    match a with
    | ⟨0, _⟩ => show n.val + 1 * 0 = n.val; omega
    | ⟨1, _⟩ => show 1792 * (grid0.coords t 2).val + 1 * j.val = 1792 * r.val + j.val; omega
  have ha : ∀ n : Fin 4, ∀ inb, ∀ s : Fin 196, VecWindow.window (meansOf m c b.val) ![n.val, 0, 0] S1x196x128.size inb (ix3 0 s ⟨k.val, by omega⟩)
      = mean hf (argW m c) n b s k := fun n inb s => by
    rw [← means_eq]
    refine congrArg (meansOf m c b.val) (funext fun a => Fin.ext ?_)
    match a with
    | ⟨0, _⟩ => show n.val + 1 * 0 = n.val; omega
    | ⟨1, _⟩ => show 0 + 1 * s.val = s.val; omega
    | ⟨2, _⟩ => show 0 + 1 * k.val = k.val; omega
  refine (gathered_at _ _ _ _ _ _ _ _ k j _ _ _ _ (hl 0 _) (hl 1 _) (hl 2 _) (hl 3 _)).trans ?_
  unfold average
  exact congrArg (· * ((1 / 4 : ℝ) : EReal)) (congrArg₂ (· + ·) (congrArg₂ (· + ·) (congrArg₂ (· + ·) (ha 0 _ _) (ha 1 _ _)) (ha 2 _ _)) (ha 3 _ _))

end Cert.KernelIdeal.Hand

end
-- ==== Proof.KernelArray.lean ====
/- The kernel's result array: the gather points' blocks tile it, and each holds the averages of its pixels. -/
module

public import proofs.«01_k».proof.Proof.ImageSums
public import Idealize.ShloMosaic.Lib.Pipeline.Covers

@[expose] public section

set_option maxRecDepth 16384

noncomputable section

namespace Cert.KernelIdeal.Hand

open Cert.KernelIdeal.Gen Idealize.ShloMosaic Cert.Proof Cert.ReferenceIdeal.Hand
open Idealize.ShloMosaic.Tactic Idealize.ShloMosaic.Pipeline

/-- The result's blocks tile the array. -/
theorem covers3 : (cfg0.win 3).Covers :=
  Window.covers_of_index_surj win0_3 rfl (by decide) fun β => by
    have h0 : (β 0).val < 4 := (β 0).isLt
    have h1 : (β 1).val < 1 := (β 1).isLt
    have h2 : (β 2).val < 28 := (β 2).isLt
    have ev : (pt (56 * (β 0).val + 28 + (β 2).val)).val = (56 * (β 0).val + 28 + (β 2).val) % 224 := rfl
    refine ⟨pt (56 * (β 0).val + 28 + (β 2).val), fun a => ?_⟩
    rw [idx3 _ (by omega)]
    match a with
    | ⟨0, _⟩ => show (pt (56 * (β 0).val + 28 + (β 2).val)).val / 56 = (β 0).val; omega
    | ⟨1, _⟩ => show 0 = (β 1).val; omega
    | ⟨2, _⟩ => show (pt (56 * (β 0).val + 28 + (β 2).val)).val % 28 = (β 2).val; omega

variable (m : (ℓ : Loc nD τ sig) → Buf (Elt Ideal) ℓ) (c : Dev nD) (hf : Fine (argX m c) (argC m c))

/-- The result as an array. -/
def averages : FVec Ideal S4x96x50176 .f32 := fun y => average hf (argW m c) (y 0) (y 1) (y 2)

/-- The kernel's result array. -/
theorem array_eq : (dats m 0 c).arrAt 3 cfg0.N = averages m c hf := by
  refine (dats m 0 c).arrAt_eq_of_covers 3 _ covers3 fun t hfl y => ?_
  have hp : t.val / 28 % 2 = 1 := by
    by_contra h
    rw [noflush3 t h] at hfl
    exact absurd hfl (by decide)
  have ht : t.val < 224 := Nat.lt_of_lt_of_eq t.isLt N_0
  have h0 : (y 0).val < 1 := (y 0).isLt
  have h1 : (y 1).val < 96 := (y 1).isLt
  have h2 : (y 2).val < 1792 := (y 2).isLt
  rw [after0_3]
  have ey : (cfg0.win 3).xinj (cfg0.grid.coords t) y = ix3 0 ⟨(y 1).val, h1⟩ ⟨(y 2).val, h2⟩ := by
    funext a
    refine Fin.ext ?_
    match a with
    | ⟨0, _⟩ => show (y 0).val = 0; omega
    | ⟨1, _⟩ => rfl
    | ⟨2, _⟩ => rfl
  have ee : ((cfg0.win 3).blk t).view.emb y
      = ix3 ⟨t.val / 56, by omega⟩ ⟨(y 1).val, h1⟩ (tilePix ⟨t.val % 28, by omega⟩ ⟨(y 2).val, h2⟩) := by
    unfold tilePix
    blk_ext [idx3 t hp]
  rw [ey, ee]
  exact out_at m c hf t ⟨t.val / 56, by omega⟩ ⟨t.val % 28, by omega⟩ rfl rfl _ _

end Cert.KernelIdeal.Hand

end
-- ==== Proof.Segments.lean ====
/- The reference's numbering of the labels across the images, and its sums, counts and readings by number. -/
module

public import proofs.«01_k».proof.Proof.Mean
public import Idealize.ShloMosaic.Lib.Routing.Ops
public import Idealize.ShloMosaic.Lib.Routing.OpsPair

@[expose] public section

set_option maxRecDepth 16384
noncomputable section

namespace Cert.ReferenceIdeal.Hand

open Cert.ReferenceIdeal.Gen Cert.ReferenceIdeal.Value Idealize.ShloMosaic Cert.Proof

variable {x : Images} {c : Centroids} (hf : Fine x c)

/-- The number of sample `i`'s label at flat pixel `P`, numbered across the images. -/
def seg (i : Fin 4) (P : Fin 200704) : Fin 784 := ⟨(lab hf i (img P) (loc P)).val + (img P).val * 196, by omega⟩

theorem flatH_at (r : IVec S1x200704 32) (P : Fin 200704) : flatH r (ix1 P) = IntOp.addi (r (ix2 0 P)) (IntOp.muli (BitVec.ofNat 32 (P.val / 50176)) 196#32) := by
  pointwise [flatH]

/-- A sample's labels, numbered across the images. -/
theorem flats_of (l : IVec S4x200704 32) (i : Fin 4) (P : Fin 200704) :
    flatsH l i (ix1 P) = IntOp.addi (l (ix2 i P)) (IntOp.muli (BitVec.ofNat 32 (P.val / 50176)) 196#32) := by
  match i with
  | 0 => exact (flatH_at _ P).trans (congrArg (IntOp.addi · _) (by pointwise))
  | 1 => exact (flatH_at _ P).trans (congrArg (IntOp.addi · _) (by pointwise))
  | 2 => exact (flatH_at _ P).trans (congrArg (IntOp.addi · _) (by pointwise))
  | 3 => exact (flatH_at _ P).trans (congrArg (IntOp.addi · _) (by pointwise))

theorem flats_at (i : Fin 4) (P : Fin 200704) : flatsH (labelsH x c) i (ix1 P) = BitVec.ofNat 32 (seg hf i P).val := by
  rw [flats_of, labels_at hf]
  unfold seg IntOp.addi IntOp.muli
  apply BitVec.eq_of_toNat_eq
  simp only [BitVec.toNat_add, BitVec.toNat_mul, BitVec.toNat_ofNat]
  show _ = ((lab hf i (img P) (loc P)).val + P.val / 50176 * 196) % 2 ^ 32
  omega

theorem toInt_of_lt (q : Fin 784) : (BitVec.ofNat 32 q.val).toInt = (q.val : ℤ) := by
  rw [BitVec.toInt_eq_toNat_of_lt] <;> rw [BitVec.toNat_ofNat] <;> omega

theorem column_at (f : IVec S200704 32) (P : Fin 200704) : broadcastInDim S200704x1 ![0] bcast_S200704_S200704x1_0 f (ix2 P 0) = f (ix1 P) := by
  pointwise

/-- Where a row of values is added. -/
theorem lands (idx : IVec S200704x1 32) (P : Fin 200704) (a : Fin 96) (n : Fin 784) (k : Fin 96) (q : Fin 784) (hq : idx (ix2 P 0) = BitVec.ofNat 32 q.val) :
    scatter_S784x96_S200704x1_S200704x96_1_0_0_1.resultIdx? (ix2 P a) idx = some (ix2 n k) ↔ q = n ∧ a = k := by
  rw [Routing.resultIdx?_eq_some]
  have hs : scatter_S784x96_S200704x1_S200704x96_1_0_0_1.start (ix2 P a) idx 0 = (q.val : ℤ) := by
    rw [← toInt_of_lt, ← hq]
    refine congrArg (fun i => (idx i).toInt) (funext fun b => Fin.ext ?_)
    match b with
    | ⟨0, _⟩ => rfl
    | ⟨1, _⟩ => rfl
  constructor
  · intro h
    have e0 : _ + (0 : ℤ) = (n.val : ℤ) := h 0
    have e1 : (0 : ℤ) + (a.val : ℤ) = (k.val : ℤ) := h 1
    rw [hs] at e0
    exact ⟨Fin.ext (by omega), Fin.ext (by omega)⟩
  · rintro ⟨rfl, rfl⟩ b
    match b with
    | ⟨0, _⟩ => exact (congrArg (· + (0 : ℤ)) hs).trans (add_zero _)
    | ⟨1, _⟩ => exact zero_add _

/-- Where a pixel is counted. -/
theorem lands1 (idx : IVec S200704x1 32) (P : Fin 200704) (a : Fin 1) (n : Fin 784) (q : Fin 784) (hq : idx (ix2 P 0) = BitVec.ofNat 32 q.val) :
    scatter_S784x1_S200704x1_S200704x1_1_0_0_1.resultIdx? (ix2 P a) idx = some (ix2 n 0) ↔ q = n := by
  rw [Routing.resultIdx?_eq_some]
  have hs : scatter_S784x1_S200704x1_S200704x1_1_0_0_1.start (ix2 P a) idx 0 = (q.val : ℤ) := by
    rw [← toInt_of_lt, ← hq]
    refine congrArg (fun i => (idx i).toInt) (funext fun b => Fin.ext ?_)
    match b with
    | ⟨0, _⟩ => rfl
    | ⟨1, _⟩ => rfl
  constructor
  · intro h
    have e0 : _ + (0 : ℤ) = (n.val : ℤ) := h 0
    rw [hs] at e0
    exact Fin.ext (by omega)
  · rintro rfl b
    match b with
    | ⟨0, _⟩ => exact (congrArg (· + (0 : ℤ)) hs).trans (add_zero _)
    | ⟨1, _⟩ => show (0 : ℤ) + (a.val : ℤ) = 0; omega

section segments

variable {f : IVec S200704 32} {q : Fin 200704 → Fin 784} (hq : ∀ P, f (ix1 P) = BitVec.ofNat 32 (q P).val)
include hq

/-- The sums by number. -/
theorem segSums_at (v : FVec Ideal S200704x96 .f32) (n : Fin 784) (k : Fin 96) :
    sumsH f v (ix2 n k) = ∑ P, if q P = n then v (ix2 P k) else 0 := by
  have hl := fun P a => lands (broadcastInDim S200704x1 ![0] bcast_S200704_S200704x1_0 f) P a n k (q P) ((column_at f P).trans (hq P))
  have e : sumsH f v (ix2 n k) = Ideal.ofBits .f32 0#32 + ∑ j ∈ Finset.univ.filter (fun j => scatter_S784x96_S200704x1_S200704x96_1_0_0_1.resultIdx? j (broadcastInDim S200704x1 ![0] bcast_S200704_S200704x1_0 f) = some (ix2 n k)), v j := rfl
  rw [e, Finset.sum_filter, sum_idx2, Ideal.ofBits_zero_f32, zero_add]
  refine Finset.sum_congr rfl fun P _ => ?_
  rw [Finset.sum_congr rfl fun a _ => if_congr (hl P a) rfl rfl]
  by_cases h : q P = n
  · simp only [h, true_and, if_true]
    rw [Finset.sum_ite_eq', if_pos (Finset.mem_univ _)]
  · simp only [h, false_and, if_false, Finset.sum_const_zero]

/-- The counts by number. -/
theorem segCounts_at (n : Fin 784) : countsH (F := Ideal) f (ix2 n 0) = ∑ P, if q P = n then (1 : EReal) else 0 := by
  have hl := fun P a => lands1 (broadcastInDim S200704x1 ![0] bcast_S200704_S200704x1_0 f) P a n (q P) ((column_at f P).trans (hq P))
  have e : countsH (F := Ideal) f (ix2 n 0) = Ideal.ofBits .f32 0#32 + ∑ j ∈ Finset.univ.filter (fun j => scatter_S784x1_S200704x1_S200704x1_1_0_0_1.resultIdx? j (broadcastInDim S200704x1 ![0] bcast_S200704_S200704x1_0 f) = some (ix2 n 0)), Ideal.ofBits .f32 0x3F800000#32 := rfl
  rw [e, Finset.sum_filter, sum_idx2, Ideal.ofBits_zero_f32, zero_add, Ideal.ofBits_one_f32]
  refine Finset.sum_congr rfl fun P _ => ?_
  rw [Finset.sum_congr rfl fun a _ => if_congr (hl P a) rfl rfl]
  exact Fin.sum_univ_one _

theorem place_at (P : Fin 200704) : placeH f (ix2 P 0) = BitVec.ofNat 32 (q P).val := by
  have e : placeH f (ix2 P 0) = Scalar.select (IntOp.cmpi .slt (f (ix1 P)) 0#32) (IntOp.addi (f (ix1 P)) 784#32) (f (ix1 P)) := by
    pointwise [placeH]
  rw [e, Routing.wrap_of_lt _ _ (by rw [hq, BitVec.toNat_ofNat]; omega), hq]

/-- Reading a table at the numbers. -/
theorem take_at (t : FVec Ideal S784x96 .f32) (P : Fin 200704) (k : Fin 96) : takeH (placeH f) t (ix2 P k) = t (ix2 (q P) k) := by
  have e : ∀ r : IVec S200704x1 32, takeH r t (ix2 P k) = Scalar.select (Finset.fold IntOp.andi 1#1 (fun a => IntOp.andi (IntOp.cmpi .sge (r (ix2 P a)) 0#32) (IntOp.cmpi .sle (r (ix2 P a)) 783#32)) Finset.univ)
      (Host.gather gather_S784x96_S200704x1_S200704x96_1_0_n_n_0_1_196 t r (ix2 P k)) (Ideal.ofBits .f32 2143289344#32) := fun r => by
    pointwise [takeH]
  have hp := place_at hq P
  rw [e]
  have hg : Host.gather gather_S784x96_S200704x1_S200704x96_1_0_n_n_0_1_196 t (placeH f) (ix2 P k) = t (ix2 (q P) k) :=
    Routing.gather_row gather_S784x96_S200704x1_S200704x96_1_0_n_n_0_1_196 rfl rfl rfl rfl rfl t (placeH f) P k (q P) hp (by norm_num)
  have hc : Finset.fold IntOp.andi 1#1 (fun a => IntOp.andi (IntOp.cmpi .sge (placeH f (ix2 P a)) 0#32) (IntOp.cmpi .sle (placeH f (ix2 P a)) 783#32)) (Finset.univ : Finset (Fin 1)) = 1#1 := by
    show IntOp.andi (IntOp.andi (IntOp.cmpi .sge (placeH f (ix2 P 0)) 0#32) (IntOp.cmpi .sle (placeH f (ix2 P 0)) 783#32)) 1#1 = 1#1
    rw [hp]
    have hd : ∀ a : Fin 784, IntOp.andi (IntOp.andi (IntOp.cmpi .sge (BitVec.ofNat 32 a.val) 0#32) (IntOp.cmpi .sle (BitVec.ofNat 32 a.val) 783#32)) 1#1 = 1#1 := by decide +kernel
    exact hd _
  rw [hc, hg]
  rfl

end segments

end Cert.ReferenceIdeal.Hand

end
-- ==== Proof.RefImage.lean ====
/- The reference's result at an image, a channel and a pixel. -/
module

public import proofs.«01_k».proof.Proof.Segments

@[expose] public section

set_option maxRecDepth 16384

noncomputable section

namespace Cert.ReferenceIdeal.Hand

open Cert.ReferenceIdeal.Gen Cert.ReferenceIdeal.Value Idealize.ShloMosaic Cert.Proof

variable {x : Images} {c : Centroids} (hf : Fine x c) (w : Matrix)

/-- Label `s` of image `b`, numbered across the images. -/
def across (b : Fin 4) (s : Fin 196) : Fin 784 := ⟨s.val + b.val * 196, by omega⟩

/-- A sum over the flat pixels is a sum over the images and their pixels. -/
theorem sum_flat (F : Fin 200704 → EReal) : ∑ b, ∑ p, F (flatPix b p) = ∑ P, F P := by
  rw [← Fintype.sum_prod_type' (fun b p => F (flatPix b p))]
  exact Fintype.sum_equiv (finProdFinEquiv (m := 4) (n := 50176)) _ _ fun q =>
    congrArg F (Fin.ext (show q.1.val * 50176 + q.2.val = q.2.val + 50176 * q.1.val by omega))

theorem across_inj {b b' : Fin 4} {s s' : Fin 196} (h : across b s = across b' s') : b = b' ∧ s = s' := by
  have e : s.val + b.val * 196 = s'.val + b'.val * 196 := congrArg Fin.val h
  exact ⟨Fin.ext (by omega), Fin.ext (by omega)⟩

theorem seg_flat (i b : Fin 4) (p : Fin 50176) : seg hf i (flatPix b p) = across b (lab hf i b p) := by
  refine Fin.ext ?_
  show (lab hf i (img (flatPix b p)) (loc (flatPix b p))).val + (img (flatPix b p)).val * 196 = (lab hf i b p).val + b.val * 196
  rw [img_flatPix, loc_flatPix]

/-- A sum over the flat pixels with one image's label is a sum over that image's pixels with the label. -/
theorem sum_seg (i b : Fin 4) (s : Fin 196) (F : Fin 4 → Fin 50176 → EReal) :
    ∑ P, (if seg hf i P = across b s then F (img P) (loc P) else 0) = ∑ p, if s = lab hf i b p then F b p else 0 := by
  rw [← sum_flat, Finset.sum_eq_single b]
  · refine Finset.sum_congr rfl fun p _ => ?_
    rw [seg_flat, img_flatPix, loc_flatPix]
    exact if_congr ⟨fun h => (across_inj h).2.symm, fun h => by rw [h]⟩ rfl rfl
  · intro b' _ hb
    refine Finset.sum_eq_zero fun p _ => if_neg fun h => hb ?_
    rw [seg_flat] at h
    exact (across_inj h).1
  · intro h; exact absurd (Finset.mem_univ _) h

theorem meansH_at (r : IVec S200704 32) (v : FVec Ideal S200704x96 .f32) (n : Fin 784) (k : Fin 96) :
    meansH r v (ix2 n k) = Ideal.div (sumsH r v (ix2 n k)) (max (countsH (F := Ideal) r (ix2 n 0)) 1) := by
  pointwise [meansH]

/-- The averages. -/
theorem means_at (i b : Fin 4) (s : Fin 196) (k : Fin 96) :
    meansH (flatsH (labelsH x c) i) (valuesH x w) (ix2 (across b s) k) = mean hf w i b s k := by
  have e : ∑ p, (if s = lab hf i b p then (1 : EReal) else 0) * val x w b p k = ∑ p, if s = lab hf i b p then val x w b p k else 0 :=
    Finset.sum_congr rfl fun p _ => by rw [ite_mul, one_mul, zero_mul]
  unfold mean
  rw [e, meansH_at, segSums_at (flats_at hf i), segCounts_at (flats_at hf i), Finset.sum_congr rfl fun P _ => if_congr Iff.rfl (values_at x w P k) rfl,
    sum_seg hf i b s fun b p => val x w b p k, sum_seg hf i b s fun _ _ => 1]

theorem termH_at (r : IVec S200704 32) (v : FVec Ideal S200704x96 .f32) (b : Fin 4) (k : Fin 96) (p : Fin 50176) :
    termH r v (ix3 b k p) = Ideal.div (takeH (placeH r) (meansH r v) (ix2 (flatPix b p) k)) (Ideal.ofBits .f32 1082130432#32) := by
  have e : ∀ t : FVec Ideal S200704x96 .f32, Host.divf (transpose S4x96x50176 [0, 2, 1] (shapeCast S4x50176x96 t shapeCasts_S200704x96_S4x50176x96) transposes_S4x50176x96_S4x96x50176_0_2_1) (broadcastInDim S4x96x50176 ![] bcast_S_S4x96x50176 (constant (F := Ideal) S_ .f32 0x40800000#32)) (ix3 b k p)
      = Ideal.div (t (ix2 (flatPix b p) k)) (Ideal.ofBits .f32 1082130432#32) := fun t => by
    unfold flatPix
    pointwise
  exact e _

/-- One sample's share. -/
theorem term_at (i b : Fin 4) (k : Fin 96) (p : Fin 50176) :
    termH (flatsH (labelsH x c) i) (valuesH x w) (ix3 b k p) = mean hf w i b (lab hf i b p) k * ((1 / 4 : ℝ) : EReal) := by
  rw [termH_at, take_at (flats_at hf i), seg_flat, means_at hf, div_four]

/-- The reference's result. -/
theorem result_at (b : Fin 4) (k : Fin 96) (p : Fin 50176) : resultH x c w (ix3 b k p) = average hf w b k p := by
  rw [← average_eq, ← term_at, ← term_at, ← term_at, ← term_at]
  rfl

end Cert.ReferenceIdeal.Hand

end
-- ==== Proof.SameText.lean ====
/- The kernel and its idealization are printed as the same program, so what holds of the one's runs at any arithmetic holds of the
   other's. -/
module

public import proofs.«01_k».proof.Defs
public import proofs.«01_k».proof.Proof.KernelRun
public import proofs.«01_k».proof.Proof.Gen.Kernel

@[expose] public section

set_option maxRecDepth 16384

noncomputable section

namespace Cert.Proof

open Idealize.ShloMosaic Idealize.SL.Sem

/-- The kernel's frame, at machine arithmetic, as the idealization's text states it. -/
def frameBits : Prop :=
  ∀ (m : (ℓ : Loc Cert.KernelIdeal.nD Cert.KernelIdeal.τ Cert.KernelIdeal.sig) → Buf (Elt Bits) ℓ) (g : Dev Cert.KernelIdeal.nD → PrngReg),
    True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

/-- The two texts state the same. -/
theorem frame_same : Cert.quiescent_Kernel (hKernel := Cert.Kernel.Gen.facts) = frameBits := by
  sl_kernel_rfl

/-- The kernel's frame. -/
theorem kernel_frame : Cert.quiescent_Kernel (hKernel := Cert.Kernel.Gen.facts) := by
  rw [frame_same]
  exact fun m g _ => Cert.KernelIdeal.Hand.frame (F := Bits) m g

end Cert.Proof

end
-- ==== Proof.lean ====
/- The proof of the claim: the frames of the three programs, that the idealization preserves the kernel, and that the kernel's result is
   the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.KernelArray
public import proofs.«01_k».proof.Proof.RefImage
public import proofs.«01_k».proof.Proof.PreTerms
public import proofs.«01_k».proof.Proof.SameText
public import proofs.«01_k».proof.Proof.Gen.ReferenceIdeal
public import proofs.«01_k».proof.Proof.Gen.ReferenceIdeal.Run
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The reference's frame: its argument arrays end unchanged and its semaphores at zero. -/
theorem reference_frame : Cert.quiescent_ReferenceIdeal := fun m g _ =>
  (θ_run _ _ _).mono (fun _ h => ⟨fun c => (h c).2, sem_eq_zero_of_no_sems (by rfl) _⟩) (Cert.ReferenceIdeal.Value.run m g)

section value

open Cert.KernelIdeal.Hand Cert.ReferenceIdeal.Hand

variable (m : (ℓ : Loc Cert.KernelIdeal.nD Cert.KernelIdeal.τ Cert.KernelIdeal.sig) → Buf (Elt Ideal) ℓ)

/-- What the precondition says of the arguments. -/
theorem fine (hp : Cert.Pre_KernelIdeal_no_tied_draw m) (c : Dev Cert.KernelIdeal.nD) : Fine (argX m c) (argC m c) :=
  fine_of_pre _ _ ((pre_eq (argX m c) (argC m c) (argW m c)).symm.trans (hp c))

/-- The reference's result, on the kernel's arguments, is the array of the averages. -/
theorem reference_eq (c : Dev Cert.KernelIdeal.nD) (hf : Fine (argX m c) (argC m c)) :
    resultH (F := Ideal) (argX m c) (argC m c) (argW m c) = averages m c hf := by
  funext y
  obtain ⟨b, k, p, rfl⟩ : ∃ (b : Fin 4) (k : Fin 96) (p : Fin 50176), y = ix3 b k p := ⟨y 0, y 1, y 2, eq_ix3 y⟩
  exact result_at hf _ b k p

/-- The kernel's result is the reference's. -/
theorem value : Cert.algebraic_KernelIdeal_ReferenceIdeal_pre_no_tied_draw := fun m g m' g' hp he =>
  ⟨fun c => averages m c (fine m hp c),
    (θ_run _ _ _).mono (fun _ h c => ⟨(h.1 c).trans (array_eq m c (fine m hp c)), h.2.1 c⟩)
      (θ_run_and (Cert.KernelIdeal.Hand.run_result m g) (Cert.KernelIdeal.Hand.frame m g)),
    (θ_run _ _ _).mono (fun _ h c => ⟨(h c).1.trans (by
        obtain ⟨e0, e1, e2⟩ := he c
        rw [e0, e1, e2]
        exact reference_eq m c (fine m hp c)), (h c).2⟩)
      (Cert.ReferenceIdeal.Hand.run_result m' g')⟩

end value

/-- Everything claimed. -/
theorem claim : Cert.Claim := ⟨Cert.Kernel.Gen.facts, Cert.KernelIdeal.Gen.facts, Cert.ReferenceIdeal.Gen.facts, pre_facts,
  kernel_frame, fun m g _ => Cert.KernelIdeal.Hand.frame m g, fun m g _ => Cert.KernelIdeal.Hand.frame m g,
  reference_frame, fun m g _ => reference_frame m g trivial, trivial, value⟩

end Cert.Proof

end
